-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![4, 1024, 8, 128]⟩ ⟨4, ![4, 1024, 64, 128]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![4, 1024, 8, 128]⟩ ⟨4, ![4, 1024, 64, 128]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S4x256x1024 : Shape := ⟨3, ![4, 256, 1024]⟩
abbrev S1024x1024 : Shape := ⟨2, ![1024, 1024]⟩
abbrev S4x1024x8x128 : Shape := ⟨4, ![4, 1024, 8, 128]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x1024x8x128 : S_.BroadcastsInDim S4x1024x8x128 (![] : Fin 0 → Fin S4x1024x8x128.rank)
  reducesTo_S4x1024x8x128_S_d0_1_2_3 : S4x1024x8x128.ReducesTo [0, 1, 2, 3] S_

variable [Facts]

def fn {F : FTy → Type} [FloatOps F] (main_arg0 : FVec F S4x256x1024 .f32) (main_arg1 : FVec F S1024x1024 .f32) (main_arg2 : FVec F S4x1024x8x128 .f32) (main_arg3 : FVec F S4x1024x8x128 .f32) (main_arg4 : FVec F S1024x1024 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x1024x8x128 .f32 := Host.absf main_arg2
  let main_cst_2 : FVec F S_ .f32 := constant S_ .f32 0x7F800000#32
  let main_v10 : FVec F S4x1024x8x128 .f32 := broadcastInDim S4x1024x8x128 ![] bcast_S_S4x1024x8x128 main_cst_2
  let main_v11 : IVec S4x1024x8x128 1 := cmpf .olt main_v9 main_v10
  let main_c_3 : IVec S_ 1 := constantI S_ 1 1#1
  let main_v12 : IVec S_ 1 := (fun x v => Host.reduce IntOp.andi x v reducesTo_S4x1024x8x128_S_d0_1_2_3 h_S_) main_v11 main_c_3
  let main_v13 : IVec S_ 1 := andi main_v8 main_v12
  main_v13
-- ==== Pre_finite_inputs_ReferenceIdeal.lean ====
abbrev S4x256x1024 : Shape := ⟨3, ![4, 256, 1024]⟩
abbrev S1024x8192 : Shape := ⟨2, ![1024, 8192]⟩
abbrev S4x1024x64x128 : Shape := ⟨4, ![4, 1024, 64, 128]⟩
abbrev S8192x1024 : Shape := ⟨2, ![8192, 1024]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S4x1024x64x128 : S_.BroadcastsInDim S4x1024x64x128 (![] : Fin 0 → Fin S4x1024x64x128.rank)
  reducesTo_S4x1024x64x128_S_d0_1_2_3 : S4x1024x64x128.ReducesTo [0, 1, 2, 3] S_

variable [Facts]

def fn {F : FTy → Type} [FloatOps F] (main_arg0 : FVec F S4x256x1024 .f32) (main_arg1 : FVec F S1024x8192 .f32) (main_arg2 : FVec F S4x1024x64x128 .f32) (main_arg3 : FVec F S4x1024x64x128 .f32) (main_arg4 : FVec F S8192x1024 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S4x1024x64x128 .f32 := Host.absf main_arg2
  let main_cst_2 : FVec F S_ .f32 := constant S_ .f32 0x7F800000#32
  let main_v10 : FVec F S4x1024x64x128 .f32 := broadcastInDim S4x1024x64x128 ![] bcast_S_S4x1024x64x128 main_cst_2
  let main_v11 : IVec S4x1024x64x128 1 := cmpf .olt main_v9 main_v10
  let main_c_3 : IVec S_ 1 := constantI S_ 1 1#1
  let main_v12 : IVec S_ 1 := (fun x v => Host.reduce IntOp.andi x v reducesTo_S4x1024x64x128_S_d0_1_2_3 h_S_) main_v11 main_c_3
  let main_v13 : IVec S_ 1 := andi main_v8 main_v12
  main_v13
-- ==== Kernel.lean ====
abbrev S4x256x1024 : Shape := ⟨3, ![4, 256, 1024]⟩
abbrev S1024x1024 : Shape := ⟨2, ![1024, 1024]⟩
abbrev S4x1024x8x128 : Shape := ⟨4, ![4, 1024, 8, 128]⟩
abbrev S_ : Shape := ⟨0, ![]⟩
abbrev S4x1024x1024 : Shape := ⟨3, ![4, 1024, 1024]⟩
abbrev S1x256x1024 : Shape := ⟨3, ![1, 256, 1024]⟩
abbrev S1x1024x1024 : Shape := ⟨3, ![1, 1024, 1024]⟩
abbrev S256x1024 : Shape := ⟨2, ![256, 1024]⟩
abbrev S256x128 : Shape := ⟨2, ![256, 128]⟩
abbrev S1024x128 : Shape := ⟨2, ![1024, 128]⟩
abbrev S256 : Shape := ⟨1, ![256]⟩
abbrev S256x1 : Shape := ⟨2, ![256, 1]⟩
abbrev S1x256x128 : Shape := ⟨3, ![1, 256, 128]⟩
abbrev S896x1024 : Shape := ⟨2, ![896, 1024]⟩
abbrev S3x6 : Shape := ⟨2, ![3, 6]⟩
abbrev S1x1 : Shape := ⟨2, ![1, 1]⟩
abbrev S192x1024 : Shape := ⟨2, ![192, 1024]⟩
abbrev S128x1024 : Shape := ⟨2, ![128, 1024]⟩
abbrev S96x1024 : Shape := ⟨2, ![96, 1024]⟩
abbrev S64x1024 : Shape := ⟨2, ![64, 1024]⟩
abbrev S48x1024 : Shape := ⟨2, ![48, 1024]⟩
abbrev S32x1024 : Shape := ⟨2, ![32, 1024]⟩

abbrev nBuf : Space → Nat
  | .hbm => 18
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S4x1024x8x128, .f32⟩
  | .hbm, ⟨3, _⟩ => ⟨S4x1024x8x128, .f32⟩
  | .hbm, ⟨4, _⟩ => ⟨S1024x1024, .f32⟩
  | .hbm, ⟨5, _⟩ => ⟨S4x256x1024, .bf16⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S4x1024x1024, .f32⟩
  | .hbm, ⟨11, _⟩ => ⟨S4x1024x1024, .bf16⟩
  | .hbm, ⟨12, _⟩ => ⟨S4x1024x1024, .f32⟩
  | .hbm, ⟨13, _⟩ => ⟨S4x1024x1024, .bf16⟩
  | .hbm, ⟨14, _⟩ => ⟨S4x256x1024, .bf16⟩
  | .hbm, ⟨15, _⟩ => ⟨S1024x1024, .bf16⟩
  | .hbm, ⟨16, _⟩ => ⟨S1024x1024, .f32⟩
  | .hbm, ⟨17, _⟩ => ⟨S4x256x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S896x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 1 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_scratch0 : Ref sig .tc := ⟨.vmem, 12, rfl⟩
abbrev cc1_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev barrier0 : Sem sig := 0

abbrev nD : Nat := 8
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

def k1_dev1 (d10 : Dev nD) : Nat :=
  let c0_i32 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c1_i32_7 : BitVec 32 := 1#32
  let v17 : BitVec 32 := Scalar.xori v15 c1_i32_7
  let c1_i32_8 : BitVec 32 := 1#32
  let v18 : BitVec 32 := Scalar.shrsi v17 c1_i32_8
  let c1_i32_9 : BitVec 32 := 1#32
  let v19 : BitVec 32 := Scalar.andi v18 c1_i32_9
  let v20 : BitVec 32 := Scalar.xori v17 v19
  let c1_i32_11 : BitVec 32 := 1#32
  let v21 : BitVec 32 := Scalar.muli v20 c1_i32_11
  let v22 : BitVec 32 := Scalar.addi c0_i32 v21
  v22.toNat
def k1_dev2 (d10 : Dev nD) : Nat :=
  let c0_i32_16 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c2_i32 : BitVec 32 := 2#32
  let v23 : BitVec 32 := Scalar.xori v15 c2_i32
  let c1_i32_12 : BitVec 32 := 1#32
  let v24 : BitVec 32 := Scalar.shrsi v23 c1_i32_12
  let c1_i32_13 : BitVec 32 := 1#32
  let v25 : BitVec 32 := Scalar.andi v24 c1_i32_13
  let v26 : BitVec 32 := Scalar.xori v23 v25
  let c1_i32_15 : BitVec 32 := 1#32
  let v27 : BitVec 32 := Scalar.muli v26 c1_i32_15
  let v28 : BitVec 32 := Scalar.addi c0_i32_16 v27
  v28.toNat
def k1_dev3 (d10 : Dev nD) : Nat :=
  let c0_i32_21 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c4_i32 : BitVec 32 := 4#32
  let v29 : BitVec 32 := Scalar.xori v15 c4_i32
  let c1_i32_17 : BitVec 32 := 1#32
  let v30 : BitVec 32 := Scalar.shrsi v29 c1_i32_17
  let c1_i32_18 : BitVec 32 := 1#32
  let v31 : BitVec 32 := Scalar.andi v30 c1_i32_18
  let v32 : BitVec 32 := Scalar.xori v29 v31
  let c1_i32_20 : BitVec 32 := 1#32
  let v33 : BitVec 32 := Scalar.muli v32 c1_i32_20
  let v34 : BitVec 32 := Scalar.addi c0_i32_21 v33
  v34.toNat
def k1_off1 (d10 : Dev nD) (c0_i32_28 : BitVec 32) (c4_i32_25 : BitVec 32) : Fin 2 → Nat :=
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let v39 : BitVec 32 := Scalar.andi v15 c4_i32_25
  let c0_i32_26 : BitVec 32 := 0#32
  let v40 : BitVec 1 := Scalar.cmpi .ne v39 c0_i32_26
  let c0_i32_27 : BitVec 32 := 0#32
  let c192_i32 : BitVec 32 := 192#32
  let v41 : BitVec 32 := Scalar.select v40 c0_i32_27 c192_i32
  let v42 : BitVec 32 := Scalar.addi c0_i32_28 v41
  let c0_i32_40 : BitVec 32 := 0#32
  ![v42.toNat, 0]
def k1_off1_at (r : Fin 2) : BitVec 32 × BitVec 32 :=
  if r.val < 1 then
    (0#32, 4#32)
  else
    (384#32, 2#32)
def k1_dev4 (d10 : Dev nD) : Nat :=
  let c0_i32_37 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c4_i32_22 : BitVec 32 := 4#32
  let v35 : BitVec 32 := Scalar.xori v15 c4_i32_22
  let c1_i32_23 : BitVec 32 := 1#32
  let v36 : BitVec 32 := Scalar.shrsi v35 c1_i32_23
  let c1_i32_24 : BitVec 32 := 1#32
  let v37 : BitVec 32 := Scalar.andi v36 c1_i32_24
  let v38 : BitVec 32 := Scalar.xori v35 v37
  let c1_i32_36 : BitVec 32 := 1#32
  let v45 : BitVec 32 := Scalar.muli v38 c1_i32_36
  let v46 : BitVec 32 := Scalar.addi c0_i32_37 v45
  v46.toNat
def k1_dev5 (d10 : Dev nD) : Nat :=
  let c0_i32_56 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c2_i32_41 : BitVec 32 := 2#32
  let v53 : BitVec 32 := Scalar.xori v15 c2_i32_41
  let c1_i32_42 : BitVec 32 := 1#32
  let v54 : BitVec 32 := Scalar.shrsi v53 c1_i32_42
  let c1_i32_43 : BitVec 32 := 1#32
  let v55 : BitVec 32 := Scalar.andi v54 c1_i32_43
  let v56 : BitVec 32 := Scalar.xori v53 v55
  let c1_i32_55 : BitVec 32 := 1#32
  let v63 : BitVec 32 := Scalar.muli v56 c1_i32_55
  let v64 : BitVec 32 := Scalar.addi c0_i32_56 v63
  v64.toNat
def k1_off2 (d10 : Dev nD) : Fin 2 → Nat :=
  let c768_i32 : BitVec 32 := 768#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c1_i32_62 : BitVec 32 := 1#32
  let v75 : BitVec 32 := Scalar.andi v15 c1_i32_62
  let c0_i32_63 : BitVec 32 := 0#32
  let v76 : BitVec 1 := Scalar.cmpi .ne v75 c0_i32_63
  let c0_i32_64 : BitVec 32 := 0#32
  let c128_i32 : BitVec 32 := 128#32
  let v77 : BitVec 32 := Scalar.select v76 c0_i32_64 c128_i32
  let v78 : BitVec 32 := Scalar.addi c768_i32 v77
  let c0_i32_75 : BitVec 32 := 0#32
  ![v78.toNat, 0]
def k1_dev6 (d10 : Dev nD) : Nat :=
  let c0_i32_73 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c1_i32_59 : BitVec 32 := 1#32
  let v71 : BitVec 32 := Scalar.xori v15 c1_i32_59
  let c1_i32_60 : BitVec 32 := 1#32
  let v72 : BitVec 32 := Scalar.shrsi v71 c1_i32_60
  let c1_i32_61 : BitVec 32 := 1#32
  let v73 : BitVec 32 := Scalar.andi v72 c1_i32_61
  let v74 : BitVec 32 := Scalar.xori v71 v73
  let c1_i32_72 : BitVec 32 := 1#32
  let v81 : BitVec 32 := Scalar.muli v74 c1_i32_72
  let v82 : BitVec 32 := Scalar.addi c0_i32_73 v81
  v82.toNat
def k1_off3 (d10 : Dev nD) (c0_i32_31 : BitVec 32) (c4_i32_25 : BitVec 32) : Fin 2 → Nat :=
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let v39 : BitVec 32 := Scalar.andi v15 c4_i32_25
  let c0_i32_26 : BitVec 32 := 0#32
  let v40 : BitVec 1 := Scalar.cmpi .ne v39 c0_i32_26
  let c192_i32_29 : BitVec 32 := 192#32
  let c0_i32_30 : BitVec 32 := 0#32
  let v43 : BitVec 32 := Scalar.select v40 c192_i32_29 c0_i32_30
  let v44 : BitVec 32 := Scalar.addi c0_i32_31 v43
  let v99 : Index := Scalar.indexCast v44
  let c0_93 : Index := 0#32
  ![v99.toNat, 0]
def k1_off3_at (r : Fin 2) : BitVec 32 × BitVec 32 :=
  if r.val < 1 then
    (0#32, 4#32)
  else
    (384#32, 2#32)
def k1_off4 (d10 : Dev nD) : Fin 2 → Nat :=
  let c768_i32_67 : BitVec 32 := 768#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c1_i32_62 : BitVec 32 := 1#32
  let v75 : BitVec 32 := Scalar.andi v15 c1_i32_62
  let c0_i32_63 : BitVec 32 := 0#32
  let v76 : BitVec 1 := Scalar.cmpi .ne v75 c0_i32_63
  let c128_i32_65 : BitVec 32 := 128#32
  let c0_i32_66 : BitVec 32 := 0#32
  let v79 : BitVec 32 := Scalar.select v76 c128_i32_65 c0_i32_66
  let v80 : BitVec 32 := Scalar.addi c768_i32_67 v79
  let v135 : Index := Scalar.indexCast v80
  let c0_134 : Index := 0#32
  ![v135.toNat, 0]
def k1_off5 (d10 : Dev nD) (c0_i32_31 : BitVec 32) (c4_i32_25 : BitVec 32) (c2_i32_140 : BitVec 32) : Fin 2 → Nat :=
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let v39 : BitVec 32 := Scalar.andi v15 c4_i32_25
  let c0_i32_26 : BitVec 32 := 0#32
  let v40 : BitVec 1 := Scalar.cmpi .ne v39 c0_i32_26
  let c192_i32_29 : BitVec 32 := 192#32
  let c0_i32_30 : BitVec 32 := 0#32
  let v43 : BitVec 32 := Scalar.select v40 c192_i32_29 c0_i32_30
  let v44 : BitVec 32 := Scalar.addi c0_i32_31 v43
  let v147 : BitVec 32 := Scalar.andi v15 c2_i32_140
  let c0_i32_141 : BitVec 32 := 0#32
  let v148 : BitVec 1 := Scalar.cmpi .ne v147 c0_i32_141
  let c0_i32_142 : BitVec 32 := 0#32
  let c96_i32 : BitVec 32 := 96#32
  let v149 : BitVec 32 := Scalar.select v148 c0_i32_142 c96_i32
  let v150 : BitVec 32 := Scalar.addi v44 v149
  let c0_i32_153 : BitVec 32 := 0#32
  ![v150.toNat, 0]
def k1_off5_at (r : Fin 2) : BitVec 32 × BitVec 32 × BitVec 32 :=
  if r.val < 1 then
    (0#32, 4#32, 2#32)
  else
    (384#32, 2#32, 1#32)
def k1_dev7 (d10 : Dev nD) : Nat :=
  let c0_i32_150 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c2_i32_137 : BitVec 32 := 2#32
  let v143 : BitVec 32 := Scalar.xori v15 c2_i32_137
  let c1_i32_138 : BitVec 32 := 1#32
  let v144 : BitVec 32 := Scalar.shrsi v143 c1_i32_138
  let c1_i32_139 : BitVec 32 := 1#32
  let v145 : BitVec 32 := Scalar.andi v144 c1_i32_139
  let v146 : BitVec 32 := Scalar.xori v143 v145
  let c1_i32_149 : BitVec 32 := 1#32
  let v153 : BitVec 32 := Scalar.muli v146 c1_i32_149
  let v154 : BitVec 32 := Scalar.addi c0_i32_150 v153
  v154.toNat
def k1_dev8 (d10 : Dev nD) : Nat :=
  let c0_i32_168 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c1_i32_154 : BitVec 32 := 1#32
  let v161 : BitVec 32 := Scalar.xori v15 c1_i32_154
  let c1_i32_155 : BitVec 32 := 1#32
  let v162 : BitVec 32 := Scalar.shrsi v161 c1_i32_155
  let c1_i32_156 : BitVec 32 := 1#32
  let v163 : BitVec 32 := Scalar.andi v162 c1_i32_156
  let v164 : BitVec 32 := Scalar.xori v161 v163
  let c1_i32_167 : BitVec 32 := 1#32
  let v171 : BitVec 32 := Scalar.muli v164 c1_i32_167
  let v172 : BitVec 32 := Scalar.addi c0_i32_168 v171
  v172.toNat
def k1_off6 (d10 : Dev nD) : Fin 2 → Nat :=
  let c768_i32_67 : BitVec 32 := 768#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c1_i32_62 : BitVec 32 := 1#32
  let v75 : BitVec 32 := Scalar.andi v15 c1_i32_62
  let c0_i32_63 : BitVec 32 := 0#32
  let v76 : BitVec 1 := Scalar.cmpi .ne v75 c0_i32_63
  let c128_i32_65 : BitVec 32 := 128#32
  let c0_i32_66 : BitVec 32 := 0#32
  let v79 : BitVec 32 := Scalar.select v76 c128_i32_65 c0_i32_66
  let v80 : BitVec 32 := Scalar.addi c768_i32_67 v79
  let c4_i32_174 : BitVec 32 := 4#32
  let v183 : BitVec 32 := Scalar.andi v15 c4_i32_174
  let c0_i32_175 : BitVec 32 := 0#32
  let v184 : BitVec 1 := Scalar.cmpi .ne v183 c0_i32_175
  let c0_i32_176 : BitVec 32 := 0#32
  let c64_i32 : BitVec 32 := 64#32
  let v185 : BitVec 32 := Scalar.select v184 c0_i32_176 c64_i32
  let v186 : BitVec 32 := Scalar.addi v80 v185
  let c0_i32_186 : BitVec 32 := 0#32
  ![v186.toNat, 0]
def k1_dev9 (d10 : Dev nD) : Nat :=
  let c0_i32_184 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c4_i32_171 : BitVec 32 := 4#32
  let v179 : BitVec 32 := Scalar.xori v15 c4_i32_171
  let c1_i32_172 : BitVec 32 := 1#32
  let v180 : BitVec 32 := Scalar.shrsi v179 c1_i32_172
  let c1_i32_173 : BitVec 32 := 1#32
  let v181 : BitVec 32 := Scalar.andi v180 c1_i32_173
  let v182 : BitVec 32 := Scalar.xori v179 v181
  let c1_i32_183 : BitVec 32 := 1#32
  let v189 : BitVec 32 := Scalar.muli v182 c1_i32_183
  let v190 : BitVec 32 := Scalar.addi c0_i32_184 v189
  v190.toNat
def k1_off7 (d10 : Dev nD) (c0_i32_31 : BitVec 32) (c4_i32_25 : BitVec 32) (c2_i32_140 : BitVec 32) : Fin 2 → Nat :=
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let v39 : BitVec 32 := Scalar.andi v15 c4_i32_25
  let c0_i32_26 : BitVec 32 := 0#32
  let v40 : BitVec 1 := Scalar.cmpi .ne v39 c0_i32_26
  let c192_i32_29 : BitVec 32 := 192#32
  let c0_i32_30 : BitVec 32 := 0#32
  let v43 : BitVec 32 := Scalar.select v40 c192_i32_29 c0_i32_30
  let v44 : BitVec 32 := Scalar.addi c0_i32_31 v43
  let v147 : BitVec 32 := Scalar.andi v15 c2_i32_140
  let c0_i32_141 : BitVec 32 := 0#32
  let v148 : BitVec 1 := Scalar.cmpi .ne v147 c0_i32_141
  let c96_i32_143 : BitVec 32 := 96#32
  let c0_i32_144 : BitVec 32 := 0#32
  let v151 : BitVec 32 := Scalar.select v148 c96_i32_143 c0_i32_144
  let v152 : BitVec 32 := Scalar.addi v44 v151
  let v207 : Index := Scalar.indexCast v152
  let c0_204 : Index := 0#32
  ![v207.toNat, 0]
def k1_off7_at (r : Fin 2) : BitVec 32 × BitVec 32 × BitVec 32 :=
  if r.val < 1 then
    (0#32, 4#32, 2#32)
  else
    (384#32, 2#32, 1#32)
def k1_off8 (d10 : Dev nD) : Fin 2 → Nat :=
  let c768_i32_67 : BitVec 32 := 768#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c1_i32_62 : BitVec 32 := 1#32
  let v75 : BitVec 32 := Scalar.andi v15 c1_i32_62
  let c0_i32_63 : BitVec 32 := 0#32
  let v76 : BitVec 1 := Scalar.cmpi .ne v75 c0_i32_63
  let c128_i32_65 : BitVec 32 := 128#32
  let c0_i32_66 : BitVec 32 := 0#32
  let v79 : BitVec 32 := Scalar.select v76 c128_i32_65 c0_i32_66
  let v80 : BitVec 32 := Scalar.addi c768_i32_67 v79
  let c4_i32_174 : BitVec 32 := 4#32
  let v183 : BitVec 32 := Scalar.andi v15 c4_i32_174
  let c0_i32_175 : BitVec 32 := 0#32
  let v184 : BitVec 1 := Scalar.cmpi .ne v183 c0_i32_175
  let c64_i32_177 : BitVec 32 := 64#32
  let c0_i32_178 : BitVec 32 := 0#32
  let v187 : BitVec 32 := Scalar.select v184 c64_i32_177 c0_i32_178
  let v188 : BitVec 32 := Scalar.addi v80 v187
  let v243 : Index := Scalar.indexCast v188
  let c0_244 : Index := 0#32
  ![v243.toNat, 0]
def k1_off9 (d10 : Dev nD) (c0_i32_31 : BitVec 32) (c4_i32_25 : BitVec 32) (c2_i32_140 : BitVec 32) (c1_i32_250 : BitVec 32) (c0_i32_252 : BitVec 32) (c48_i32 : BitVec 32) : Fin 2 → Nat :=
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let v39 : BitVec 32 := Scalar.andi v15 c4_i32_25
  let c0_i32_26 : BitVec 32 := 0#32
  let v40 : BitVec 1 := Scalar.cmpi .ne v39 c0_i32_26
  let c192_i32_29 : BitVec 32 := 192#32
  let c0_i32_30 : BitVec 32 := 0#32
  let v43 : BitVec 32 := Scalar.select v40 c192_i32_29 c0_i32_30
  let v44 : BitVec 32 := Scalar.addi c0_i32_31 v43
  let v147 : BitVec 32 := Scalar.andi v15 c2_i32_140
  let c0_i32_141 : BitVec 32 := 0#32
  let v148 : BitVec 1 := Scalar.cmpi .ne v147 c0_i32_141
  let c96_i32_143 : BitVec 32 := 96#32
  let c0_i32_144 : BitVec 32 := 0#32
  let v151 : BitVec 32 := Scalar.select v148 c96_i32_143 c0_i32_144
  let v152 : BitVec 32 := Scalar.addi v44 v151
  let v255 : BitVec 32 := Scalar.andi v15 c1_i32_250
  let c0_i32_251 : BitVec 32 := 0#32
  let v256 : BitVec 1 := Scalar.cmpi .ne v255 c0_i32_251
  let v257 : BitVec 32 := Scalar.select v256 c0_i32_252 c48_i32
  let v258 : BitVec 32 := Scalar.addi v152 v257
  let c0_i32_262 : BitVec 32 := 0#32
  ![v258.toNat, 0]
def k1_off9_at (r : Fin 4) : BitVec 32 × BitVec 32 × BitVec 32 × BitVec 32 × BitVec 32 × BitVec 32 :=
  if r.val < 2 then
    if r.val < 1 then
      (0#32, 4#32, 2#32, 1#32, 0#32, 48#32)
    else
      (384#32, 2#32, 1#32, 4#32, 0#32, 48#32)
  else
    if r.val < 3 then
      (0#32, 4#32, 2#32, 1#32, 48#32, 0#32)
    else
      (384#32, 2#32, 1#32, 4#32, 48#32, 0#32)
def k1_dev10 (d10 : Dev nD) : Nat :=
  let c0_i32_260 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c1_i32_247 : BitVec 32 := 1#32
  let v251 : BitVec 32 := Scalar.xori v15 c1_i32_247
  let c1_i32_248 : BitVec 32 := 1#32
  let v252 : BitVec 32 := Scalar.shrsi v251 c1_i32_248
  let c1_i32_249 : BitVec 32 := 1#32
  let v253 : BitVec 32 := Scalar.andi v252 c1_i32_249
  let v254 : BitVec 32 := Scalar.xori v251 v253
  let c1_i32_259 : BitVec 32 := 1#32
  let v261 : BitVec 32 := Scalar.muli v254 c1_i32_259
  let v262 : BitVec 32 := Scalar.addi c0_i32_260 v261
  v262.toNat
def k1_dev11 (d10 : Dev nD) : Nat :=
  let c0_i32_277 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c4_i32_263 : BitVec 32 := 4#32
  let v269 : BitVec 32 := Scalar.xori v15 c4_i32_263
  let c1_i32_264 : BitVec 32 := 1#32
  let v270 : BitVec 32 := Scalar.shrsi v269 c1_i32_264
  let c1_i32_265 : BitVec 32 := 1#32
  let v271 : BitVec 32 := Scalar.andi v270 c1_i32_265
  let v272 : BitVec 32 := Scalar.xori v269 v271
  let c1_i32_276 : BitVec 32 := 1#32
  let v279 : BitVec 32 := Scalar.muli v272 c1_i32_276
  let v280 : BitVec 32 := Scalar.addi c0_i32_277 v279
  v280.toNat
def k1_off10 (d10 : Dev nD) (c0_i32_285 : BitVec 32) (c32_i32 : BitVec 32) : Fin 2 → Nat :=
  let c768_i32_67 : BitVec 32 := 768#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c1_i32_62 : BitVec 32 := 1#32
  let v75 : BitVec 32 := Scalar.andi v15 c1_i32_62
  let c0_i32_63 : BitVec 32 := 0#32
  let v76 : BitVec 1 := Scalar.cmpi .ne v75 c0_i32_63
  let c128_i32_65 : BitVec 32 := 128#32
  let c0_i32_66 : BitVec 32 := 0#32
  let v79 : BitVec 32 := Scalar.select v76 c128_i32_65 c0_i32_66
  let v80 : BitVec 32 := Scalar.addi c768_i32_67 v79
  let c4_i32_174 : BitVec 32 := 4#32
  let v183 : BitVec 32 := Scalar.andi v15 c4_i32_174
  let c0_i32_175 : BitVec 32 := 0#32
  let v184 : BitVec 1 := Scalar.cmpi .ne v183 c0_i32_175
  let c64_i32_177 : BitVec 32 := 64#32
  let c0_i32_178 : BitVec 32 := 0#32
  let v187 : BitVec 32 := Scalar.select v184 c64_i32_177 c0_i32_178
  let v188 : BitVec 32 := Scalar.addi v80 v187
  let c2_i32_283 : BitVec 32 := 2#32
  let v291 : BitVec 32 := Scalar.andi v15 c2_i32_283
  let c0_i32_284 : BitVec 32 := 0#32
  let v292 : BitVec 1 := Scalar.cmpi .ne v291 c0_i32_284
  let v293 : BitVec 32 := Scalar.select v292 c0_i32_285 c32_i32
  let v294 : BitVec 32 := Scalar.addi v188 v293
  let c0_i32_295 : BitVec 32 := 0#32
  ![v294.toNat, 0]
def k1_off10_at (r : Fin 2) : BitVec 32 × BitVec 32 :=
  if r.val < 1 then
    (0#32, 32#32)
  else
    (32#32, 0#32)
def k1_dev12 (d10 : Dev nD) : Nat :=
  let c0_i32_293 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c2_i32_280 : BitVec 32 := 2#32
  let v287 : BitVec 32 := Scalar.xori v15 c2_i32_280
  let c1_i32_281 : BitVec 32 := 1#32
  let v288 : BitVec 32 := Scalar.shrsi v287 c1_i32_281
  let c1_i32_282 : BitVec 32 := 1#32
  let v289 : BitVec 32 := Scalar.andi v288 c1_i32_282
  let v290 : BitVec 32 := Scalar.xori v287 v289
  let c1_i32_292 : BitVec 32 := 1#32
  let v297 : BitVec 32 := Scalar.muli v290 c1_i32_292
  let v298 : BitVec 32 := Scalar.addi c0_i32_293 v297
  v298.toNat
def k1_off11 (d10 : Dev nD) (c0_i32_31 : BitVec 32) (c4_i32_25 : BitVec 32) (c2_i32_140 : BitVec 32) (c1_i32_250 : BitVec 32) : Fin 2 → Nat :=
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let v39 : BitVec 32 := Scalar.andi v15 c4_i32_25
  let c0_i32_26 : BitVec 32 := 0#32
  let v40 : BitVec 1 := Scalar.cmpi .ne v39 c0_i32_26
  let c192_i32_29 : BitVec 32 := 192#32
  let c0_i32_30 : BitVec 32 := 0#32
  let v43 : BitVec 32 := Scalar.select v40 c192_i32_29 c0_i32_30
  let v44 : BitVec 32 := Scalar.addi c0_i32_31 v43
  let v147 : BitVec 32 := Scalar.andi v15 c2_i32_140
  let c0_i32_141 : BitVec 32 := 0#32
  let v148 : BitVec 1 := Scalar.cmpi .ne v147 c0_i32_141
  let c96_i32_143 : BitVec 32 := 96#32
  let c0_i32_144 : BitVec 32 := 0#32
  let v151 : BitVec 32 := Scalar.select v148 c96_i32_143 c0_i32_144
  let v152 : BitVec 32 := Scalar.addi v44 v151
  let v255 : BitVec 32 := Scalar.andi v15 c1_i32_250
  let c0_i32_251 : BitVec 32 := 0#32
  let v256 : BitVec 1 := Scalar.cmpi .ne v255 c0_i32_251
  let c48_i32_253 : BitVec 32 := 48#32
  let c0_i32_254 : BitVec 32 := 0#32
  let v259 : BitVec 32 := Scalar.select v256 c48_i32_253 c0_i32_254
  let v260 : BitVec 32 := Scalar.addi v152 v259
  let v315 : Index := Scalar.indexCast v260
  let c0_313 : Index := 0#32
  ![v315.toNat, 0]
def k1_off11_at (r : Fin 2) : BitVec 32 × BitVec 32 × BitVec 32 × BitVec 32 :=
  if r.val < 1 then
    (0#32, 4#32, 2#32, 1#32)
  else
    (384#32, 2#32, 1#32, 4#32)
def k1_off12 (d10 : Dev nD) : Fin 2 → Nat :=
  let c768_i32_67 : BitVec 32 := 768#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c1_i32_62 : BitVec 32 := 1#32
  let v75 : BitVec 32 := Scalar.andi v15 c1_i32_62
  let c0_i32_63 : BitVec 32 := 0#32
  let v76 : BitVec 1 := Scalar.cmpi .ne v75 c0_i32_63
  let c128_i32_65 : BitVec 32 := 128#32
  let c0_i32_66 : BitVec 32 := 0#32
  let v79 : BitVec 32 := Scalar.select v76 c128_i32_65 c0_i32_66
  let v80 : BitVec 32 := Scalar.addi c768_i32_67 v79
  let c4_i32_174 : BitVec 32 := 4#32
  let v183 : BitVec 32 := Scalar.andi v15 c4_i32_174
  let c0_i32_175 : BitVec 32 := 0#32
  let v184 : BitVec 1 := Scalar.cmpi .ne v183 c0_i32_175
  let c64_i32_177 : BitVec 32 := 64#32
  let c0_i32_178 : BitVec 32 := 0#32
  let v187 : BitVec 32 := Scalar.select v184 c64_i32_177 c0_i32_178
  let v188 : BitVec 32 := Scalar.addi v80 v187
  let c2_i32_283 : BitVec 32 := 2#32
  let v291 : BitVec 32 := Scalar.andi v15 c2_i32_283
  let c0_i32_284 : BitVec 32 := 0#32
  let v292 : BitVec 1 := Scalar.cmpi .ne v291 c0_i32_284
  let c32_i32_286 : BitVec 32 := 32#32
  let c0_i32_287 : BitVec 32 := 0#32
  let v295 : BitVec 32 := Scalar.select v292 c32_i32_286 c0_i32_287
  let v296 : BitVec 32 := Scalar.addi v188 v295
  let v351 : Index := Scalar.indexCast v296
  let c0_353 : Index := 0#32
  ![v351.toNat, 0]
def k1_dev13 (d10 : Dev nD) : Nat :=
  let c0_i32_364 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c1_i32_356 : BitVec 32 := 1#32
  let v359 : BitVec 32 := Scalar.xori v15 c1_i32_356
  let c1_i32_357 : BitVec 32 := 1#32
  let v360 : BitVec 32 := Scalar.shrsi v359 c1_i32_357
  let c1_i32_358 : BitVec 32 := 1#32
  let v361 : BitVec 32 := Scalar.andi v360 c1_i32_358
  let v362 : BitVec 32 := Scalar.xori v359 v361
  let c1_i32_363 : BitVec 32 := 1#32
  let v363 : BitVec 32 := Scalar.muli v362 c1_i32_363
  let v364 : BitVec 32 := Scalar.addi c0_i32_364 v363
  v364.toNat
def k1_dev14 (d10 : Dev nD) : Nat :=
  let c0_i32_379 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c4_i32_371 : BitVec 32 := 4#32
  let v375 : BitVec 32 := Scalar.xori v15 c4_i32_371
  let c1_i32_372 : BitVec 32 := 1#32
  let v376 : BitVec 32 := Scalar.shrsi v375 c1_i32_372
  let c1_i32_373 : BitVec 32 := 1#32
  let v377 : BitVec 32 := Scalar.andi v376 c1_i32_373
  let v378 : BitVec 32 := Scalar.xori v375 v377
  let c1_i32_378 : BitVec 32 := 1#32
  let v379 : BitVec 32 := Scalar.muli v378 c1_i32_378
  let v380 : BitVec 32 := Scalar.addi c0_i32_379 v379
  v380.toNat
def k1_dev15 (d10 : Dev nD) : Nat :=
  let c0_i32_394 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c2_i32_386 : BitVec 32 := 2#32
  let v391 : BitVec 32 := Scalar.xori v15 c2_i32_386
  let c1_i32_387 : BitVec 32 := 1#32
  let v392 : BitVec 32 := Scalar.shrsi v391 c1_i32_387
  let c1_i32_388 : BitVec 32 := 1#32
  let v393 : BitVec 32 := Scalar.andi v392 c1_i32_388
  let v394 : BitVec 32 := Scalar.xori v391 v393
  let c1_i32_393 : BitVec 32 := 1#32
  let v395 : BitVec 32 := Scalar.muli v394 c1_i32_393
  let v396 : BitVec 32 := Scalar.addi c0_i32_394 v395
  v396.toNat
def k1_off13 (d10 : Dev nD) (c0_i32_31 : BitVec 32) (c4_i32_25 : BitVec 32) (c2_i32_140 : BitVec 32) (c1_i32_250 : BitVec 32) (c1_i32_367 : BitVec 32) : Fin 2 → Nat :=
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let v39 : BitVec 32 := Scalar.andi v15 c4_i32_25
  let c0_i32_26 : BitVec 32 := 0#32
  let v40 : BitVec 1 := Scalar.cmpi .ne v39 c0_i32_26
  let c192_i32_29 : BitVec 32 := 192#32
  let c0_i32_30 : BitVec 32 := 0#32
  let v43 : BitVec 32 := Scalar.select v40 c192_i32_29 c0_i32_30
  let v44 : BitVec 32 := Scalar.addi c0_i32_31 v43
  let v147 : BitVec 32 := Scalar.andi v15 c2_i32_140
  let c0_i32_141 : BitVec 32 := 0#32
  let v148 : BitVec 1 := Scalar.cmpi .ne v147 c0_i32_141
  let c96_i32_143 : BitVec 32 := 96#32
  let c0_i32_144 : BitVec 32 := 0#32
  let v151 : BitVec 32 := Scalar.select v148 c96_i32_143 c0_i32_144
  let v152 : BitVec 32 := Scalar.addi v44 v151
  let v255 : BitVec 32 := Scalar.andi v15 c1_i32_250
  let c0_i32_251 : BitVec 32 := 0#32
  let v256 : BitVec 1 := Scalar.cmpi .ne v255 c0_i32_251
  let c48_i32_253 : BitVec 32 := 48#32
  let c0_i32_254 : BitVec 32 := 0#32
  let v259 : BitVec 32 := Scalar.select v256 c48_i32_253 c0_i32_254
  let v260 : BitVec 32 := Scalar.addi v152 v259
  let v371 : BitVec 32 := Scalar.andi v15 c1_i32_367
  let c0_i32_368 : BitVec 32 := 0#32
  let v372 : BitVec 1 := Scalar.cmpi .ne v371 c0_i32_368
  let c48_i32_369 : BitVec 32 := 48#32
  let c0_i32_370 : BitVec 32 := 0#32
  let v373 : BitVec 32 := Scalar.select v372 c48_i32_369 c0_i32_370
  let v374 : BitVec 32 := Scalar.subi v260 v373
  let c0_i32_455 : BitVec 32 := 0#32
  ![v374.toNat, 0]
def k1_off13_at (r : Fin 2) : BitVec 32 × BitVec 32 × BitVec 32 × BitVec 32 × BitVec 32 :=
  if r.val < 1 then
    (0#32, 4#32, 2#32, 1#32, 1#32)
  else
    (384#32, 2#32, 1#32, 4#32, 4#32)
def k1_dev16 (d10 : Dev nD) : Nat :=
  let c0_i32_454 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c2_i32_446 : BitVec 32 := 2#32
  let v437 : BitVec 32 := Scalar.xori v15 c2_i32_446
  let c1_i32_447 : BitVec 32 := 1#32
  let v438 : BitVec 32 := Scalar.shrsi v437 c1_i32_447
  let c1_i32_448 : BitVec 32 := 1#32
  let v439 : BitVec 32 := Scalar.andi v438 c1_i32_448
  let v440 : BitVec 32 := Scalar.xori v437 v439
  let c1_i32_453 : BitVec 32 := 1#32
  let v441 : BitVec 32 := Scalar.muli v440 c1_i32_453
  let v442 : BitVec 32 := Scalar.addi c0_i32_454 v441
  v442.toNat
def k1_dev17 (d10 : Dev nD) : Nat :=
  let c0_i32_469 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c1_i32_461 : BitVec 32 := 1#32
  let v453 : BitVec 32 := Scalar.xori v15 c1_i32_461
  let c1_i32_462 : BitVec 32 := 1#32
  let v454 : BitVec 32 := Scalar.shrsi v453 c1_i32_462
  let c1_i32_463 : BitVec 32 := 1#32
  let v455 : BitVec 32 := Scalar.andi v454 c1_i32_463
  let v456 : BitVec 32 := Scalar.xori v453 v455
  let c1_i32_468 : BitVec 32 := 1#32
  let v457 : BitVec 32 := Scalar.muli v456 c1_i32_468
  let v458 : BitVec 32 := Scalar.addi c0_i32_469 v457
  v458.toNat
def k1_off14 (d10 : Dev nD) : Fin 2 → Nat :=
  let c768_i32_67 : BitVec 32 := 768#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c1_i32_62 : BitVec 32 := 1#32
  let v75 : BitVec 32 := Scalar.andi v15 c1_i32_62
  let c0_i32_63 : BitVec 32 := 0#32
  let v76 : BitVec 1 := Scalar.cmpi .ne v75 c0_i32_63
  let c128_i32_65 : BitVec 32 := 128#32
  let c0_i32_66 : BitVec 32 := 0#32
  let v79 : BitVec 32 := Scalar.select v76 c128_i32_65 c0_i32_66
  let v80 : BitVec 32 := Scalar.addi c768_i32_67 v79
  let c4_i32_174 : BitVec 32 := 4#32
  let v183 : BitVec 32 := Scalar.andi v15 c4_i32_174
  let c0_i32_175 : BitVec 32 := 0#32
  let v184 : BitVec 1 := Scalar.cmpi .ne v183 c0_i32_175
  let c64_i32_177 : BitVec 32 := 64#32
  let c0_i32_178 : BitVec 32 := 0#32
  let v187 : BitVec 32 := Scalar.select v184 c64_i32_177 c0_i32_178
  let v188 : BitVec 32 := Scalar.addi v80 v187
  let c2_i32_283 : BitVec 32 := 2#32
  let v291 : BitVec 32 := Scalar.andi v15 c2_i32_283
  let c0_i32_284 : BitVec 32 := 0#32
  let v292 : BitVec 1 := Scalar.cmpi .ne v291 c0_i32_284
  let c32_i32_286 : BitVec 32 := 32#32
  let c0_i32_287 : BitVec 32 := 0#32
  let v295 : BitVec 32 := Scalar.select v292 c32_i32_286 c0_i32_287
  let v296 : BitVec 32 := Scalar.addi v188 v295
  let c2_i32_397 : BitVec 32 := 2#32
  let v403 : BitVec 32 := Scalar.andi v15 c2_i32_397
  let c0_i32_398 : BitVec 32 := 0#32
  let v404 : BitVec 1 := Scalar.cmpi .ne v403 c0_i32_398
  let c32_i32_399 : BitVec 32 := 32#32
  let c0_i32_400 : BitVec 32 := 0#32
  let v405 : BitVec 32 := Scalar.select v404 c32_i32_399 c0_i32_400
  let v406 : BitVec 32 := Scalar.subi v296 v405
  let c0_i32_485 : BitVec 32 := 0#32
  ![v406.toNat, 0]
def k1_dev18 (d10 : Dev nD) : Nat :=
  let c0_i32_484 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c4_i32_476 : BitVec 32 := 4#32
  let v469 : BitVec 32 := Scalar.xori v15 c4_i32_476
  let c1_i32_477 : BitVec 32 := 1#32
  let v470 : BitVec 32 := Scalar.shrsi v469 c1_i32_477
  let c1_i32_478 : BitVec 32 := 1#32
  let v471 : BitVec 32 := Scalar.andi v470 c1_i32_478
  let v472 : BitVec 32 := Scalar.xori v469 v471
  let c1_i32_483 : BitVec 32 := 1#32
  let v473 : BitVec 32 := Scalar.muli v472 c1_i32_483
  let v474 : BitVec 32 := Scalar.addi c0_i32_484 v473
  v474.toNat
def k1_off15 (d10 : Dev nD) (c0_i32_31 : BitVec 32) (c4_i32_25 : BitVec 32) (c2_i32_140 : BitVec 32) (c1_i32_250 : BitVec 32) (c1_i32_367 : BitVec 32) (c2_i32_457 : BitVec 32) : Fin 2 → Nat :=
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let v39 : BitVec 32 := Scalar.andi v15 c4_i32_25
  let c0_i32_26 : BitVec 32 := 0#32
  let v40 : BitVec 1 := Scalar.cmpi .ne v39 c0_i32_26
  let c192_i32_29 : BitVec 32 := 192#32
  let c0_i32_30 : BitVec 32 := 0#32
  let v43 : BitVec 32 := Scalar.select v40 c192_i32_29 c0_i32_30
  let v44 : BitVec 32 := Scalar.addi c0_i32_31 v43
  let v147 : BitVec 32 := Scalar.andi v15 c2_i32_140
  let c0_i32_141 : BitVec 32 := 0#32
  let v148 : BitVec 1 := Scalar.cmpi .ne v147 c0_i32_141
  let c96_i32_143 : BitVec 32 := 96#32
  let c0_i32_144 : BitVec 32 := 0#32
  let v151 : BitVec 32 := Scalar.select v148 c96_i32_143 c0_i32_144
  let v152 : BitVec 32 := Scalar.addi v44 v151
  let v255 : BitVec 32 := Scalar.andi v15 c1_i32_250
  let c0_i32_251 : BitVec 32 := 0#32
  let v256 : BitVec 1 := Scalar.cmpi .ne v255 c0_i32_251
  let c48_i32_253 : BitVec 32 := 48#32
  let c0_i32_254 : BitVec 32 := 0#32
  let v259 : BitVec 32 := Scalar.select v256 c48_i32_253 c0_i32_254
  let v260 : BitVec 32 := Scalar.addi v152 v259
  let v371 : BitVec 32 := Scalar.andi v15 c1_i32_367
  let c0_i32_368 : BitVec 32 := 0#32
  let v372 : BitVec 1 := Scalar.cmpi .ne v371 c0_i32_368
  let c48_i32_369 : BitVec 32 := 48#32
  let c0_i32_370 : BitVec 32 := 0#32
  let v373 : BitVec 32 := Scalar.select v372 c48_i32_369 c0_i32_370
  let v374 : BitVec 32 := Scalar.subi v260 v373
  let v449 : BitVec 32 := Scalar.andi v15 c2_i32_457
  let c0_i32_458 : BitVec 32 := 0#32
  let v450 : BitVec 1 := Scalar.cmpi .ne v449 c0_i32_458
  let c96_i32_459 : BitVec 32 := 96#32
  let c0_i32_460 : BitVec 32 := 0#32
  let v451 : BitVec 32 := Scalar.select v450 c96_i32_459 c0_i32_460
  let v452 : BitVec 32 := Scalar.subi v374 v451
  let c0_i32_544 : BitVec 32 := 0#32
  ![v452.toNat, 0]
def k1_off15_at (r : Fin 2) : BitVec 32 × BitVec 32 × BitVec 32 × BitVec 32 × BitVec 32 × BitVec 32 :=
  if r.val < 1 then
    (0#32, 4#32, 2#32, 1#32, 1#32, 2#32)
  else
    (384#32, 2#32, 1#32, 4#32, 4#32, 1#32)
def k1_dev19 (d10 : Dev nD) : Nat :=
  let c0_i32_543 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c4_i32_536 : BitVec 32 := 4#32
  let v515 : BitVec 32 := Scalar.xori v15 c4_i32_536
  let c1_i32_537 : BitVec 32 := 1#32
  let v516 : BitVec 32 := Scalar.shrsi v515 c1_i32_537
  let c1_i32_538 : BitVec 32 := 1#32
  let v517 : BitVec 32 := Scalar.andi v516 c1_i32_538
  let v518 : BitVec 32 := Scalar.xori v515 v517
  let c1_i32_542 : BitVec 32 := 1#32
  let v519 : BitVec 32 := Scalar.muli v518 c1_i32_542
  let v520 : BitVec 32 := Scalar.addi c0_i32_543 v519
  v520.toNat
def k1_dev20 (d10 : Dev nD) : Nat :=
  let c0_i32_554 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c2_i32_546 : BitVec 32 := 2#32
  let v527 : BitVec 32 := Scalar.xori v15 c2_i32_546
  let c1_i32_547 : BitVec 32 := 1#32
  let v528 : BitVec 32 := Scalar.shrsi v527 c1_i32_547
  let c1_i32_548 : BitVec 32 := 1#32
  let v529 : BitVec 32 := Scalar.andi v528 c1_i32_548
  let v530 : BitVec 32 := Scalar.xori v527 v529
  let c1_i32_553 : BitVec 32 := 1#32
  let v531 : BitVec 32 := Scalar.muli v530 c1_i32_553
  let v532 : BitVec 32 := Scalar.addi c0_i32_554 v531
  v532.toNat
def k1_off16 (d10 : Dev nD) : Fin 2 → Nat :=
  let c768_i32_67 : BitVec 32 := 768#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c1_i32_62 : BitVec 32 := 1#32
  let v75 : BitVec 32 := Scalar.andi v15 c1_i32_62
  let c0_i32_63 : BitVec 32 := 0#32
  let v76 : BitVec 1 := Scalar.cmpi .ne v75 c0_i32_63
  let c128_i32_65 : BitVec 32 := 128#32
  let c0_i32_66 : BitVec 32 := 0#32
  let v79 : BitVec 32 := Scalar.select v76 c128_i32_65 c0_i32_66
  let v80 : BitVec 32 := Scalar.addi c768_i32_67 v79
  let c4_i32_174 : BitVec 32 := 4#32
  let v183 : BitVec 32 := Scalar.andi v15 c4_i32_174
  let c0_i32_175 : BitVec 32 := 0#32
  let v184 : BitVec 1 := Scalar.cmpi .ne v183 c0_i32_175
  let c64_i32_177 : BitVec 32 := 64#32
  let c0_i32_178 : BitVec 32 := 0#32
  let v187 : BitVec 32 := Scalar.select v184 c64_i32_177 c0_i32_178
  let v188 : BitVec 32 := Scalar.addi v80 v187
  let c2_i32_283 : BitVec 32 := 2#32
  let v291 : BitVec 32 := Scalar.andi v15 c2_i32_283
  let c0_i32_284 : BitVec 32 := 0#32
  let v292 : BitVec 1 := Scalar.cmpi .ne v291 c0_i32_284
  let c32_i32_286 : BitVec 32 := 32#32
  let c0_i32_287 : BitVec 32 := 0#32
  let v295 : BitVec 32 := Scalar.select v292 c32_i32_286 c0_i32_287
  let v296 : BitVec 32 := Scalar.addi v188 v295
  let c2_i32_397 : BitVec 32 := 2#32
  let v403 : BitVec 32 := Scalar.andi v15 c2_i32_397
  let c0_i32_398 : BitVec 32 := 0#32
  let v404 : BitVec 1 := Scalar.cmpi .ne v403 c0_i32_398
  let c32_i32_399 : BitVec 32 := 32#32
  let c0_i32_400 : BitVec 32 := 0#32
  let v405 : BitVec 32 := Scalar.select v404 c32_i32_399 c0_i32_400
  let v406 : BitVec 32 := Scalar.subi v296 v405
  let c4_i32_487 : BitVec 32 := 4#32
  let v481 : BitVec 32 := Scalar.andi v15 c4_i32_487
  let c0_i32_488 : BitVec 32 := 0#32
  let v482 : BitVec 1 := Scalar.cmpi .ne v481 c0_i32_488
  let c64_i32_489 : BitVec 32 := 64#32
  let c0_i32_490 : BitVec 32 := 0#32
  let v483 : BitVec 32 := Scalar.select v482 c64_i32_489 c0_i32_490
  let v484 : BitVec 32 := Scalar.subi v406 v483
  let c0_i32_566 : BitVec 32 := 0#32
  ![v484.toNat, 0]
def k1_dev21 (d10 : Dev nD) : Nat :=
  let c0_i32_565 : BitVec 32 := 0#32
  let v10 : BitVec 32 := Dev.word d10
  let c1_i32 : BitVec 32 := 1#32
  let v11 : BitVec 32 := Scalar.divsi v10 c1_i32
  let c8_i32 : BitVec 32 := 8#32
  let v12 : BitVec 32 := Scalar.remsi v11 c8_i32
  let c1_i32_5 : BitVec 32 := 1#32
  let v13 : BitVec 32 := Scalar.shrsi v12 c1_i32_5
  let c1_i32_6 : BitVec 32 := 1#32
  let v14 : BitVec 32 := Scalar.andi v13 c1_i32_6
  let v15 : BitVec 32 := Scalar.xori v12 v14
  let c1_i32_557 : BitVec 32 := 1#32
  let v539 : BitVec 32 := Scalar.xori v15 c1_i32_557
  let c1_i32_558 : BitVec 32 := 1#32
  let v540 : BitVec 32 := Scalar.shrsi v539 c1_i32_558
  let c1_i32_559 : BitVec 32 := 1#32
  let v541 : BitVec 32 := Scalar.andi v540 c1_i32_559
  let v542 : BitVec 32 := Scalar.xori v539 v541
  let c1_i32_564 : BitVec 32 := 1#32
  let v543 : BitVec 32 := Scalar.muli v542 c1_i32_564
  let v544 : BitVec 32 := Scalar.addi c0_i32_565 v543
  v544.toNat
abbrev stage1_0 : Fin 1 → Memref sig .tc .vmem S1024x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S4x256x1024 : Shape := ⟨3, ![4, 256, 1024]⟩
abbrev S1024x8192 : Shape := ⟨2, ![1024, 8192]⟩
abbrev S4x1024x64x128 : Shape := ⟨4, ![4, 1024, 64, 128]⟩
abbrev S8192x1024 : Shape := ⟨2, ![8192, 1024]⟩
abbrev S4x256x8192 : Shape := ⟨3, ![4, 256, 8192]⟩
abbrev S4x256x64x128 : Shape := ⟨4, ![4, 256, 64, 128]⟩
abbrev S_ : Shape := ⟨0, ![]⟩
abbrev S4x64x256x1 : Shape := ⟨4, ![4, 64, 256, 1]⟩
abbrev S4x64x256x1024 : Shape := ⟨4, ![4, 64, 256, 1024]⟩
abbrev S4x64x256 : Shape := ⟨3, ![4, 64, 256]⟩
abbrev S4x256x64x1 : Shape := ⟨4, ![4, 256, 64, 1]⟩
abbrev S4x64x128x256 : Shape := ⟨4, ![4, 64, 128, 256]⟩

abbrev nBuf : Space → Nat
  | .hbm => 42
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x8192, .f32⟩
  | .hbm, ⟨2, _⟩ => ⟨S4x1024x64x128, .f32⟩
  | .hbm, ⟨3, _⟩ => ⟨S4x1024x64x128, .f32⟩
  | .hbm, ⟨4, _⟩ => ⟨S8192x1024, .f32⟩
  | .hbm, ⟨5, _⟩ => ⟨S4x256x8192, .f32⟩
  | .hbm, ⟨6, _⟩ => ⟨S4x256x64x128, .f32⟩
  | .hbm, ⟨7, _⟩ => ⟨S_, .f32⟩
  | .hbm, ⟨8, _⟩ => ⟨S4x256x64x128, .f32⟩
  | .hbm, ⟨9, _⟩ => ⟨S_, .f32⟩
  | .hbm, ⟨10, _⟩ => ⟨S4x64x256x1, .f32⟩
  | .hbm, ⟨11, _⟩ => ⟨S_, .f32⟩
  | .hbm, ⟨12, _⟩ => ⟨S4x64x256x1, .f32⟩
  | .hbm, ⟨13, _⟩ => ⟨S4x64x256x1024, .f32⟩
  | .hbm, ⟨14, _⟩ => ⟨S_, .f32⟩
  | .hbm, ⟨15, _⟩ => ⟨S4x64x256x1024, .f32⟩
  | .hbm, ⟨16, _⟩ => ⟨S4x64x256x1024, .f32⟩
  | .hbm, ⟨17, _⟩ => ⟨S_, .f32⟩
  | .hbm, ⟨18, _⟩ => ⟨S4x64x256, .f32⟩
  | .hbm, ⟨19, _⟩ => ⟨S4x64x256x1, .f32⟩
  | .hbm, ⟨20, _⟩ => ⟨S4x64x256x1, .f32⟩
  | .hbm, ⟨21, _⟩ => ⟨S4x64x256x1, .f32⟩
  | .hbm, ⟨22, _⟩ => ⟨S4x64x256x1, .f32⟩
  | .hbm, ⟨23, _⟩ => ⟨S4x64x256x1024, .f32⟩
  | .hbm, ⟨24, _⟩ => ⟨S4x64x256x1024, .f32⟩
  | .hbm, ⟨25, _⟩ => ⟨S4x64x256x1024, .f32⟩
  | .hbm, ⟨26, _⟩ => ⟨S4x64x256x1, .f32⟩
  | .hbm, ⟨27, _⟩ => ⟨S_, .f32⟩
  | .hbm, ⟨28, _⟩ => ⟨S4x64x256, .f32⟩
  | .hbm, ⟨29, _⟩ => ⟨S4x64x256x1, .f32⟩
  | .hbm, ⟨30, _⟩ => ⟨S4x64x256x1, .f32⟩
  | .hbm, ⟨31, _⟩ => ⟨S4x256x64x1, .f32⟩
  | .hbm, ⟨32, _⟩ => ⟨S4x256x64x128, .f32⟩
  | .hbm, ⟨33, _⟩ => ⟨S4x256x64x128, .f32⟩
  | .hbm, ⟨34, _⟩ => ⟨S4x64x128x256, .f32⟩
  | .hbm, ⟨35, _⟩ => ⟨S4x256x64x128, .f32⟩
  | .hbm, ⟨36, _⟩ => ⟨S4x256x64x128, .f32⟩
  | .hbm, ⟨37, _⟩ => ⟨S4x256x64x1, .f32⟩
  | .hbm, ⟨38, _⟩ => ⟨S4x256x64x128, .f32⟩
  | .hbm, ⟨39, _⟩ => ⟨S4x256x64x128, .f32⟩
  | .hbm, ⟨40, _⟩ => ⟨S4x256x8192, .f32⟩
  | .hbm, ⟨41, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Finite.lean ====
/-
  What the precondition says: every entry of a device's `x`, `Wq` and `K_ext` is a real number.
-/
module

public import proofs.«01_k».proof.Defs
public import Idealize.ShloMosaic.Lib.ReduceAll
public import Idealize.ShloMosaic.Lib.Pointwise

@[expose] public section

set_option maxRecDepth 16384

noncomputable section

namespace Cert.Finite

open Idealize.ShloMosaic

theorem facts_kernel : Cert.Pre_finite_inputs_KernelIdeal.Facts where
  bcast_S_S4x256x1024 := by decide
  reducesTo_S4x256x1024_S_d0_1_2 := by decide
  h_S_ := by decide
  bcast_S_S1024x1024 := by decide
  reducesTo_S1024x1024_S_d0_1 := by decide
  bcast_S_S4x1024x8x128 := by decide
  reducesTo_S4x1024x8x128_S_d0_1_2_3 := by decide

theorem facts_reference : Cert.Pre_finite_inputs_ReferenceIdeal.Facts where
  bcast_S_S4x256x1024 := by decide
  reducesTo_S4x256x1024_S_d0_1_2 := by decide
  h_S_ := by decide
  bcast_S_S1024x8192 := by decide
  reducesTo_S1024x8192_S_d0_1 := by decide
  bcast_S_S4x1024x64x128 := by decide
  reducesTo_S4x1024x64x128_S_d0_1_2_3 := by decide

theorem real_of_abs {x : EReal} (h : max x (-x) < ⊤) : ∃ r : ℝ, x = r := by
  have h1 : x ≠ ⊤ := fun e => by simp [e] at h
  have h2 : x ≠ ⊥ := fun e => by simp [e] at h
  exact ⟨x.toReal, (EReal.coe_toReal h1 h2).symm⟩

theorem top : Ideal.ofBits .f32 0x7F800000#32 = ⊤ := by simp [Ideal.ofBits, Ideal.ieee]

/-- An array whose absolute values all lie below infinity holds reals. -/
theorem all_real {s : Shape} {axes : List (Fin s.rank)} (x : FVec Ideal s .f32) (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (h : Host.reduce IntOp.andi (cmpf .olt (Host.absf x) (broadcastInDim s ![] hb (constant ⟨0, ![]⟩ .f32 0x7F800000#32))) (constantI ⟨0, ![]⟩ 1 1#1) hr hu j = 1#1)
    (i : s.Idx) : ∃ r : ℝ, x i = r := by
  haveI : Subsingleton (⟨0, ![]⟩ : Shape).Idx := ⟨fun a b => funext fun k => k.elim0⟩
  have hi := Host.reduce_andi_all _ _ hr hu j h i
  refine real_of_abs ?_
  rw [← top]
  by_contra hn
  have h0 : cmpf .olt (Host.absf x) (broadcastInDim s ![] hb (constant ⟨0, ![]⟩ .f32 0x7F800000#32)) i = 0#1 := by
    show BitVec.ofBool (decide (max (x i : EReal) (-(x i : EReal)) < Ideal.ofBits .f32 0x7F800000#32)) = 0#1
    rw [decide_eq_false hn]
    rfl
  rw [h0] at hi
  exact absurd hi (by decide)

open Cert.KernelIdeal in
theorem inputs_real {m : (ℓ : Loc nD τ sig) → Buf (Elt Ideal) ℓ} (h : Cert.Pre_KernelIdeal_finite_inputs_KernelIdeal (hPre_finite_inputs_KernelIdeal := facts_kernel) m) (c : Dev nD) :
    (∀ i, ∃ r : ℝ, (m ((c.tc : Thread nD τ).loc main_arg0) : FVec Ideal S4x256x1024 .f32) i = ((r : ℝ) : EReal))
      ∧ (∀ i, ∃ r : ℝ, (m ((c.tc : Thread nD τ).loc main_arg1) : FVec Ideal S1024x1024 .f32) i = ((r : ℝ) : EReal))
      ∧ ∀ i, ∃ r : ℝ, (m ((c.tc : Thread nD τ).loc main_arg2) : FVec Ideal S4x1024x8x128 .f32) i = ((r : ℝ) : EReal) := by
  have hc := congrFun (h c) (Shape.Idx.first facts_kernel.h_S_)
  obtain ⟨h12, h3⟩ := IntOp.andi_eq_one.1 hc
  obtain ⟨h1, h2⟩ := IntOp.andi_eq_one.1 h12
  exact ⟨all_real _ _ _ _ _ h1, all_real _ _ _ _ _ h2, all_real _ _ _ _ _ h3⟩

end Cert.Finite

end
-- ==== Proof.Cube.lean ====
/-
  The arithmetic of the exchange on eight devices: who exchanges with whom, which rows of the accumulator
  each device holds before and after a stage, and where in the receive buffer a stage's rows land.
-/
module

public import proofs.«01_k».proof.Proof.Gen.KernelIdeal

@[expose] public section

namespace Cert.Cube

/-- The position of a device on the cube: its number with the lowest bit flipped where the second bit is set. -/
def place (n : ℕ) : ℕ := n ^^^ ((n >>> 1) &&& 1)

/-- The device across the cube from `c` along direction `m`. -/
def across (m : Fin 3) (c : Fin 8) : Fin 8 := Fin.ofNat 8 (place (place c.val ^^^ (1 <<< m.val)))

/-- Which side of direction `m` device `c` lies on. -/
def side (m : Fin 3) (c : Fin 8) : Bool := (place c.val).testBit m.val

/-- The direction in which group `g` exchanges at level `j`. -/
def dir (g : Fin 3) (j : ℕ) : Fin 3 := Fin.ofNat 3 (8 - g.val - j)

/-- The peer of `c` at level `j` of group `g`. -/
def peer (g : Fin 3) (j : ℕ) (c : Fin 8) : Fin 8 := across (dir g j) c

/-- How many rows of group `g` a device holds at level `j`. -/
def sz (g : Fin 3) (j : ℕ) : ℕ := (if g = 2 then 256 else 384) / 2 ^ j

/-- The first row of group `g` that device `c` holds at level `j`. -/
def keep (g : Fin 3) : ℕ → Fin 8 → ℕ
  | 0, _ => 384 * g.val
  | j + 1, c => keep g j c + if side (dir g j) c then sz g (j + 1) else 0

/-- The first of the rows device `c` gives away at level `j`: the other half of what it holds. -/
def give (g : Fin 3) (j : ℕ) (c : Fin 8) : ℕ := keep g j c + if side (dir g j) c then 0 else sz g (j + 1)

/-- Where stage `s` of group `g` lands in the receive buffer. -/
def land (g : Fin 3) (s : ℕ) : ℕ := 336 * g.val + (sz g 0 - sz g s)

/-- The level of the `k`-th exchange of a group: down through 0, 1, 2 and back. -/
def lev (k : Fin 6) : Fin 3 := if h : k.val < 3 then ⟨k.val, h⟩ else ⟨5 - k.val, by omega⟩

/-- The peer of the `k`-th exchange. -/
def mate (g : Fin 3) (k : Fin 6) (c : Fin 8) : Fin 8 := peer g (lev k).val c

/-- The device that ends the descent with row `r`. -/
def owner (r : ℕ) : Fin 8 :=
  ((List.finRange 8).find? fun c => decide (keep (Fin.ofNat 3 (r / 384)) 3 c ≤ r)
    && decide (r < keep (Fin.ofNat 3 (r / 384)) 3 c + sz (Fin.ofNat 3 (r / 384)) 3)).getD 0

theorem across_across : ∀ (m : Fin 3) (c : Fin 8), across m (across m c) = c := by decide +kernel

theorem mate_mate : ∀ (g : Fin 3) (k : Fin 6) (c : Fin 8), mate g k (mate g k c) = c := by decide +kernel

theorem across_inj (m : Fin 3) : Function.Injective (across m) :=
  fun a b h => by rw [← across_across m a, h, across_across]

theorem mate_inj (g : Fin 3) (k : Fin 6) : Function.Injective (mate g k) :=
  fun a b h => by rw [← mate_mate g k a, h, mate_mate]

theorem across_ne_dir : ∀ (m m' : Fin 3) (c : Fin 8), across m c = across m' c → m = m' := by decide +kernel

theorem dir_dir : ∀ (g m : Fin 3), dir g (dir g m.val).val = m := by decide +kernel

theorem give_peer : ∀ (g j : Fin 3) (c : Fin 8), give g j.val (peer g j.val c) = keep g (j.val + 1) c := by decide +kernel

theorem keep_peer_succ : ∀ (g j : Fin 3) (c : Fin 8), keep g (j.val + 1) (peer g j.val c) = give g j.val c := by decide +kernel

theorem sz_halves : ∀ (g j : Fin 3), sz g j.val = sz g (j.val + 1) + sz g (j.val + 1) := by decide +kernel

theorem keep_lt : ∀ (g : Fin 3) (j : Fin 4) (c : Fin 8), keep g j.val c + sz g j.val ≤ 1024 := by decide +kernel

theorem give_lt : ∀ (g : Fin 3) (j : Fin 3) (c : Fin 8), give g j.val c + sz g (j.val + 1) ≤ 1024 := by decide +kernel

theorem land_lt : ∀ (g s : Fin 3), land g s.val + sz g (s.val + 1) ≤ 896 := by decide +kernel

theorem sz_pos : ∀ (g : Fin 3) (j : Fin 4), 0 < sz g j.val := by decide +kernel

theorem owner_block : ∀ (g : Fin 3) (c : Fin 8) (k : Fin 48), k.val < sz g 3 → owner (keep g 3 c + k.val) = c := by decide +kernel

theorem sz_last : ∀ g : Fin 3, sz g 3 ≤ 48 := by decide +kernel

theorem owner_eq (g : Fin 3) (c : Fin 8) (r : ℕ) (h₁ : keep g 3 c ≤ r) (h₂ : r < keep g 3 c + sz g 3) : owner r = c := by
  have hs : sz g 3 ≤ 48 := sz_last g
  have := owner_block g c ⟨r - keep g 3 c, by omega⟩ (by show r - keep g 3 c < sz g 3; omega)
  rwa [show keep g 3 c + (⟨r - keep g 3 c, by omega⟩ : Fin 48).val = r from by show keep g 3 c + (r - keep g 3 c) = r; omega] at this

theorem lev_of_lt (k : Fin 6) (h : k.val < 3) : (lev k).val = k.val := by unfold lev; rw [dif_pos h]
theorem lev_of_ge (k : Fin 6) (h : 3 ≤ k.val) : (lev k).val = 5 - k.val := by unfold lev; rw [dif_neg (by omega)]

end Cert.Cube
-- ==== Proof.Strips.lean ====
/-
  Strips of rows of the accumulator and of the receive buffer: the elements a slice of whole rows covers, how two
  neighbouring strips join, and what a copy of one strip onto another leaves.
-/
module

public import proofs.«01_k».proof.Proof.Cube
public import proofs.«01_k».proof.Proof.Gen.KernelIdeal.Launch
public import Idealize.ShloMosaic.Lib.Rounds

@[expose] public section

set_option maxRecDepth 16384

noncomputable section

namespace Cert.KernelIdeal.Hand

open Idealize.ShloMosaic Idealize.ShloMosaic.TcCoe
open Idealize.SL Idealize.SL.Sem
open Cert.KernelIdeal Cert.Cube

variable {F : FTy → Type} [FloatOps F]

/-- `n` rows of 1024 elements. -/
abbrev strip (n : ℕ) : Shape := ⟨2, ![n, 1024]⟩

/-- The elements of rows `a` to `a + n` of an array of `m` rows. -/
def rows (m a n : ℕ) : Finset (strip m).Idx := Finset.univ.filter fun i => a ≤ (i 0).val ∧ (i 0).val < a + n

theorem mem_rows {m a n : ℕ} {i : (strip m).Idx} : i ∈ rows m a n ↔ a ≤ (i 0).val ∧ (i 0).val < a + n := by
  unfold rows; rw [Finset.mem_filter]; exact ⟨fun h => h.2, fun h => ⟨Finset.mem_univ _, h⟩⟩

theorem rows_all (m : ℕ) : rows m 0 m = Finset.univ := by
  ext i; rw [mem_rows]
  exact ⟨fun _ => Finset.mem_univ _, fun _ => ⟨Nat.zero_le _, by rw [Nat.zero_add]; exact (i 0).isLt⟩⟩

theorem rows_append (m a n n' : ℕ) : rows m a (n + n') = rows m a n ∪ rows m (a + n) n' := by
  ext i; rw [Finset.mem_union, mem_rows, mem_rows, mem_rows]; omega

theorem rows_disjoint (m a n n' : ℕ) : Disjoint (rows m a n) (rows m (a + n) n') := by
  rw [Finset.disjoint_left]; intro i; rw [mem_rows, mem_rows]; omega

theorem rect_rows {m a n : ℕ} (inb : ∀ x, (![a, 0] : Fin 2 → ℕ) x + (strip n).size x ≤ (strip m).size x) :
    (Rect.unit (s := strip m) ![a, 0] (strip n).size inb).set = rows m a n := by
  ext i; rw [mem_rows]
  refine Rect.mem_set_unit.trans ⟨fun h => h 0, fun h x => ?_⟩
  match x with
  | 0 => exact h
  | 1 => exact ⟨Nat.zero_le _, by show (i 1).val < 0 + 1024; rw [Nat.zero_add]; exact (i 1).isLt⟩

/-- The element of row `r` and column `q`. -/
def at2 {m : ℕ} (r : Fin m) (q : Fin 1024) : (strip m).Idx := fun x => match x with | 0 => r | 1 => q

theorem at2_self {m : ℕ} (i : (strip m).Idx) : at2 (i 0) (i 1) = i := by
  funext x; match x with | 0 => rfl | 1 => rfl

/-- The accumulator's element `a - o` rows below element `i` of another array. -/
def shift {m : ℕ} (o a : ℕ) (i : (strip m).Idx) : S1024x1024.Idx := at2 (m := 1024) (Fin.ofNat 1024 (a + ((i 0).val - o))) (i 1)

theorem shift_self (a : ℕ) (i : S1024x1024.Idx) (h : a ≤ (i 0).val) : shift (m := 1024) a a i = i := by
  unfold shift
  conv_rhs => rw [← at2_self (m := 1024) i]
  congr 1
  apply Fin.ext
  have : (i 0).val < 1024 := (i 0).isLt
  show (a + ((i 0).val - a)) % 1024 = (i 0).val
  omega

abbrev accM : Memref sig .tc .vmem S1024x1024 .bf16 := Memref.whole cc1_scratch0
abbrev rsM : Memref sig .tc .vmem S896x1024 .bf16 := Memref.whole cc1_scratch1

/-- Contents of the accumulator, and of the receive buffer. -/
abbrev Acc (F : FTy → Type) : Type := S1024x1024.Idx → Elt F .bf16
abbrev Rcv (F : FTy → Type) : Type := S896x1024.Idx → Elt F .bf16

/-- What the receive buffer holds of an accumulator `X` whose rows from `a` landed at row `o`. -/
def landed (X : Acc F) (a o : ℕ) : Rcv F := fun i => X (shift (m := 896) o a i)

section Slices

variable {a o n : ℕ} {off off' : Fin 2 → ℕ}
  (inb : ∀ x, off x + (strip n).size x ≤ S1024x1024.size x) (inb' : ∀ x, off' x + (strip n).size x ≤ S896x1024.size x)
  (h₁ : ∀ x, (Rect.unit (s := S1024x1024) off (strip n).size inb).stride x = 1) (h₂ : ∀ x, (Rect.unit (s := S896x1024) off' (strip n).size inb').stride x = 1)

theorem acc_emb (ho : off = ![a, 0]) (x : (strip n).Idx) :
    (Rect.unit (s := S1024x1024) off (strip n).size inb).emb x = shift (m := n) 0 a x := by
  subst ho
  funext y
  apply Fin.ext
  have h0 := inb 0
  have hx : (x 0).val < n := (x 0).isLt
  have hb : a + n ≤ 1024 := h0
  match y with
  | 0 => show a + 1 * (x 0).val = (a + ((x 0).val - 0)) % 1024; omega
  | 1 => show 0 + 1 * (x 1).val = (x 1).val; omega

theorem acc_set (ho : off = ![a, 0]) : (accM.slice (Rect.unit (s := S1024x1024) off (strip n).size inb) h₁).view.set = rows 1024 a n := by
  subst ho
  exact (View.set_slice_whole cc1_scratch0 _).trans (rect_rows (m := 1024) inb)

theorem rs_set (ho : off' = ![o, 0]) : (rsM.slice (Rect.unit (s := S896x1024) off' (strip n).size inb') h₂).view.set = rows 896 o n := by
  subst ho
  exact (View.set_slice_whole cc1_scratch1 _).trans (rect_rows (m := 896) inb')

/-- An element of a strip of the receive buffer, as the strip's own. -/
theorem rs_emb (ho : off' = ![o, 0]) (i : S896x1024.Idx) (hi : i ∈ rows 896 o n) :
    ∃ x : (strip n).Idx, (Rect.unit (s := S896x1024) off' (strip n).size inb').emb x = i ∧ (x 0).val = (i 0).val - o ∧ x 1 = i 1 := by
  subst ho
  obtain ⟨h0, h1⟩ := (mem_rows (m := 896)).mp hi
  refine ⟨at2 (m := n) ⟨(i 0).val - o, by omega⟩ (i 1), ?_, rfl, rfl⟩
  funext y
  apply Fin.ext
  match y with
  | 0 => show o + 1 * ((i 0).val - o) = (i 0).val; omega
  | 1 => show 0 + 1 * (i 1).val = (i 1).val; omega

theorem acc_emb' (ho : off = ![a, 0]) (i : S1024x1024.Idx) (hi : i ∈ rows 1024 a n) :
    ∃ x : (strip n).Idx, (Rect.unit (s := S1024x1024) off (strip n).size inb).emb x = i ∧ (x 0).val = (i 0).val - a ∧ x 1 = i 1 := by
  subst ho
  obtain ⟨h0, h1⟩ := (mem_rows (m := 1024)).mp hi
  refine ⟨at2 (m := n) ⟨(i 0).val - a, by omega⟩ (i 1), ?_, rfl, rfl⟩
  funext y
  apply Fin.ext
  match y with
  | 0 => show a + 1 * ((i 0).val - a) = (i 0).val; omega
  | 1 => show 0 + 1 * (i 1).val = (i 1).val; omega

/-- A copy of a strip of the accumulator into the receive buffer. -/
theorem copy_land (ho : off = ![a, 0]) (ho' : off' = ![o, 0]) (X : Acc F) (fd : Rcv F) (i : S896x1024.Idx) (hi : i ∈ rows 896 o n) :
    (rsM.slice (Rect.unit (s := S896x1024) off' (strip n).size inb') h₂).view.write (Elt F) fd
      ((accM.slice (Rect.unit (s := S1024x1024) off (strip n).size inb) h₁).view.read (Elt F) X) Finset.univ i = landed X a o i := by
  obtain ⟨x, rfl, hx0, hx1⟩ := rs_emb inb' ho' i hi
  refine (View.write_emb_of_mem _ _ (Finset.mem_univ x)).trans ?_
  refine (View.read_apply _ x).trans ?_
  show X ((Rect.unit (s := S1024x1024) off (strip n).size inb).emb x) = _
  rw [acc_emb inb ho]
  unfold landed shift
  rw [← hx0, ← hx1]
  rfl

/-- A copy of a strip of the accumulator onto the same rows of another device's. -/
theorem copy_same (ho : off = ![a, 0]) (X fd : Acc F) (i : S1024x1024.Idx) (hi : i ∈ rows 1024 a n) :
    (accM.slice (Rect.unit (s := S1024x1024) off (strip n).size inb) h₁).view.write (Elt F) fd
      ((accM.slice (Rect.unit (s := S1024x1024) off (strip n).size inb) h₁).view.read (Elt F) X) Finset.univ i = X i := by
  obtain ⟨x, rfl, -, -⟩ := acc_emb' inb ho i hi
  exact (View.write_emb_of_mem _ _ (Finset.mem_univ x)).trans (View.read_apply _ x)

theorem acc_readAt (ho : off = ![a, 0]) (X : Acc F) :
    accM.view.readAt (Elt F) (Rect.unit (s := S1024x1024) off (strip n).size inb).toLoadRect X = fun x => X (shift (m := n) 0 a x) := by
  funext x
  refine (View.readAt_apply _ _ x).trans ?_
  rw [← acc_emb inb ho x]
  rfl

theorem rs_readAt (ho' : off' = ![o, 0]) (X : Acc F) (ha : a + n ≤ 1024) :
    rsM.view.readAt (Elt F) (Rect.unit (s := S896x1024) off' (strip n).size inb').toLoadRect (landed X a o) = fun x => X (shift (m := n) 0 a x) := by
  subst ho'
  funext x
  refine (View.readAt_apply _ _ x).trans ?_
  show X _ = X _
  congr 1
  funext y
  apply Fin.ext
  match y with
  | 0 => show (a + ((o + 1 * (x 0).val) - o)) % 1024 = (a + ((x 0).val - 0)) % 1024
         congr 1; omega
  | 1 => show 0 + 1 * (x 1).val = (x 1).val; omega

/-- A store onto a strip of the accumulator, of a value given element by element by the accumulator's own. -/
theorem acc_store (ho : off = ![a, 0]) (X Y : Acc F) (w : (strip n).Idx → Elt F .bf16) (hw : w = fun x => Y (shift (m := n) 0 a x))
    (i : S1024x1024.Idx) (hi : i ∈ rows 1024 a n) :
    (accM.access (Rect.unit (s := S1024x1024) off (strip n).size inb)).write (Elt F) X w Finset.univ i = Y i := by
  obtain ⟨x, rfl, -, -⟩ := acc_emb' inb ho i hi
  refine (View.write_emb_of_mem _ _ (Finset.mem_univ x)).trans ?_
  rw [hw]
  exact congrArg Y (acc_emb inb ho x).symm

end Slices

end Cert.KernelIdeal.Hand
-- ==== Proof.Proto.lean ====
/-
  The protocol of the exchange: the partial sums it builds, the semaphore cells with what each hands over, and what a
  device owes at every point of the kernel.
-/
module

public import proofs.«01_k».proof.Proof.Strips
public import proofs.«01_k».proof.Proof.Gen.KernelIdeal.Skeleton
public import Idealize.ShloMosaic.Lib.Pipeline.RegionTalk

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.Cube

variable {F : FTy → Type} [FloatOps F]

/-! ## The partial sums -/

/-- Device `c`'s partial sum over the first `j` exchanges of group `g`, from the blocks `A` the devices start with. -/
def psum (A : Dev nD → Acc F) (g : Fin 3) : ℕ → Dev nD → Acc F
  | 0, c => A c
  | j + 1, c => (addf (F := F) (s := S1024x1024) (φ := .bf16) (psum A g j c) (psum A g j (peer g j c)) : FVec F S1024x1024 .bf16)

/-- The sum over all devices, each row as the device that ends the descent with it computes it. -/
def total (A : Dev nD → Acc F) : Acc F := fun i => psum A (Fin.ofNat 3 ((i 0).val / 384)) 3 (owner (i 0).val) i

theorem keep_group : ∀ (g : Fin 3) (c : Fin 8), 384 * g.val ≤ keep g 3 c ∧ keep g 3 c + sz g 3 ≤ 384 * (g.val + 1) := by decide +kernel

theorem total_eq (A : Dev nD → Acc F) (g : Fin 3) (c : Dev nD) (i : S1024x1024.Idx) (hi : i ∈ rows 1024 (keep g 3 c) (sz g 3)) :
    psum A g 3 c i = total A i := by
  obtain ⟨h₁, h₂⟩ := (mem_rows (m := 1024)).mp hi
  obtain ⟨h₃, h₄⟩ := keep_group g c
  unfold total
  rw [owner_eq g c _ h₁ h₂, show (Fin.ofNat 3 ((i 0).val / 384) : Fin 3) = g from Fin.ext (by
    show (i 0).val / 384 % 3 = g.val
    have := g.isLt
    omega)]

/-! ## Resources and cells -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- An exchange: its group and its number. -/
abbrev Ex : Type := Fin 3 × Fin 6

def sendS (p : Ex) : DmaSem sig := ⟨12 + (6 * p.1.val + p.2.val), by show _ < 48; omega⟩
def recvS (p : Ex) : DmaSem sig := ⟨30 + (6 * p.1.val + p.2.val), by show _ < 48; omega⟩
abbrev barS : Sem sig := barrier0

abbrev barCell (c : Dev nD) : GSem nD τ sig := ((c : Thread nD τ), .reg barS)
abbrev sendCell (c : Dev nD) (p : Ex) : GSem nD τ sig := ((c : Thread nD τ), .dma (sendS p))
abbrev recvCell (c : Dev nD) (p : Ex) : GSem nD τ sig := ((c : Thread nD τ), .dma (recvS p))

/-- The exchange a semaphore at distance `n` from the first of its array belongs to. -/
def exOf (n : ℕ) : Ex := (Fin.ofNat 3 (n / 6), Fin.ofNat 6 n)

theorem exOf_eq (p : Ex) : exOf (6 * p.1.val + p.2.val) = p := by
  obtain ⟨g, k⟩ := p
  refine Prod.ext (Fin.ext ?_) (Fin.ext ?_)
  · show (6 * g.val + k.val) / 6 % 3 = g.val; omega
  · show (6 * g.val + k.val) % 6 = k.val; omega

/-- How many rows an exchange moves. -/
abbrev cnt (p : Ex) : ℕ := sz p.1 ((lev p.2).val + 1)

/-- What a copy of `n` rows credits. -/
def credit (n : ℕ) : ℕ := sig.dmaCredit .tc (Kind.table .tc .vmem) cc1_scratch1.idx (strip n) .bf16

theorem credit_pos (n : ℕ) (h : 0 < n) : 0 < credit n := sig.dmaCredit_pos _ _ _ _ _ (by
  show 0 < (strip n).numel
  simp [Shape.numel, Fin.prod_univ_two]
  exact h)

theorem cnt_pos (p : Ex) : 0 < cnt p := sz_pos p.1 ⟨(lev p.2).val + 1, by omega⟩

abbrev Nx (p : Ex) : ℕ := credit (cnt p)

/-- Rows `a` to `a + n` of device `c`'s accumulator, at `X`. -/
def accP (c : Dev nD) (a n : ℕ) (X : Acc F) : sProp 𝕄 := accM.view.loc (c : Thread nD τ) ↦[rows 1024 a n]{fullShare} X
/-- The same rows at contents not chosen. -/
def accAny (c : Dev nD) (a n : ℕ) : sProp 𝕄 := iprop(∃ X, accP c a n X)
/-- The rows of device `c`'s receive buffer where stage `s` of group `g` lands, at `Y`. -/
def rsP (c : Dev nD) (g : Fin 3) (s : Fin 3) (Y : Rcv F) : sProp 𝕄 :=
  rsM.view.loc (c : Thread nD τ) ↦[rows 896 (land g s.val) (sz g (s.val + 1))]{fullShare} Y
def rsAny (c : Dev nD) (g : Fin 3) (s : Fin 3) : sProp 𝕄 := iprop(∃ Y, rsP c g s Y)

/-! ## The schedule -/

variable (A : Dev nD → Acc F)

/-- Paid to `c`'s barrier cell by the device across direction `m`: its landing rows for the exchanges along `m`, and that its
    receive cells are open. -/
def barPay (c : Dev nD) (m : Fin 3) : sProp 𝕄 :=
  iprop((bigSep Finset.univ fun g : Fin 3 => rsAny (across m c) g (dir g m.val))
    ∗ bigSep Finset.univ fun p : Ex => reached ER (recvCell (across m c) p) 0)

/-- A send cell gives back the rows sent, on the way up; on the way down they go to the receiver. -/
def sendPay (c : Dev nD) (p : Ex) : sProp 𝕄 :=
  if p.2.val < 3 then iprop(emp) else accP c (keep p.1 ((lev p.2).val + 1) c) (cnt p) (total A)

/-- A receive cell gives, on the way down, the landing rows at the peer's partial sum and the peer's rows it came from; on the
    way up the rows the peer had summed, at the total. -/
def recvPay (c : Dev nD) (p : Ex) : sProp 𝕄 :=
  if p.2.val < 3 then
    iprop(rsP c p.1 (lev p.2) (landed (psum A p.1 (lev p.2).val (mate p.1 p.2 c)) (keep p.1 ((lev p.2).val + 1) c) (land p.1 (lev p.2).val))
      ∗ accAny (mate p.1 p.2 c) (keep p.1 ((lev p.2).val + 1) c) (cnt p))
  else accP c (give p.1 (lev p.2).val c) (cnt p) (total A)

def rd : Rounds.Schedule (GSem nD τ sig) (Fin 3) 𝕄 where
  duties g r := if r = 0 ∧ g.1.2 = .tc then
      (match g.2 with
        | .reg _ => Finset.univ
        | .dma q => if 12 ≤ q.val then {0} else ∅)
    else ∅
  unitless _ := False
  amount g _ _ := match g.2 with
    | .reg _ => 1
    | .dma q => Nx (if q.val < 30 then exOf (q.val - 12) else exOf (q.val - 30))
  payload g _ d := match g.2 with
    | .reg _ => barPay g.1.1 d
    | .dma q => if q.val < 30 then sendPay A g.1.1 (exOf (q.val - 12)) else recvPay A g.1.1 (exOf (q.val - 30))
  amount_pos g _ _ _ := by
    dsimp only
    split
    · exact Nat.one_pos
    · exact credit_pos _ (cnt_pos _)

set_option synthInstance.maxHeartbeats 400000 in
instance rd_payload_storable (g : GSem nD τ sig) (r : ℕ) (d : Fin 3) :
    BI.Storable (upEmb : UEmb _ 𝕄) ((rd (F := F) A).payload g r d) := by
  dsimp only [rd]
  unfold sendPay recvPay barPay rsAny accAny accP rsP
  (repeat' split) <;> infer_instance

section Sched

variable (c : Dev nD) (p : Ex) (d : Fin 3)

theorem sendS_val : (sendS p).val - 12 = 6 * p.1.val + p.2.val := by show 12 + (6 * p.1.val + p.2.val) - 12 = _; omega
theorem recvS_val : (recvS p).val - 30 = 6 * p.1.val + p.2.val := by show 30 + (6 * p.1.val + p.2.val) - 30 = _; omega
theorem sendS_lt : (sendS p).val < 30 := by show 12 + (6 * p.1.val + p.2.val) < 30; omega
theorem recvS_ge : ¬ (recvS p).val < 30 := by show ¬ 30 + (6 * p.1.val + p.2.val) < 30; omega

theorem duties_bar : (rd (F := F) A).duties (barCell c) 0 = Finset.univ := by dsimp only [rd]; exact if_pos ⟨rfl, rfl⟩
theorem duties_send : (rd (F := F) A).duties (sendCell c p) 0 = {0} := by
  dsimp only [rd]; rw [if_pos ⟨rfl, rfl⟩]; exact if_pos (by show 12 ≤ 12 + _; omega)
theorem duties_recv : (rd (F := F) A).duties (recvCell c p) 0 = {0} := by
  dsimp only [rd]; rw [if_pos ⟨rfl, rfl⟩]; exact if_pos (by show 12 ≤ 30 + _; omega)
theorem duties_later (g : GSem nD τ sig) : ∀ r, 1 ≤ r → (rd (F := F) A).duties g r = ∅ :=
  fun r hr => by dsimp only [rd]; rw [if_neg (fun h => by omega)]

theorem amount_bar : (rd (F := F) A).amount (barCell c) 0 d = 1 := rfl
theorem amount_send : (rd (F := F) A).amount (sendCell c p) 0 d = Nx p := by
  dsimp only [rd]; rw [if_pos (sendS_lt p), sendS_val, exOf_eq]
theorem amount_recv : (rd (F := F) A).amount (recvCell c p) 0 d = Nx p := by
  dsimp only [rd]; rw [if_neg (recvS_ge p), recvS_val, exOf_eq]

theorem payload_bar : (rd (F := F) A).payload (barCell c) 0 d = barPay c d := rfl
theorem payload_send : (rd (F := F) A).payload (sendCell c p) 0 d = sendPay A c p := by
  dsimp only [rd]; rw [if_pos (sendS_lt p), sendS_val, exOf_eq]
theorem payload_recv : (rd (F := F) A).payload (recvCell c p) 0 d = recvPay A c p := by
  dsimp only [rd]; rw [if_neg (recvS_ge p), recvS_val, exOf_eq]

theorem expect_bar : (rd (F := F) A).expect (barCell c) 0 = 3 := by
  unfold Schedule.expect Schedule.amountOf
  rw [duties_bar, Finset.sum_congr rfl fun d _ => amount_bar A c d]; rfl
theorem expect_send : (rd (F := F) A).expect (sendCell c p) 0 = Nx p := by
  unfold Schedule.expect Schedule.amountOf; rw [duties_send, Finset.sum_singleton, amount_send]
theorem expect_recv : (rd (F := F) A).expect (recvCell c p) 0 = Nx p := by
  unfold Schedule.expect Schedule.amountOf; rw [duties_recv, Finset.sum_singleton, amount_recv]

theorem rest_bar : bigSep ((rd (F := F) A).duties (barCell c) 0 \ ∅) (fun u => (rd (F := F) A).payload (barCell c) 0 u)
    = bigSep Finset.univ fun m => barPay c m := by
  rw [Finset.sdiff_empty, duties_bar]; rfl
theorem rest_send : bigSep ((rd (F := F) A).duties (sendCell c p) 0 \ ∅) (fun u => (rd (F := F) A).payload (sendCell c p) 0 u) = sendPay A c p := by
  rw [Finset.sdiff_empty, duties_send, bigSep_singleton, payload_send]
theorem rest_recv : bigSep ((rd (F := F) A).duties (recvCell c p) 0 \ ∅) (fun u => (rd (F := F) A).payload (recvCell c p) 0 u) = recvPay A c p := by
  rw [Finset.sdiff_empty, duties_recv, bigSep_singleton, payload_recv]

end Sched

/-! ## What a device owes -/

/-- The exchange of the `i`-th copy a device starts. -/
def exAt (i : Fin 18) : Ex := (Fin.ofNat 3 i.val, ⟨i.val / 3, by omega⟩)

/-- What device `c` still owes before its `n`-th copy: the credit of every later one. -/
def owe (c : Dev nD) (n : ℕ) : CellTallies nD τ sig Unit :=
  ∑ i ∈ Finset.univ.filter (fun i : Fin 18 => n ≤ i.val), tallyAt (recvCell (mate (exAt i).1 (exAt i).2 c) (exAt i)) () (Nx (exAt i))

/-- What device `c` owes at the start: all of that, and a unit to the barrier of each of the three devices across. -/
def O₀ (c : Dev nD) : CellTallies nD τ sig Unit :=
  owe c 0 + tallyAt (barCell (across 2 c)) () 1 + tallyAt (barCell (across 1 c)) () 1 + tallyAt (barCell (across 0 c)) () 1

theorem owe_step (c : Dev nD) (p : Ex) : owe c (3 * p.2.val + p.1.val)
    = owe c (3 * p.2.val + p.1.val + 1) + tallyAt (recvCell (mate p.1 p.2 c) p) () (Nx p) := by
  obtain ⟨g, k⟩ := p
  have hi : 3 * k.val + g.val < 18 := by omega
  have he : exAt ⟨3 * k.val + g.val, hi⟩ = (g, k) :=
    Prod.ext (Fin.ext (by show (3 * k.val + g.val) % 3 = g.val; omega)) (Fin.ext (by show (3 * k.val + g.val) / 3 = k.val; omega))
  have hs : Finset.univ.filter (fun i : Fin 18 => 3 * k.val + g.val ≤ i.val)
      = insert ⟨3 * k.val + g.val, hi⟩ (Finset.univ.filter (fun i : Fin 18 => 3 * k.val + g.val + 1 ≤ i.val)) := by
    ext i
    rw [Finset.mem_insert, Finset.mem_filter, Finset.mem_filter, Fin.ext_iff]
    show _ ∧ _ ↔ i.val = 3 * k.val + g.val ∨ _
    constructor
    · rintro ⟨h, h'⟩
      rcases Nat.eq_or_lt_of_le h' with h'' | h''
      · exact .inl h''.symm
      · exact .inr ⟨h, h''⟩
    · rintro (h | ⟨h, h'⟩)
      · exact ⟨Finset.mem_univ _, by omega⟩
      · exact ⟨h, by omega⟩
  unfold owe
  show ∑ i ∈ Finset.univ.filter (fun i : Fin 18 => 3 * k.val + g.val ≤ i.val), _ = _
  rw [hs, Finset.sum_insert (by rw [Finset.mem_filter]; rintro ⟨-, h⟩; have h' : 3 * k.val + g.val + 1 ≤ 3 * k.val + g.val := h; omega), he, add_comm]

theorem owe_end (c : Dev nD) : owe c 18 = 0 := by
  unfold owe
  rw [Finset.filter_false_of_mem (fun i _ => by have := i.isLt; omega), Finset.sum_empty]

def L (g : GSem nD τ sig) : Finset Unit := if g.1.2 = .tc then {()} else ∅
/-- Levels: the barrier below the receive cells, these in the order of their exchanges, everything else at the bottom. -/
def lv (g : GSem nD τ sig) (_ : Unit) : ℕ := match g.2 with
  | .reg _ => 1
  | .dma q => if q.val < 30 then 0 else 2 + (exOf (q.val - 30)).2.val

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_send (c : Dev nD) (p : Ex) : lv (sendCell c p) () = 0 := by dsimp only [lv]; rw [if_pos (sendS_lt p)]
theorem lv_recv (c : Dev nD) (p : Ex) : lv (recvCell c p) () = 2 + p.2.val := by
  dsimp only [lv]; rw [if_neg (recvS_ge p), recvS_val, exOf_eq]

theorem owe_pos {c : Dev nD} {n : ℕ} {g : GSem nD τ sig} {u : Unit} (h : 0 < owe c n g u) :
    ∃ c' p, g = recvCell c' p ∧ n ≤ 3 * p.2.val + 2 := by
  unfold owe at h
  rw [Finset.sum_apply, Finsupp.finset_sum_apply] at h
  obtain ⟨i, hi, hne⟩ := Finset.exists_ne_zero_of_sum_ne_zero (Nat.pos_iff_ne_zero.mp h)
  rw [tallyAt_apply] at hne
  split at hne
  · next hg =>
    refine ⟨_, _, hg.1, ?_⟩
    have := (Finset.mem_filter.mp hi).2
    show n ≤ 3 * (i.val / 3) + 2
    omega
  · exact absurd rfl hne

/-- A device may wait on a cell below everything it still owes. -/
theorem mayWait (c : Dev nD) (sm : SemLoc sig) (n : ℕ) (h : 3 * lv ((c : Thread nD τ), sm) () < n + 4) :
    (levAts L lv : sProp 𝕄) ⊢ MayWait (c : Thread nD τ) sm () (owe c n) :=
  MayOwe.of_cut (L := L) (lev := lv) (lv ((c : Thread nD τ), sm) ()) (fun p hp => by rw [Finset.mem_singleton.mp hp, L_tc]; exact Finset.mem_singleton_self _)
    (fun g u hg => by obtain ⟨c', p, rfl, -⟩ := owe_pos hg; rw [L_tc]; exact Finset.mem_singleton_self _)
    (fun p hp => by rw [Finset.mem_singleton.mp hp])
    (fun g u hg => by obtain ⟨c', p, rfl, hn⟩ := owe_pos hg; show _ < lv (recvCell c' p) (); rw [lv_recv]; omega)

end Cert.KernelIdeal.Hand
-- ==== Proof.Steps.lean ====
/-
  The steps of the exchange. A group's state between exchanges is one assertion; sending, waiting, reading and adding each
  change one group's state.
-/
module

public import proofs.«01_k».proof.Proof.Proto
public import Idealize.ShloMosaic.Lib.Tactic
public import Idealize.ShloMosaic.Lib.Pipeline.Value

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.Cube

variable {F : FTy → Type} [FloatOps F]

local notation "𝕄" => MT nD τ sig Unit (Elt F) ℕ UU ℕ

abbrev 𝒱₀ : Variants := Variants.none

variable (A : Dev nD → Acc F) (K : GSem nD τ sig → ℕ) (c : Dev nD)

/-! ## Rows -/

theorem accP_congr {a n : ℕ} {X Y : Acc F} (h : ∀ i ∈ rows 1024 a n, X i = Y i) : (accP c a n X : sProp 𝕄) = accP c a n Y := by
  unfold accP; exact pointsTo_congr h

theorem accP_append (a n n' : ℕ) (X : Acc F) : (accP c a (n + n') X : sProp 𝕄) = iprop(accP c a n X ∗ accP c (a + n) n' X) := by
  unfold accP
  rw [rows_append]
  have h : (accM.view.loc (c : Thread nD τ) ↦[rows 1024 a n ∪ rows 1024 (a + n) n']{fullShare} X : sProp 𝕄)
      ⊣⊢ iprop((accM.view.loc (c : Thread nD τ) ↦[rows 1024 a n]{fullShare} X) ∗ accM.view.loc (c : Thread nD τ) ↦[rows 1024 (a + n) n']{fullShare} X) :=
    pointsTo_union (ℓ := accM.view.loc (c : Thread nD τ)) (I := rows 1024 a n) (J := rows 1024 (a + n) n') (rows_disjoint 1024 a n n')
  exact equiv_iff.mp ⟨h.1, h.2⟩

theorem accP_any (a n : ℕ) (X : Acc F) : (accP c a n X : sProp 𝕄) ⊢ accAny c a n := by
  unfold accAny
  iintro H
  iexists X
  iexact H

/-- The rows held at one level are those kept and those given away at it. -/
theorem accP_halves (g j : Fin 3) (X : Acc F) : (accP c (keep g j.val c) (sz g j.val) X : sProp 𝕄)
    = iprop(accP c (keep g (j.val + 1) c) (sz g (j.val + 1)) X ∗ accP c (give g j.val c) (sz g (j.val + 1)) X) := by
  rw [sz_halves g j, accP_append]
  show _ = iprop(accP c (keep g j.val c + if side (dir g j.val) c then sz g (j.val + 1) else 0) _ X
    ∗ accP c (keep g j.val c + if side (dir g j.val) c then 0 else sz g (j.val + 1)) _ X)
  cases side (dir g j.val) c
  · rfl
  · exact equiv_iff.mp ⟨BI.sep_comm, BI.sep_comm⟩

/-! ## States of a group -/

/-- The level of the rows a group holds before its `k`-th exchange. -/
def lvl (k : ℕ) : ℕ := if k < 3 then k else 6 - k

/-- What they hold. -/
def cont (g : Fin 3) (k : ℕ) (c : Dev nD) : Acc F := if k < 3 then psum A g k c else total A

/-- All that exchange `p` uses beside rows. -/
def kit (p : Ex) : sProp 𝕄 :=
  iprop((cellInv ER (rd A) (K (sendCell c p)) (sendCell c p) ∗ cellInv ER (rd A) (K (recvCell c p)) (recvCell c p)
      ∗ cellInv ER (rd A) (K (recvCell (mate p.1 p.2 c) p)) (recvCell (mate p.1 p.2 c) p)
      ∗ reached ER (sendCell c p) 0 ∗ reached ER (recvCell (mate p.1 p.2 c) p) 0)
    ∗ dutyTok ER (sendCell c p) 0 0 ∗ dutyTok ER (recvCell (mate p.1 p.2 c) p) 0 0
    ∗ atPos ER (sendCell c p) 0 ∅ 0 ∗ atPos ER (recvCell c p) 0 ∅ 0 ∗ cred (tallyAt (recvCell c p) () (Nx p)))

/-- What is left of it once the copy is started. -/
def kitR (p : Ex) : sProp 𝕄 :=
  iprop(cellInv ER (rd A) (K (recvCell c p)) (recvCell c p) ∗ atPos ER (recvCell c p) 0 ∅ 0 ∗ cred (tallyAt (recvCell c p) () (Nx p)))
def kitS (p : Ex) : sProp 𝕄 :=
  iprop(cellInv ER (rd A) (K (sendCell c p)) (sendCell c p) ∗ atPos ER (sendCell c p) 0 ∅ 0 ∗ cred (tallyAt (sendCell c p) () (Nx p)))

/-- Once it is over: both counters, at zero. -/
def done (p : Ex) : sProp 𝕄 := iprop(semVal (sendCell c p) 0 ∗ semVal (recvCell c p) 0)

/-- The exchange of the way down at level `s`, and that of the way up. -/
abbrev dn (s : Fin 3) : Fin 6 := ⟨s.val, by omega⟩
abbrev up (s : Fin 3) : Fin 6 := ⟨5 - s.val, by omega⟩

/-- What belongs to the two exchanges at level `s`, before exchange `k`. -/
def item (g s : Fin 3) (k : ℕ) : sProp 𝕄 :=
  if k ≤ s.val then iprop(rsAny (peer g s.val c) g s ∗ kit A K c (g, dn s) ∗ kit A K c (g, up s))
  else if k ≤ 5 - s.val then
    iprop(accAny (peer g s.val c) (keep g (s.val + 1) c) (sz g (s.val + 1)) ∗ kit A K c (g, up s) ∗ done c (g, dn s) ∗ rsAny c g s)
  else iprop(done c (g, up s) ∗ done c (g, dn s) ∗ rsAny c g s)

theorem item_congr (g s : Fin 3) (k : Fin 6) (h : s ≠ lev k) : (item A K c g s k.val : sProp 𝕄) = item A K c g s (k.val + 1) := by
  have h' : s.val ≠ (lev k).val := fun e => h (Fin.ext e)
  unfold item
  by_cases hk : k.val < 3
  · rw [lev_of_lt k hk] at h'
    by_cases h₁ : k.val ≤ s.val
    · rw [if_pos h₁, if_pos (by omega)]
    · rw [if_neg h₁, if_neg (by omega : ¬ k.val + 1 ≤ s.val), if_pos (by omega : k.val ≤ 5 - s.val), if_pos (by omega : k.val + 1 ≤ 5 - s.val)]
  · rw [lev_of_ge k (by omega)] at h'
    rw [if_neg (by omega : ¬ k.val ≤ s.val), if_neg (by omega : ¬ k.val + 1 ≤ s.val)]
    by_cases h₁ : k.val ≤ 5 - s.val
    · rw [if_pos h₁, if_pos (by omega : k.val + 1 ≤ 5 - s.val)]
    · rw [if_neg h₁, if_neg (by omega : ¬ k.val + 1 ≤ 5 - s.val)]

/-- What the other two levels of a group hold during exchange `k`. -/
def others (g : Fin 3) (k : Fin 6) : sProp 𝕄 := bigSep (Finset.univ.erase (lev k)) fun s => item A K c g s k.val

/-- Group `g` before exchange `k`. -/
def St (g : Fin 3) (k : ℕ) : sProp 𝕄 :=
  iprop(accP c (keep g (lvl k) c) (sz g (lvl k)) (cont A g k c) ∗ bigSep Finset.univ fun s => item A K c g s k)

theorem St_open (g : Fin 3) (k : Fin 6) : (St A K c g k.val : sProp 𝕄)
    = iprop(accP c (keep g (lvl k.val) c) (sz g (lvl k.val)) (cont A g k.val c) ∗ item A K c g (lev k) k.val ∗ others A K c g k) := by
  unfold St others
  rw [bigSep_erase (Finset.mem_univ (lev k))]
  rfl

theorem St_close (g : Fin 3) (k : Fin 6) : (St A K c g (k.val + 1) : sProp 𝕄)
    = iprop(accP c (keep g (lvl (k.val + 1)) c) (sz g (lvl (k.val + 1))) (cont A g (k.val + 1) c)
      ∗ item A K c g (lev k) (k.val + 1) ∗ others A K c g k) := by
  unfold St others
  rw [bigSep_erase (Finset.mem_univ (lev k)), bigSep_congr (s := Finset.univ.erase (lev k)) (fun s hs => item_congr A K c g s k (Finset.ne_of_mem_erase hs))]
  rfl

/-- What stays in hand of the rows, and of the level's other exchange, once the copy is started. -/
def inHand (p : Ex) : sProp 𝕄 :=
  if p.2.val < 3 then
    iprop(accP c (keep p.1 ((lev p.2).val + 1) c) (cnt p) (psum A p.1 (lev p.2).val c) ∗ kit A K c (p.1, up (lev p.2)))
  else iprop(done c (p.1, dn (lev p.2)) ∗ rsAny c p.1 (lev p.2))

/-- Group `p.1` with copy `p.2` started; with its own wait over; with both waits over. -/
def Sent (p : Ex) : sProp 𝕄 := iprop(kitS A K c p ∗ kitR A K c p ∗ inHand A K c p ∗ others A K c p.1 p.2)
def Left (p : Ex) : sProp 𝕄 := iprop((semVal (sendCell c p) 0 ∗ sendPay A c p) ∗ kitR A K c p ∗ inHand A K c p ∗ others A K c p.1 p.2)
def Here (p : Ex) : sProp 𝕄 := iprop((semVal (sendCell c p) 0 ∗ sendPay A c p) ∗ (semVal (recvCell c p) 0 ∗ recvPay A c p) ∗ inHand A K c p ∗ others A K c p.1 p.2)

/-- What device `c` owes before its `n`-th copy, with the levels known. -/
def Ow (n : ℕ) : sProp 𝕄 := iprop((∃ W, owes (c : Thread nD τ) (owe c n) W) ∗ levAts L lv)

/-! ## The four counters of a wait, and the two kinds of copy -/

theorem close (κ : ℕ) (g : GSem nD τ sig) :
    iprop(cellInv ER (rd A) κ g ∗ atPos ER g (0 + 1) ∅ 0) ⊢ (|={Set.univ}=> semVal g 0 : sProp 𝕄) :=
  Rounds.cell_close ER (rd A) (Set.mem_univ κ) id (duties_later A g)

section Steps

variable {A K c} {p : Ex} {n : ℕ} (hn : n = cnt p) {off off' : Fin 2 → ℕ}
  {inb : ∀ x, off x + (strip n).size x ≤ S1024x1024.size x} {inb' : ∀ x, off' x + (strip n).size x ≤ S896x1024.size x}
  {α : Type} {k : PUnit → Prog (TpuEff nD τ sig (Elt F) Λ₀ .tc) α}

include hn in
/-- Waiting for the own copy. -/
theorem step_left {Q : α → sProp 𝕄} {sp sp' : Space} {s s' : Shape} {e e' : EltTy} {κ' : Kind} {sm : DmaSem sig} {src : Memref sig .tc sp' s' e'}
    {dst : Memref sig κ' sp s e} {h₁ : src.view.WordExact} {h₂ : dst.view.WordExact} (hc : dst.view.dmaCredit = credit n)
    (hs : sm = sendS p) (N : ℕ) (hN : 0 < N) :
    iprop(Sent A K c p ∗ Ow c N)
      ⊢ iprop(((Left A K c p ∗ Ow c N) -∗ wp frame (wpE (defs₀ (F := F)) 𝒱₀ c none) Set.univ (k ⟨⟩) Q)
        -∗ wp frame (wpE (defs₀ (F := F)) 𝒱₀ c none) Set.univ (.op (.waitDma2 sm src dst h₁ h₂) k) Q) := by
  subst hn hs
  unfold Sent Left kitS Ow
  iintro ⟨⟨⟨#HI, Hat, Hc⟩, HkR, Hin, Hot⟩, ⟨%W, HO⟩, #Hlev⟩
  iintro Hk
  iapply (Rounds.wp_wait_rest_token 𝒱₀ ER (rd A) (c : Thread nD τ) none (κ := K (sendCell c p))
      (wpE_waitDma2_eq 𝒱₀ (c : Thread nD τ) none Set.univ) (Set.mem_univ _) () (O := owe c N) (W := W) (R := 0) (m := 0) (T := ∅)
      ((Nat.zero_add _).trans (hc.trans (expect_send A c p).symm))) $$ [Hc HO Hat]
  · isplitr; · iexact HI
    isplitl [Hc]; · rw [hc]; iexact Hc
    isplitl [HO]; · iexact HO
    isplitr
    · iapply (mayWait c (.dma (sendS p)) N (by rw [lv_send]; omega)); iexact Hlev
    iexact Hat
  iintro ⟨HO, Hat, -, Hpay⟩
  ihave Hp := (Entails.of_eq (rest_send A c p)) $$ Hpay
  imod (close A (K (sendCell c p)) (sendCell c p)) $$ [Hat] with Hs0
  · isplitr; · iexact HI
    iexact Hat
  iapply Hk
  isplitr [HO]
  · isplitl [Hs0 Hp]
    · isplitl [Hs0]; · iexact Hs0
      iexact Hp
    isplitl [HkR]; · iexact HkR
    isplitl [Hin]; · iexact Hin
    iexact Hot
  isplitl [HO]
  · iexists _; iexact HO
  iexact Hlev

include hn in
/-- Waiting for the peer's. -/
theorem step_here {Q : α → sProp 𝕄} {sp sp' : Space} {s s' : Shape} {e e' : EltTy} {κ' : Kind} {sm : DmaSem sig} {src : Memref sig .tc sp' s' e'}
    {dst : Memref sig κ' sp s e} {h₁ : src.view.WordExact} {h₂ : dst.view.WordExact} (hc : dst.view.dmaCredit = credit n)
    (hs : sm = recvS p) (N : ℕ) (hN : 3 * (p.2.val + 1) ≤ N) :
    iprop(Left A K c p ∗ Ow c N)
      ⊢ iprop(((Here A K c p ∗ Ow c N) -∗ wp frame (wpE (defs₀ (F := F)) 𝒱₀ c none) Set.univ (k ⟨⟩) Q)
        -∗ wp frame (wpE (defs₀ (F := F)) 𝒱₀ c none) Set.univ (.op (.waitDma2 sm src dst h₁ h₂) k) Q) := by
  subst hn hs
  unfold Left Here kitR Ow
  iintro ⟨⟨Hs, ⟨#HI, Hat, Hc⟩, Hin, Hot⟩, ⟨%W, HO⟩, #Hlev⟩
  iintro Hk
  iapply (Rounds.wp_wait_rest_token 𝒱₀ ER (rd A) (c : Thread nD τ) none (κ := K (recvCell c p))
      (wpE_waitDma2_eq 𝒱₀ (c : Thread nD τ) none Set.univ) (Set.mem_univ _) () (O := owe c N) (W := W) (R := 0) (m := 0) (T := ∅)
      ((Nat.zero_add _).trans (hc.trans (expect_recv A c p).symm))) $$ [Hc HO Hat]
  · isplitr; · iexact HI
    isplitl [Hc]; · rw [hc]; iexact Hc
    isplitl [HO]; · iexact HO
    isplitr
    · iapply (mayWait c (.dma (recvS p)) N (by rw [lv_recv]; omega)); iexact Hlev
    iexact Hat
  iintro ⟨HO, Hat, -, Hpay⟩
  ihave Hp := (Entails.of_eq (rest_recv A c p)) $$ Hpay
  imod (close A (K (recvCell c p)) (recvCell c p)) $$ [Hat] with Hs0
  · isplitr; · iexact HI
    iexact Hat
  iapply Hk
  isplitr [HO]
  · isplitl [Hs]; · iexact Hs
    isplitl [Hs0 Hp]
    · isplitl [Hs0]; · iexact Hs0
      iexact Hp
    isplitl [Hin]; · iexact Hin
    iexact Hot
  isplitl [HO]
  · iexists _; iexact HO
  iexact Hlev

include hn in
/-- On the way down: the half given away goes to the peer's receive buffer. -/
theorem step_down {Q : α → sProp 𝕄} {h₁ : ∀ x, (Rect.unit (s := S1024x1024) off (strip n).size inb).stride x = 1}
    {h₂ : ∀ x, (Rect.unit (s := S896x1024) off' (strip n).size inb').stride x = 1} {d : Dev nD} {sS rS : DmaSem sig} {hsc} {hw} {hw'} {hty}
    (hp : p.2.val < 3) (ho : off = ![give p.1 (lev p.2).val c, 0]) (ho' : off' = ![land p.1 (lev p.2).val, 0])
    (hd : d = mate p.1 p.2 c) (hs : sS = sendS p) (hr : rS = recvS p) (N : ℕ) (hN : N = 3 * p.2.val + p.1.val) :
    iprop(St A K c p.1 p.2.val ∗ Ow c N)
      ⊢ iprop(((Sent A K c p ∗ Ow c (N + 1)) -∗ wp frame (wpE (defs₀ (F := F)) 𝒱₀ c none) Set.univ (k ⟨⟩) Q)
        -∗ wp frame (wpE (defs₀ (F := F)) 𝒱₀ c none) Set.univ
          (.op (.enqueueDma (accM.slice (Rect.unit (s := S1024x1024) off (strip n).size inb) h₁)
            (.remote (Dev.tc d) (rsM.slice (Rect.unit (s := S896x1024) off' (strip n).size inb') h₂) (.dma sS) hsc) (.dma rS) hw hw' hty) k) Q) := by
  subst hn hd hs hr hN
  have hl : (lev p.2).val = p.2.val := lev_of_lt _ hp
  have hdn : ((p.1, dn (lev p.2)) : Ex) = p := Prod.ext rfl (Fin.ext hl)
  rw [St_open]
  unfold Sent Ow item lvl cont inHand
  rw [if_pos hp, if_pos hp, if_pos (by omega), if_pos hp, hdn, ← hl, accP_halves c p.1 (lev p.2)]
  unfold kit kitS kitR rsAny
  iintro ⟨⟨⟨Hacc, Hgive⟩, ⟨⟨%Y, Hrs⟩, ⟨⟨#HIs, #HIr, #HIm, #HrS, #HrM⟩, HtS, HtM, HaS, HaR, Hcr⟩, Hup⟩, Hot⟩, ⟨%W, HO⟩, #Hlev⟩
  iintro Hk
  iapply (Rounds.wp_send_landing_pointsTo 𝒱₀ ER (rd A) (c : Thread nD τ) none (c' := (mate p.1 p.2 c : Thread nD τ))
      (sS := .dma (sendS p)) (sem := .dma (recvS p)) (q := fullShare) (fs := psum A p.1 (lev p.2).val c) (κ₁ := K (sendCell c p)) (κ₂ := K (recvCell (mate p.1 p.2 c) p))
      (r₁ := 0) (r₂ := 0) (d₁ := 0) (d₂ := 0) (fd := Y)
      (by rw [duties_send]; exact Finset.mem_singleton_self _) (by rw [duties_recv]; exact Finset.mem_singleton_self _)
      () () (Nx p) rfl (amount_send A c p 0) (amount_recv A (mate p.1 p.2 c) p 0) (owe c (3 * p.2.val + p.1.val + 1)) (owe_step c p) (W := W)
      (by rw [payload_send]; unfold sendPay; rw [if_pos hp])
      (by
        rw [payload_recv]
        unfold recvPay rsP
        rw [if_pos hp, mate_mate, rs_set inb' h₂ ho', acc_set inb h₁ ho]
        have hk' : keep p.1 ((lev p.2).val + 1) (mate p.1 p.2 c) = give p.1 (lev p.2).val c := keep_peer_succ p.1 (lev p.2) c
        rw [hk']
        refine BI.sep_mono (Entails.of_eq (pointsTo_congr fun i hi => copy_land inb inb' h₁ h₂ ho ho' _ _ i hi)) (accP_any _ _ _ _))) $$ [Hgive Hrs HO HtS HtM]
  · isplitr; · iexact HIs
    isplitr; · iexact HIm
    isplitl [Hgive]
    · unfold accP; rw [acc_set inb h₁ ho]; iexact Hgive
    isplitl [Hrs]
    · unfold rsP; rw [rs_set inb' h₂ ho']; iexact Hrs
    isplitl [HO]; · rw [hl]; iexact HO
    isplitl [HtS]; · iexact HtS
    isplitr; · iexact HrS
    isplitl [HtM]; · iexact HtM
    iexact HrM
  iintro ⟨HcS, HO⟩
  iapply Hk
  isplitr [HO]
  · isplitl [HcS HaS]
    · isplitr; · iexact HIs
      isplitl [HaS]; · iexact HaS
      iexact HcS
    isplitl [HaR Hcr]
    · isplitr; · iexact HIr
      isplitl [HaR]; · iexact HaR
      iexact Hcr
    isplitr [Hot]
    · isplitl [Hacc]; · iexact Hacc
      iexact Hup
    iexact Hot
  isplitl [HO]
  · iexists W; rw [hl]; iexact HO
  iexact Hlev

include hn in
/-- On the way up: the rows summed go to the peer, in place. -/
theorem step_up {Q : α → sProp 𝕄} {inb₂ : ∀ x, off x + (strip n).size x ≤ S1024x1024.size x}
    {h₁ : ∀ x, (Rect.unit (s := S1024x1024) off (strip n).size inb).stride x = 1}
    {h₂ : ∀ x, (Rect.unit (s := S1024x1024) off (strip n).size inb₂).stride x = 1} {d : Dev nD} {sS rS : DmaSem sig} {hsc} {hw} {hw'} {hty}
    (hp : 3 ≤ p.2.val) (ho : off = ![keep p.1 ((lev p.2).val + 1) c, 0])
    (hd : d = mate p.1 p.2 c) (hs : sS = sendS p) (hr : rS = recvS p) (N : ℕ) (hN : N = 3 * p.2.val + p.1.val) :
    iprop(St A K c p.1 p.2.val ∗ Ow c N)
      ⊢ iprop(((Sent A K c p ∗ Ow c (N + 1)) -∗ wp frame (wpE (defs₀ (F := F)) 𝒱₀ c none) Set.univ (k ⟨⟩) Q)
        -∗ wp frame (wpE (defs₀ (F := F)) 𝒱₀ c none) Set.univ
          (.op (.enqueueDma (accM.slice (Rect.unit (s := S1024x1024) off (strip n).size inb) h₁)
            (.remote (Dev.tc d) (accM.slice (Rect.unit (s := S1024x1024) off (strip n).size inb₂) h₂) (.dma sS) hsc) (.dma rS) hw hw' hty) k) Q) := by
  subst hn hd hs hr hN
  have hp' : ¬ p.2.val < 3 := by omega
  have hl : (lev p.2).val = 5 - p.2.val := lev_of_ge _ hp
  have hup : ((p.1, up (lev p.2)) : Ex) = p := Prod.ext rfl (Fin.ext (by show 5 - (lev p.2).val = p.2.val; omega))
  have hl' : 6 - p.2.val = (lev p.2).val + 1 := by omega
  rw [St_open]
  unfold Sent Ow item lvl cont inHand
  rw [if_neg hp', if_neg hp', if_neg (by omega), if_pos (by omega), if_neg hp', hup, hl']
  unfold kit kitS kitR accAny
  iintro ⟨⟨Hacc, ⟨⟨%Y, Hdst⟩, ⟨⟨#HIs, #HIr, #HIm, #HrS, #HrM⟩, HtS, HtM, HaS, HaR, Hcr⟩, Hdn⟩, Hot⟩, ⟨%W, HO⟩, #Hlev⟩
  iintro Hk
  iapply (Rounds.wp_send_pointsTo 𝒱₀ ER (rd A) (c : Thread nD τ) none (c' := (mate p.1 p.2 c : Thread nD τ))
      (sS := .dma (sendS p)) (sem := .dma (recvS p)) (q := fullShare) (fs := total A) (κ₁ := K (sendCell c p)) (κ₂ := K (recvCell (mate p.1 p.2 c) p))
      (r₁ := 0) (r₂ := 0) (d₁ := 0) (d₂ := 0) (fd := Y)
      (by rw [duties_send]; exact Finset.mem_singleton_self _) (by rw [duties_recv]; exact Finset.mem_singleton_self _)
      () () (Nx p) rfl (amount_send A c p 0) (amount_recv A (mate p.1 p.2 c) p 0) (owe c (3 * p.2.val + p.1.val + 1)) (owe_step c p) (W := W)
      (by rw [payload_send]; unfold sendPay accP; rw [if_neg hp', acc_set inb h₁ ho])
      (by
        rw [payload_recv]
        unfold recvPay accP
        have hk' : give p.1 (lev p.2).val (mate p.1 p.2 c) = keep p.1 ((lev p.2).val + 1) c := give_peer p.1 (lev p.2) c
        rw [if_neg hp', acc_set inb₂ h₂ ho, hk']
        exact Entails.of_eq (pointsTo_congr fun i hi => copy_same inb h₁ ho _ _ i hi))) $$ [Hacc Hdst HO HtS HtM]
  · isplitr; · iexact HIs
    isplitr; · iexact HIm
    isplitl [Hacc]
    · unfold accP; rw [acc_set inb h₁ ho]; iexact Hacc
    isplitl [Hdst]
    · unfold accP; rw [acc_set inb₂ h₂ ho]; iexact Hdst
    isplitl [HO]; · iexact HO
    isplitl [HtS]; · iexact HtS
    isplitr; · iexact HrS
    isplitl [HtM]; · iexact HtM
    iexact HrM
  iintro ⟨HcS, HO⟩
  iapply Hk
  isplitr [HO]
  · isplitl [HcS HaS]
    · isplitr; · iexact HIs
      isplitl [HaS]; · iexact HaS
      iexact HcS
    isplitl [HaR Hcr]
    · isplitr; · iexact HIr
      isplitl [HaR]; · iexact HaR
      iexact Hcr
    isplitl [Hdn]; · iexact Hdn
    iexact Hot
  isplitl [HO]
  · iexists W; iexact HO
  iexact Hlev

/-- After both waits of an exchange on the way up the group holds twice the rows. -/
theorem up_done (hp : 3 ≤ p.2.val) : (Here A K c p : sProp 𝕄) ⊢ St A K c p.1 (p.2.val + 1) := by
  have hp' : ¬ p.2.val < 3 := by omega
  have hl : (lev p.2).val = 5 - p.2.val := lev_of_ge _ hp
  have hup : ((p.1, up (lev p.2)) : Ex) = p := Prod.ext rfl (Fin.ext (by show 5 - (lev p.2).val = p.2.val; omega))
  have hl' : 6 - (p.2.val + 1) = (lev p.2).val := by omega
  rw [St_close]
  unfold Here item lvl cont inHand sendPay recvPay
  rw [if_neg hp', if_neg hp', if_neg hp', if_neg (by omega), if_neg (by omega), if_neg (by omega), if_neg (by omega), hup, hl',
    accP_halves c p.1 (lev p.2)]
  iintro ⟨⟨Hs, Hk⟩, ⟨Hr, Hg⟩, ⟨Hd, Hrs⟩, Hot⟩
  isplitl [Hk Hg]
  · isplitl [Hk]; · iexact Hk
    iexact Hg
  isplitr [Hot]
  · isplitl [Hs Hr]
    · unfold done
      isplitl [Hs]; · iexact Hs
      iexact Hr
    isplitl [Hd]; · iexact Hd
    iexact Hrs
  iexact Hot

/-- Rows from `a` of contents `X`, as a strip of `n`. -/
def sl (n : ℕ) (X : Acc F) (a : ℕ) : (strip n).Idx → Elt F .bf16 := fun x => X (shift (m := n) 0 a x)

include hn in
/-- Reading the rows kept. -/
theorem step_read {Q : α → sProp 𝕄} {hl : accM.view.LoadsAt (Rect.unit (s := S1024x1024) off (strip n).size inb).toLoadRect}
    {kk : ((strip n).Idx → Elt F .bf16) → Prog (TpuEff nD τ sig (Elt F) Λ₀ .tc) α}
    (hp : p.2.val < 3) (ho : off = ![keep p.1 ((lev p.2).val + 1) c, 0]) :
    (Here A K c p : sProp 𝕄)
      ⊢ iprop((Here A K c p -∗ wp frame (wpE (defs₀ (F := F)) 𝒱₀ c none) Set.univ
            (kk (sl n (psum A p.1 (lev p.2).val c) (keep p.1 ((lev p.2).val + 1) c))) Q)
        -∗ wp frame (wpE (defs₀ (F := F)) 𝒱₀ c none) Set.univ
          (.op (.load accM (Rect.unit (s := S1024x1024) off (strip n).size inb).toLoadRect hl) kk) Q) := by
  subst hn
  unfold Here inHand
  rw [if_pos hp]
  iintro ⟨Hs, Hr, ⟨Hacc, Hup⟩, Hot⟩ Hk
  iapply (wp_load 𝒱₀ (c : Thread nD τ) none Set.univ (m := accM) (S := rows 1024 (keep p.1 ((lev p.2).val + 1) c) (cnt p)) (q := fullShare)
      (f := psum A p.1 (lev p.2).val c)
      (le_of_eq ((acc_set inb (fun _ => rfl) ho).symm ▸ View.set_slice _ _).symm)) $$ [Hacc]
  · unfold accP; iexact Hacc
  iintro Hacc
  rw [acc_readAt inb ho]
  iapply Hk
  isplitl [Hs]; · iexact Hs
  isplitl [Hr]; · iexact Hr
  isplitl [Hacc Hup]
  · isplitl [Hacc]
    · unfold accP; iexact Hacc
    iexact Hup
  iexact Hot

include hn in
/-- Reading the rows landed. -/
theorem step_readR {Q : α → sProp 𝕄} {hl : rsM.view.LoadsAt (Rect.unit (s := S896x1024) off' (strip n).size inb').toLoadRect}
    {kk : ((strip n).Idx → Elt F .bf16) → Prog (TpuEff nD τ sig (Elt F) Λ₀ .tc) α}
    (hp : p.2.val < 3) (ho : off' = ![land p.1 (lev p.2).val, 0]) :
    (Here A K c p : sProp 𝕄)
      ⊢ iprop((Here A K c p -∗ wp frame (wpE (defs₀ (F := F)) 𝒱₀ c none) Set.univ
            (kk (sl n (psum A p.1 (lev p.2).val (mate p.1 p.2 c)) (keep p.1 ((lev p.2).val + 1) c))) Q)
        -∗ wp frame (wpE (defs₀ (F := F)) 𝒱₀ c none) Set.univ
          (.op (.load rsM (Rect.unit (s := S896x1024) off' (strip n).size inb').toLoadRect hl) kk) Q) := by
  subst hn
  unfold Here recvPay
  rw [if_pos hp]
  iintro ⟨Hs, ⟨Hr, Hrs, Hany⟩, Hin, Hot⟩ Hk
  iapply (wp_load 𝒱₀ (c : Thread nD τ) none Set.univ (m := rsM) (S := rows 896 (land p.1 (lev p.2).val) (cnt p)) (q := fullShare)
      (f := landed (psum A p.1 (lev p.2).val (mate p.1 p.2 c)) (keep p.1 ((lev p.2).val + 1) c) (land p.1 (lev p.2).val))
      (le_of_eq ((rs_set inb' (fun _ => rfl) ho).symm ▸ View.set_slice _ _).symm)) $$ [Hrs]
  · unfold rsP; iexact Hrs
  iintro Hrs
  rw [rs_readAt inb' ho _ (keep_lt p.1 ⟨(lev p.2).val + 1, by omega⟩ c)]
  iapply Hk
  isplitl [Hs]; · iexact Hs
  isplitl [Hr Hrs Hany]
  · isplitl [Hr]; · iexact Hr
    isplitl [Hrs]
    · unfold rsP; iexact Hrs
    iexact Hany
  isplitl [Hin]; · iexact Hin
  iexact Hot

include hn in
/-- Storing the sum: the exchange on the way down is over. -/
theorem step_add {Q : α → sProp 𝕄} {hx : (accM.access (Rect.unit (s := S1024x1024) off (strip n).size inb)).Stores Finset.univ} {hm}
    {w : (strip n).Idx → Elt F .bf16}
    (hp : p.2.val < 3) (ho : off = ![keep p.1 ((lev p.2).val + 1) c, 0])
    (hw : w = sl n (psum A p.1 ((lev p.2).val + 1) c) (keep p.1 ((lev p.2).val + 1) c)) :
    (Here A K c p : sProp 𝕄)
      ⊢ iprop((St A K c p.1 (p.2.val + 1) -∗ wp frame (wpE (defs₀ (F := F)) 𝒱₀ c none) Set.univ (k ⟨⟩) Q)
        -∗ wp frame (wpE (defs₀ (F := F)) 𝒱₀ c none) Set.univ
          (.op (.store accM (Rect.unit (s := S1024x1024) off (strip n).size inb) w Finset.univ hx hm) k) Q) := by
  subst hn
  have hl : (lev p.2).val = p.2.val := lev_of_lt _ hp
  have hdn : ((p.1, dn (lev p.2)) : Ex) = p := Prod.ext rfl (Fin.ext hl)
  have hlv : lvl (p.2.val + 1) = (lev p.2).val + 1 := by unfold lvl; split <;> omega
  rw [St_close, hlv]
  unfold Here recvPay inHand item
  rw [if_pos hp, if_pos hp, if_neg (by omega), if_pos (by omega), hdn]
  iintro ⟨⟨Hs, -⟩, ⟨Hr, Hrs, Hany⟩, ⟨Hacc, Hup⟩, Hot⟩ Hk
  iapply (wp_store 𝒱₀ (c : Thread nD τ) none Set.univ (m := accM) (r := Rect.unit (s := S1024x1024) off (strip (cnt p)).size inb) (S := rows 1024 (keep p.1 ((lev p.2).val + 1) c) (cnt p))
      (f := psum A p.1 (lev p.2).val c)
      (le_of_eq (acc_set inb (fun _ => rfl) ho))) $$ [Hacc]
  · unfold accP; iexact Hacc
  iintro Hacc
  iapply Hk
  isplitl [Hacc]
  · rw [accP_congr (Y := (accM.access (Rect.unit (s := S1024x1024) off (strip (cnt p)).size inb)).write (Elt F) (psum A p.1 (lev p.2).val c) w Finset.univ)
      c (fun i hi => by
        rw [acc_store inb ho _ _ w hw i hi, ← hl]
        unfold cont
        split
        · rfl
        · next h =>
          have h2 : (lev p.2).val + 1 = 3 := by omega
          rw [h2] at hi ⊢
          exact (total_eq A p.1 c i hi).symm)]
    unfold accP
    iexact Hacc
  isplitr [Hot]
  · isplitl [Hany]
    · iexact Hany
    isplitl [Hup]; · iexact Hup
    isplitl [Hs Hr]
    · unfold done
      isplitl [Hs]; · iexact Hs
      iexact Hr
    unfold rsAny
    iexists _
    iexact Hrs
  iexact Hot

/-- The sum of two strips. -/
theorem added (h : (strip n).ShapeCasts (strip n)) (X Y : Acc F) (a : ℕ) :
    shapeCast (strip n) (addf (F := F) (s := strip n) (φ := .bf16) (sl n X a) (sl n Y a)) h
      = sl n (addf (F := F) (s := S1024x1024) (φ := .bf16) X Y) a := shapeCast_self _ h

include hn in
/-- The whole of the addition: both strips read, the accumulator's once more, the sum stored. -/
theorem step_sum {Q : α → sProp 𝕄} {hl hl₂ : accM.view.LoadsAt (Rect.unit (s := S1024x1024) off (strip n).size inb).toLoadRect}
    {hl' : rsM.view.LoadsAt (Rect.unit (s := S896x1024) off' (strip n).size inb').toLoadRect}
    {hx : (accM.access (Rect.unit (s := S1024x1024) off (strip n).size inb)).Stores Finset.univ} {hm}
    {w : ((strip n).Idx → Elt F .bf16) → ((strip n).Idx → Elt F .bf16) → (strip n).Idx → Elt F .bf16}
    (hp : p.2.val < 3) (ho : off = ![keep p.1 ((lev p.2).val + 1) c, 0]) (ho' : off' = ![land p.1 (lev p.2).val, 0])
    (hs : (strip n).ShapeCasts (strip n))
    (hw : ∀ u v, w u v = shapeCast (strip n) (addf (F := F) (s := strip n) (φ := .bf16) u v) hs) :
    (Here A K c p : sProp 𝕄)
      ⊢ iprop((St A K c p.1 (p.2.val + 1) -∗ wp frame (wpE (defs₀ (F := F)) 𝒱₀ c none) Set.univ (k ⟨⟩) Q)
        -∗ wp frame (wpE (defs₀ (F := F)) 𝒱₀ c none) Set.univ
          (.op (.load accM (Rect.unit (s := S1024x1024) off (strip n).size inb).toLoadRect hl) fun u =>
            .op (.load rsM (Rect.unit (s := S896x1024) off' (strip n).size inb').toLoadRect hl') fun v =>
            .op (.load accM (Rect.unit (s := S1024x1024) off (strip n).size inb).toLoadRect hl₂) fun _ =>
            .op (.store accM (Rect.unit (s := S1024x1024) off (strip n).size inb) (w u v) Finset.univ hx hm) k) Q) := by
  iintro H Hk
  iapply (step_read hn hp ho) $$ H
  iintro H
  iapply (step_readR hn hp ho') $$ H
  iintro H
  iapply (step_read hn hp ho) $$ H
  iintro H
  iapply (step_add hn hp ho ((hw _ _).trans (added hs _ _ _))) $$ H
  iexact Hk

include hn in
/-- Waiting for the peer's copy on the way up: the exchange is over. -/
theorem step_home {Q : α → sProp 𝕄} {sp sp' : Space} {s s' : Shape} {e e' : EltTy} {κ' : Kind} {sm : DmaSem sig} {src : Memref sig .tc sp' s' e'}
    {dst : Memref sig κ' sp s e} {h₁ : src.view.WordExact} {h₂ : dst.view.WordExact} (hp : 3 ≤ p.2.val) (hc : dst.view.dmaCredit = credit n)
    (hs : sm = recvS p) (N : ℕ) (hN : 3 * (p.2.val + 1) ≤ N) :
    iprop(Left A K c p ∗ Ow c N)
      ⊢ iprop(((St A K c p.1 (p.2.val + 1) ∗ Ow c N) -∗ wp frame (wpE (defs₀ (F := F)) 𝒱₀ c none) Set.univ (k ⟨⟩) Q)
        -∗ wp frame (wpE (defs₀ (F := F)) 𝒱₀ c none) Set.univ (.op (.waitDma2 sm src dst h₁ h₂) k) Q) := by
  iintro H Hk
  iapply (step_here hn hc hs N hN) $$ H
  iintro ⟨H, HO⟩
  iapply Hk
  isplitl [H]
  · iapply (up_done hp) $$ H
  iexact HO

end Steps

end Cert.KernelIdeal.Hand
-- ==== Proof.Barrier.lean ====
/-
  The ends of the exchange: whole buffers read and written, the hellos to the three neighbours, and the wait for theirs.
-/
module

public import proofs.«01_k».proof.Proof.Steps
public import Idealize.ShloMosaic.Lib.VecWindow

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.Cube

variable {F : FTy → Type} [FloatOps F]

local notation "𝕄" => MT nD τ sig Unit (Elt F) ℕ UU ℕ

variable {A : Dev nD → Acc F} {K : GSem nD τ sig → ℕ} {c : Dev nD} {α : Type}

/-! ## Whole buffers -/

section Whole

variable {sp : CoreSpace} {s : Shape} {e : EltTy} {m : Memref sig .tc sp s e} {off : Fin s.rank → ℕ}
  {inb : ∀ x, off x + s.size x ≤ s.size x}

theorem set_full : m.view.setOn (Rect.unit (s := s) off s.size inb).toLoadRect.set = m.view.set := by
  have h : (Rect.unit (s := s) off s.size inb).toLoadRect.set = Finset.univ := by
    ext i
    refine ⟨fun _ => Finset.mem_univ _, fun _ => Rect.mem_set_unit.mpr fun a => ?_⟩
    have := inb a
    have := (i a).isLt
    omega
  rw [h, View.setOn_univ]

/-- Reading a whole buffer. -/
theorem step_load {Q : α → sProp 𝕄} {X : s.Idx → Elt F e} {q : PosShare TreeShare}
    {hl : m.view.LoadsAt (Rect.unit (s := s) off s.size inb).toLoadRect}
    {kk : (s.Idx → Elt F e) → Prog (TpuEff nD τ sig (Elt F) Λ₀ .tc) α} :
    (owns (c : Thread nD τ) m q X : sProp 𝕄)
      ⊢ iprop((owns (c : Thread nD τ) m q X -∗ wp frame (wpE (defs₀ (F := F)) 𝒱₀ c none) Set.univ (kk X) Q)
        -∗ wp frame (wpE (defs₀ (F := F)) 𝒱₀ c none) Set.univ
          (.op (.load m (Rect.unit (s := s) off s.size inb).toLoadRect hl) kk) Q) := by
  unfold owns
  iintro ⟨%f, %hf, H⟩ Hk
  iapply (wp_load 𝒱₀ (c : Thread nD τ) none Set.univ (m := m) (S := m.view.set) (q := q) (f := f) (le_of_eq set_full)) $$ H
  iintro H
  rw [View.readAt_full, hf]
  iapply Hk
  iexists f
  isplitr
  · ipureintro; exact hf
  iexact H

/-- Writing one. -/
theorem step_store {Q : α → sProp 𝕄} {X w : s.Idx → Elt F e} {k : PUnit → Prog (TpuEff nD τ sig (Elt F) Λ₀ .tc) α}
    {hx : (m.access (Rect.unit (s := s) off s.size inb)).Stores Finset.univ} {hm} :
    (owns (c : Thread nD τ) m fullShare X : sProp 𝕄)
      ⊢ iprop((owns (c : Thread nD τ) m fullShare w -∗ wp frame (wpE (defs₀ (F := F)) 𝒱₀ c none) Set.univ (k ⟨⟩) Q)
        -∗ wp frame (wpE (defs₀ (F := F)) 𝒱₀ c none) Set.univ
          (.op (.store m (Rect.unit (s := s) off s.size inb) w Finset.univ hx hm) k) Q) := by
  unfold owns
  iintro ⟨%f, -, H⟩ Hk
  iapply (wp_store 𝒱₀ (c : Thread nD τ) none Set.univ (m := m) (r := Rect.unit (s := s) off s.size inb) (S := m.view.set) (f := f)
    (le_of_eq (((m.access (Rect.unit (s := s) off s.size inb)).setOn_univ).trans ((View.set_slice _ _).trans set_full)))) $$ [H]
  · iexact H
  iintro H
  iapply Hk
  iexists _
  isplitr
  · ipureintro; exact View.read_writes_full m.view f inb w []
  iexact H

end Whole

/-- The accumulator, whole. -/
theorem acc_whole (X : Acc F) : (owns (c : Thread nD τ) accM fullShare X : sProp 𝕄) = accP c 0 1024 X := by
  unfold accP
  rw [rows_all]
  exact owns_whole _ _ _ _

/-! ## The barrier -/

/-- What the hello across direction `m` uses. -/
def hello (A : Dev nD → Acc F) (K : GSem nD τ sig → ℕ) (c : Dev nD) (m : Fin 3) : sProp 𝕄 :=
  iprop(cellInv ER (rd A) (K (barCell (across m c))) (barCell (across m c)) ∗ dutyTok ER (barCell (across m c)) 0 m
    ∗ reached ER (barCell (across m c)) 0 ∗ barPay (across m c) m)

/-- What is owed once `m` hellos are said. -/
def owing (c : Dev nD) (m : ℕ) : CellTallies nD τ sig Unit :=
  if m = 0 then O₀ c else if m = 1 then owe c 0 + tallyAt (barCell (across 2 c)) () 1 + tallyAt (barCell (across 1 c)) () 1
  else if m = 2 then owe c 0 + tallyAt (barCell (across 2 c)) () 1 else owe c 0

theorem owing_step (c : Dev nD) : ∀ m : Fin 3, owing c m.val = owing c (m.val + 1) + tallyAt (barCell (across m c)) () 1
  | 0 => rfl
  | 1 => rfl
  | 2 => rfl

/-- Telling a neighbour that it may start. -/
theorem step_hello {Q : α → sProp 𝕄} {k : PUnit → Prog (TpuEff nD τ sig (Elt F) Λ₀ .tc) α} {dst : Dev nD} {sm : Sem sig} {j : ℕ} (m : Fin 3)
    (hd : dst = across m c) (hs : sm = barS) (hj : j = 1) :
    iprop(hello A K c m ∗ ∃ W, owes (c : Thread nD τ) (owing c m.val) W)
      ⊢ iprop(((∃ W, owes (c : Thread nD τ) (owing c (m.val + 1)) W) -∗ wp frame (wpE (defs₀ (F := F)) 𝒱₀ c none) Set.univ (k ⟨⟩) Q)
        -∗ wp frame (wpE (defs₀ (F := F)) 𝒱₀ c none) Set.univ (.op (.semSignal (dst, Proc.tc) sm j) k) Q) := by
  subst hd hs hj
  unfold hello
  iintro ⟨⟨HI, Ht, Hr, Hp⟩, %W, HO⟩ Hk
  iapply (Rounds.wp_signal 𝒱₀ ER (rd A) (c : Thread nD τ) none (dst := ((across m c : Dev nD) : Thread nD τ)) (sem := barS) (r := 0) (d := m)
    (κ := K (barCell (across m c))) (by rw [duties_bar]; exact Finset.mem_univ m) (amount_bar A (across m c) m) () (owing c (m.val + 1)) (owing_step c m))
    $$ [HI Ht Hr Hp HO]
  · isplitl [HI]; · iexact HI
    isplitl [HO]; · iexact HO
    isplitl [Ht]; · iexact Ht
    isplitl [Hp]; · rw [payload_bar]; iexact Hp
    iexact Hr
  iintro HO
  iapply Hk
  iexists _
  iexact HO

/-- What the wait for the three neighbours uses. -/
def meet (A : Dev nD → Acc F) (K : GSem nD τ sig → ℕ) (c : Dev nD) : sProp 𝕄 :=
  iprop(cellInv ER (rd A) (K (barCell c)) (barCell c) ∗ atPos ER (barCell c) 0 ∅ 0 ∗ cred (tallyAt (barCell c) () 3))

theorem step_meet {Q : α → sProp 𝕄} {k : PUnit → Prog (TpuEff nD τ sig (Elt F) Λ₀ .tc) α} {sm : Sem sig} {j : ℕ} (hs : sm = barS) (hj : j = 3) :
    iprop(meet A K c ∗ Ow c 0)
      ⊢ iprop((((bigSep Finset.univ fun m => barPay c m) ∗ semVal (barCell c) 0 ∗ Ow c 0)
          -∗ wp frame (wpE (defs₀ (F := F)) 𝒱₀ c none) Set.univ (k ⟨⟩) Q)
        -∗ wp frame (wpE (defs₀ (F := F)) 𝒱₀ c none) Set.univ (.op (.semWait sm j) k) Q) := by
  subst hs hj
  unfold meet Ow
  iintro ⟨⟨#HI, Hat, Hc⟩, ⟨%W, HO⟩, #Hlev⟩ Hk
  iapply (Rounds.wp_wait_rest_token 𝒱₀ ER (rd A) (c : Thread nD τ) none (κ := K (barCell c))
      (wpE_semWait_eq 𝒱₀ (c : Thread nD τ) none Set.univ) (Set.mem_univ _) () (O := owe c 0) (W := W) (R := 0) (m := 0) (T := ∅)
      ((Nat.zero_add _).trans (expect_bar A c).symm)) $$ [Hc HO Hat]
  · isplitr; · iexact HI
    isplitl [Hc]; · iexact Hc
    isplitl [HO]; · iexact HO
    isplitr
    · iapply (mayWait c (.reg barS) 0 (by rw [lv_bar]; omega)); iexact Hlev
    iexact Hat
  iintro ⟨HO, Hat, -, Hpay⟩
  ihave Hp := (Entails.of_eq (rest_bar A c)) $$ Hpay
  imod (close A (K (barCell c)) (barCell c)) $$ [Hat] with Hs0
  · isplitr; · iexact HI
    iexact Hat
  iapply Hk
  isplitl [Hp]; · iexact Hp
  isplitl [Hs0]; · iexact Hs0
  isplitl [HO]
  · iexists _; iexact HO
  iexact Hlev

end Cert.KernelIdeal.Hand
-- ==== Proof.Ends.lean ====
/-
  How the three groups' states are put together from the buffers and the cells, and taken apart again.
-/
module

public import proofs.«01_k».proof.Proof.Barrier
public import Idealize.ShloMosaic.Lib.Ring

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.Cube

variable {F : FTy → Type} [FloatOps F]

local notation "𝕄" => MT nD τ sig Unit (Elt F) ℕ UU ℕ

/-! ## Families over the exchanges -/

section Families

variable {M : Type} [URA M]

theorem over3 (Φ : Fin 3 → sProp M) : bigSep Finset.univ Φ = iprop(Φ 0 ∗ Φ 1 ∗ Φ 2) := by
  rw [show (Finset.univ : Finset (Fin 3)) = {0, 1, 2} by decide, bigSep_insert (by decide), bigSep_insert (by decide), bigSep_singleton]
  rfl

theorem over6 (Φ : Fin 6 → sProp M) : bigSep Finset.univ Φ = bigSep Finset.univ fun s : Fin 3 => iprop(Φ (dn s) ∗ Φ (up s)) := by
  rw [bigSep_sep', show (Finset.univ : Finset (Fin 6))
      = (Finset.univ : Finset (Fin 3)).map ⟨dn, by decide⟩ ∪ (Finset.univ : Finset (Fin 3)).map ⟨up, by decide⟩ by decide,
    BI.bigSep_union (by decide), BI.bigSep_map, BI.bigSep_map]
  rfl

theorem overEx (Φ : Ex → sProp M) : bigSep Finset.univ Φ
    = bigSep Finset.univ fun g : Fin 3 => bigSep Finset.univ fun s : Fin 3 => iprop(Φ (g, dn s) ∗ Φ (g, up s)) := by
  rw [bigSep_univ_prod]
  exact bigSep_congr fun g _ => over6 _

/-- The directions of a group are its levels in another order. -/
def dirs (g : Fin 3) : Fin 3 ≃ Fin 3 := ⟨fun s => dir g s.val, fun m => dir g m.val, dir_dir g, dir_dir g⟩

theorem overDirs (Φ : Fin 3 → Fin 3 → Fin 3 → sProp M) :
    (bigSep Finset.univ fun m => bigSep Finset.univ fun g => Φ m g (dir g m.val))
      = bigSep Finset.univ fun g => bigSep Finset.univ fun s => Φ (dir g s.val) g s := by
  rw [bigSep_univ_comm]
  refine bigSep_congr fun g _ => ?_
  rw [bigSep_univ_equiv (dirs g)]
  refine bigSep_congr fun s _ => ?_
  show Φ (dir g s.val) g (dir g (dir g s.val).val) = _
  rw [dir_dir]

end Families

variable (A : Dev nD → Acc F) (K : GSem nD τ sig → ℕ) (c : Dev nD)

/-! ## The receive buffer -/

/-- The rows where stage `s` of group `g` lands. -/
abbrev slot (p : Fin 3 × Fin 3) : Finset S896x1024.Idx := rows 896 (land p.1 p.2.val) (sz p.1 (p.2.val + 1))

theorem slots_apart : ∀ p q : Fin 3 × Fin 3, p ≠ q →
    land p.1 p.2.val + sz p.1 (p.2.val + 1) ≤ land q.1 q.2.val ∨ land q.1 q.2.val + sz q.1 (q.2.val + 1) ≤ land p.1 p.2.val := by
  decide +kernel

theorem slots_all : ∀ r : Fin 896, ∃ p : Fin 3 × Fin 3, land p.1 p.2.val ≤ r.val ∧ r.val < land p.1 p.2.val + sz p.1 (p.2.val + 1) := by
  decide +kernel

theorem slots_disj (p q : Fin 3 × Fin 3) (h : p ≠ q) : Disjoint (slot p) (slot q) := by
  rw [Finset.disjoint_left]
  intro i hi hj
  have := (mem_rows (m := 896)).mp hi
  have := (mem_rows (m := 896)).mp hj
  have := slots_apart p q h
  omega

theorem slots_cover : (Finset.univ : Finset (Fin 3 × Fin 3)).biUnion slot = Finset.univ := by
  ext i
  refine ⟨fun _ => Finset.mem_univ _, fun _ => ?_⟩
  obtain ⟨p, hp⟩ := slots_all (i 0)
  exact Finset.mem_biUnion.mpr ⟨p, Finset.mem_univ _, (mem_rows (m := 896)).mpr hp⟩

/-- All of the receive buffer, slot by slot. -/
def rsAll : sProp 𝕄 := bigSep Finset.univ fun g : Fin 3 => bigSep Finset.univ fun s : Fin 3 => rsAny c g s

theorem rsAny_intro (g s : Fin 3) (Y : Rcv F) : (rsM.view.loc (c : Thread nD τ) ↦[slot (g, s)]{fullShare} Y : sProp 𝕄) ⊢ rsAny c g s := by
  unfold rsAny rsP
  iintro H
  iexists Y
  iexact H

theorem rs_split (Y : Rcv F) : ((rsM.view.loc (c : Thread nD τ)) ↦{fullShare} Y : sProp 𝕄) ⊢ rsAll c := by
  rw [Ring.pointsTo_blocks (ℓ := rsM.view.loc (c : Thread nD τ)) slot slots_disj slots_cover Y, bigSep_univ_prod]
  unfold rsAll
  exact bigSep_mono fun g _ => bigSep_mono fun s _ => rsAny_intro c g s Y

theorem rs_join (Y : Rcv F) : (rsAll c : sProp 𝕄) ⊢ iprop(∃ Y : Rcv F, (rsM.view.loc (c : Thread nD τ)) ↦{fullShare} Y) := by
  refine BIBase.Entails.trans ?_ (Ring.pointsTo_blocks_join_exists (ℓ := rsM.view.loc (c : Thread nD τ)) slot slots_disj slots_cover (q := fullShare) Y)
  rw [bigSep_univ_prod]
  exact BI.Entails.refl _

/-! ## The accumulator -/

theorem acc_groups (X : Acc F) : (accP c 0 1024 X : sProp 𝕄) = bigSep Finset.univ fun g : Fin 3 => accP c (keep g 0 c) (sz g 0) X := by
  rw [over3, show (1024 : ℕ) = 384 + (384 + 256) from rfl, accP_append, accP_append]
  rfl

/-! ## The kits -/

/-- A kit, before the peer has said that its cells are open. -/
def kit0 (p : Ex) : sProp 𝕄 :=
  iprop((cellInv ER (rd A) (K (sendCell c p)) (sendCell c p) ∗ cellInv ER (rd A) (K (recvCell c p)) (recvCell c p)
      ∗ cellInv ER (rd A) (K (recvCell (mate p.1 p.2 c) p)) (recvCell (mate p.1 p.2 c) p) ∗ reached ER (sendCell c p) 0)
    ∗ dutyTok ER (sendCell c p) 0 0 ∗ dutyTok ER (recvCell (mate p.1 p.2 c) p) 0 0
    ∗ atPos ER (sendCell c p) 0 ∅ 0 ∗ atPos ER (recvCell c p) 0 ∅ 0 ∗ cred (tallyAt (recvCell c p) () (Nx p)))

theorem kit_of (p : Ex) : iprop(kit0 A K c p ∗ reached ER (recvCell (mate p.1 p.2 c) p) 0) ⊢ (kit A K c p : sProp 𝕄) := by
  unfold kit0 kit
  iintro ⟨⟨⟨H1, H2, H3, H4⟩, H⟩, H5⟩
  isplitr [H]
  · isplitl [H1]; · iexact H1
    isplitl [H2]; · iexact H2
    isplitl [H3]; · iexact H3
    isplitl [H4]; · iexact H4
    iexact H5
  iexact H

theorem barPay_own (m : Fin 3) : (barPay (across m c) m : sProp 𝕄)
    = iprop((bigSep Finset.univ fun g : Fin 3 => rsAny c g (dir g m.val)) ∗ bigSep Finset.univ fun p : Ex => reached ER (recvCell c p) 0) := by
  unfold barPay; rw [across_across]

/-- A hello, before the landing rows are added. -/
def hello0 (m : Fin 3) : sProp 𝕄 :=
  iprop(cellInv ER (rd A) (K (barCell (across m c))) (barCell (across m c)) ∗ dutyTok ER (barCell (across m c)) 0 m
    ∗ reached ER (barCell (across m c)) 0)

theorem bigSep_pers {I : Type} [DecidableEq I] {s : Finset I} {P : sProp 𝕄} [BI.Persistent P] {Φ Ψ : I → sProp 𝕄} (h : ∀ i, iprop(P ∗ Φ i) ⊢ Ψ i) :
    iprop(P ∗ bigSep s Φ) ⊢ bigSep s Ψ := by
  induction s using Finset.induction_on with
  | empty => rw [bigSep_empty, bigSep_empty]; exact sep_elim_right
  | insert a t ha ih =>
    rw [show bigSep (insert a t) Φ = iprop(Φ a ∗ bigSep t Φ) from bigSep_insert ha, show bigSep (insert a t) Ψ = iprop(Ψ a ∗ bigSep t Ψ) from bigSep_insert ha]
    iintro ⟨#HP, H1, H2⟩
    isplitl [H1]
    · iapply (h a)
      isplitr; · iexact HP
      iexact H1
    iapply ih
    isplitr; · iexact HP
    iexact H2

theorem hellos : iprop((bigSep Finset.univ fun p : Ex => reached ER (recvCell c p) 0) ∗ rsAll c ∗ bigSep Finset.univ fun m => hello0 A K c m)
    ⊢ (bigSep Finset.univ fun m => hello A K c m : sProp 𝕄) := by
  have h : (rsAll c : sProp 𝕄) = bigSep (Finset.univ : Finset (Fin 3)) fun m => bigSep (Finset.univ : Finset (Fin 3)) fun g => rsAny c g (dir g m.val) :=
    (overDirs fun _ g s => rsAny c g s).symm
  have h2 (m : Fin 3) : iprop((bigSep Finset.univ fun p : Ex => reached ER (recvCell c p) 0)
      ∗ (bigSep Finset.univ fun g : Fin 3 => rsAny c g (dir g m.val)) ∗ hello0 A K c m) ⊢ (hello A K c m : sProp 𝕄) := by
    unfold hello0 hello
    rw [barPay_own]
    iintro ⟨Hr, Hs, H1, H2, H3⟩
    isplitl [H1]; · iexact H1
    isplitl [H2]; · iexact H2
    isplitl [H3]; · iexact H3
    isplitl [Hs]; · iexact Hs
    iexact Hr
  rw [h, ← bigSep_sep']
  exact bigSep_pers (fun m => h2 m)

theorem St_zero (g : Fin 3) : (St A K c g 0 : sProp 𝕄) = iprop(accP c (keep g 0 c) (sz g 0) (A c)
    ∗ bigSep Finset.univ fun s : Fin 3 => iprop(rsAny (peer g s.val c) g s ∗ kit A K c (g, dn s) ∗ kit A K c (g, up s))) := by
  unfold St
  rw [bigSep_congr (fun s _ => show item A K c g s 0 = _ from if_pos (Nat.zero_le _))]
  rfl

theorem St_six (g : Fin 3) : (St A K c g 6 : sProp 𝕄) = iprop(accP c (keep g 0 c) (sz g 0) (total A)
    ∗ bigSep Finset.univ fun s : Fin 3 => iprop(done c (g, up s) ∗ done c (g, dn s) ∗ rsAny c g s)) := by
  unfold St
  rw [bigSep_congr (fun s _ => show item A K c g s 6 = _ from (if_neg (by omega)).trans (if_neg (by omega)))]
  rfl

/-- What the hellos brought, group by group. -/
theorem bars : (bigSep Finset.univ fun m => barPay c m : sProp 𝕄)
    ⊢ iprop((bigSep Finset.univ fun g : Fin 3 => bigSep Finset.univ fun s : Fin 3 => rsAny (peer g s.val c) g s)
      ∗ bigSep Finset.univ fun p : Ex => reached ER (recvCell (mate p.1 p.2 c) p) 0) := by
  have h1 : (bigSep (Finset.univ : Finset (Fin 3)) fun m => bigSep (Finset.univ : Finset (Fin 3)) fun g => rsAny (across m c) g (dir g m.val) : sProp 𝕄)
      = bigSep Finset.univ fun g : Fin 3 => bigSep Finset.univ fun s : Fin 3 => rsAny (peer g s.val c) g s :=
    overDirs fun m g s => rsAny (across m c) g s
  have h2 : (bigSep (Finset.univ : Finset (Fin 3)) fun m => bigSep (Finset.univ : Finset Ex) fun p => (reached ER (recvCell (across m c) p) 0 : sProp 𝕄))
      ⊢ bigSep (Finset.univ : Finset Ex) fun p => (reached ER (recvCell (mate p.1 p.2 c) p) 0 : sProp 𝕄) := by
    rw [bigSep_univ_comm]
    exact bigSep_mono fun p _ =>
      bigSep_elim (Φ := fun m => (reached ER (recvCell (across m c) p) 0 : sProp 𝕄)) (Finset.mem_univ (dir p.1 (lev p.2).val))
  have h3 : (bigSep Finset.univ fun m => barPay c m : sProp 𝕄)
      = iprop((bigSep (Finset.univ : Finset (Fin 3)) fun m => bigSep (Finset.univ : Finset (Fin 3)) fun g => rsAny (across m c) g (dir g m.val))
        ∗ bigSep (Finset.univ : Finset (Fin 3)) fun m => bigSep (Finset.univ : Finset Ex) fun p => (reached ER (recvCell (across m c) p) 0 : sProp 𝕄)) :=
    bigSep_sep' _ _ _
  rw [h3, h1]
  iintro ⟨H1, H2⟩
  isplitl [H1]; · iexact H1
  iapply h2
  iexact H2

/-- The three groups, from what the neighbours' hellos brought. -/
theorem bundle : iprop((bigSep Finset.univ fun m => barPay c m) ∗ accP c 0 1024 (A c) ∗ bigSep Finset.univ fun p => kit0 A K c p)
    ⊢ (bigSep Finset.univ fun g => St A K c g 0 : sProp 𝕄) := by
  have h2 : iprop((bigSep Finset.univ fun p => kit0 A K c p) ∗ bigSep Finset.univ fun p : Ex => reached ER (recvCell (mate p.1 p.2 c) p) 0)
      ⊢ (bigSep Finset.univ fun g : Fin 3 => bigSep Finset.univ fun s : Fin 3 => iprop(kit A K c (g, dn s) ∗ kit A K c (g, up s)) : sProp 𝕄) := by
    rw [← bigSep_sep', ← overEx (fun p => kit A K c p)]
    exact bigSep_mono fun p _ => kit_of A K c p
  have h3 : (bigSep Finset.univ fun g => St A K c g 0 : sProp 𝕄) = iprop((bigSep Finset.univ fun g : Fin 3 => accP c (keep g 0 c) (sz g 0) (A c))
      ∗ (bigSep Finset.univ fun g : Fin 3 => bigSep Finset.univ fun s : Fin 3 => rsAny (peer g s.val c) g s)
      ∗ bigSep Finset.univ fun g : Fin 3 => bigSep Finset.univ fun s : Fin 3 => iprop(kit A K c (g, dn s) ∗ kit A K c (g, up s))) := by
    rw [← bigSep_sep', ← bigSep_sep']
    refine bigSep_congr fun g _ => ?_
    rw [St_zero, bigSep_sep']
  rw [h3, acc_groups]
  iintro ⟨Hb, HA, Hk⟩
  ihave Hb := (bars c) $$ Hb
  icases Hb with ⟨Hs, Hr⟩
  isplitl [HA]; · iexact HA
  isplitl [Hs]; · iexact Hs
  iapply h2
  isplitl [Hk]; · iexact Hk
  iexact Hr

/-- And back. -/
theorem unbundle : (bigSep Finset.univ fun g => St A K c g 6 : sProp 𝕄)
    ⊢ iprop(accP c 0 1024 (total A) ∗ (bigSep Finset.univ fun p => done c p) ∗ rsAll c) := by
  have h1 (g s : Fin 3) : iprop(done c (g, up s) ∗ done c (g, dn s) ∗ rsAny c g s)
      ⊢ (iprop((done c (g, dn s) ∗ done c (g, up s)) ∗ rsAny c g s) : sProp 𝕄) := by
    iintro ⟨H1, H2, H3⟩
    isplitl [H1 H2]
    · isplitl [H2]; · iexact H2
      iexact H1
    iexact H3
  have h2 : (bigSep Finset.univ fun g => St A K c g 6 : sProp 𝕄) = iprop((bigSep Finset.univ fun g : Fin 3 => accP c (keep g 0 c) (sz g 0) (total A))
      ∗ bigSep Finset.univ fun g : Fin 3 => bigSep Finset.univ fun s : Fin 3 => iprop(done c (g, up s) ∗ done c (g, dn s) ∗ rsAny c g s)) := by
    rw [← bigSep_sep']
    exact bigSep_congr fun g _ => St_six A K c g
  rw [h2, acc_groups, overEx (fun p => done c p)]
  refine BI.sep_mono (Entails.refl _) ?_
  unfold rsAll
  rw [← bigSep_sep']
  refine bigSep_mono fun g _ => ?_
  rw [← bigSep_sep']
  exact bigSep_mono fun s _ => h1 g s

end Cert.KernelIdeal.Hand
-- ==== Proof.Offsets.lean ====
/-
  The offsets, devices and semaphores the kernel computes, in closed form.
-/
module

public import proofs.«01_k».proof.Proof.Strips
public import proofs.«01_k».proof.Proof.Gen.KernelIdeal.Skeleton

@[expose] public section

set_option maxRecDepth 16384

noncomputable section

namespace Cert.KernelIdeal.Hand

open Idealize.ShloMosaic Idealize.ShloMosaic.TcCoe
open Cert.KernelIdeal Cert.KernelIdeal.Gen Cert.Cube

theorem off1_0 : ∀ d : Dev nD, k1_off1 d 0#32 4#32 = ![give 0 0 d, 0] := by decide +kernel
theorem off1_1 : ∀ d : Dev nD, k1_off1 d 384#32 2#32 = ![give 1 0 d, 0] := by decide +kernel
theorem off2_2 : ∀ d : Dev nD, k1_off2 d = ![give 2 0 d, 0] := by decide +kernel
theorem off3_0 : ∀ d : Dev nD, k1_off3 d 0#32 4#32 = ![keep 0 1 d, 0] := by decide +kernel
theorem off3_1 : ∀ d : Dev nD, k1_off3 d 384#32 2#32 = ![keep 1 1 d, 0] := by decide +kernel
theorem off4_2 : ∀ d : Dev nD, k1_off4 d = ![keep 2 1 d, 0] := by decide +kernel
theorem off5_0 : ∀ d : Dev nD, k1_off5 d 0#32 4#32 2#32 = ![give 0 1 d, 0] := by decide +kernel
theorem off5_1 : ∀ d : Dev nD, k1_off5 d 384#32 2#32 1#32 = ![give 1 1 d, 0] := by decide +kernel
theorem off6_2 : ∀ d : Dev nD, k1_off6 d = ![give 2 1 d, 0] := by decide +kernel
theorem off7_0 : ∀ d : Dev nD, k1_off7 d 0#32 4#32 2#32 = ![keep 0 2 d, 0] := by decide +kernel
theorem off7_1 : ∀ d : Dev nD, k1_off7 d 384#32 2#32 1#32 = ![keep 1 2 d, 0] := by decide +kernel
theorem off8_2 : ∀ d : Dev nD, k1_off8 d = ![keep 2 2 d, 0] := by decide +kernel
theorem off9_0 : ∀ d : Dev nD, k1_off9 d 0#32 4#32 2#32 1#32 0#32 48#32 = ![give 0 2 d, 0] := by decide +kernel
theorem off9_1 : ∀ d : Dev nD, k1_off9 d 384#32 2#32 1#32 4#32 0#32 48#32 = ![give 1 2 d, 0] := by decide +kernel
theorem off10_2 : ∀ d : Dev nD, k1_off10 d 0#32 32#32 = ![give 2 2 d, 0] := by decide +kernel
theorem off11_0 : ∀ d : Dev nD, k1_off11 d 0#32 4#32 2#32 1#32 = ![keep 0 3 d, 0] := by decide +kernel
theorem off11_1 : ∀ d : Dev nD, k1_off11 d 384#32 2#32 1#32 4#32 = ![keep 1 3 d, 0] := by decide +kernel
theorem off12_2 : ∀ d : Dev nD, k1_off12 d = ![keep 2 3 d, 0] := by decide +kernel
theorem off9_3 : ∀ d : Dev nD, k1_off9 d 0#32 4#32 2#32 1#32 48#32 0#32 = ![keep 0 3 d, 0] := by decide +kernel
theorem off9_4 : ∀ d : Dev nD, k1_off9 d 384#32 2#32 1#32 4#32 48#32 0#32 = ![keep 1 3 d, 0] := by decide +kernel
theorem off10_5 : ∀ d : Dev nD, k1_off10 d 32#32 0#32 = ![keep 2 3 d, 0] := by decide +kernel
theorem off13_0 : ∀ d : Dev nD, k1_off13 d 0#32 4#32 2#32 1#32 1#32 = ![keep 0 2 d, 0] := by decide +kernel
theorem off13_1 : ∀ d : Dev nD, k1_off13 d 384#32 2#32 1#32 4#32 4#32 = ![keep 1 2 d, 0] := by decide +kernel
theorem off14_2 : ∀ d : Dev nD, k1_off14 d = ![keep 2 2 d, 0] := by decide +kernel
theorem off15_0 : ∀ d : Dev nD, k1_off15 d 0#32 4#32 2#32 1#32 1#32 2#32 = ![keep 0 1 d, 0] := by decide +kernel
theorem off15_1 : ∀ d : Dev nD, k1_off15 d 384#32 2#32 1#32 4#32 4#32 1#32 = ![keep 1 1 d, 0] := by decide +kernel
theorem off16_2 : ∀ d : Dev nD, k1_off16 d = ![keep 2 1 d, 0] := by decide +kernel

theorem dev1_eq : ∀ d : Dev nD, k1_dev1 d = (across 0 d).val := by decide +kernel
theorem dev2_eq : ∀ d : Dev nD, k1_dev2 d = (across 1 d).val := by decide +kernel
theorem dev3_eq : ∀ d : Dev nD, k1_dev3 d = (across 2 d).val := by decide +kernel
theorem dev4_eq : ∀ d : Dev nD, k1_dev4 d = (mate 0 0 d).val := by decide +kernel
theorem dev5_eq : ∀ d : Dev nD, k1_dev5 d = (mate 1 0 d).val := by decide +kernel
theorem dev6_eq : ∀ d : Dev nD, k1_dev6 d = (mate 2 0 d).val := by decide +kernel
theorem dev7_eq : ∀ d : Dev nD, k1_dev7 d = (mate 0 1 d).val := by decide +kernel
theorem dev8_eq : ∀ d : Dev nD, k1_dev8 d = (mate 1 1 d).val := by decide +kernel
theorem dev9_eq : ∀ d : Dev nD, k1_dev9 d = (mate 2 1 d).val := by decide +kernel
theorem dev10_eq : ∀ d : Dev nD, k1_dev10 d = (mate 0 2 d).val := by decide +kernel
theorem dev11_eq : ∀ d : Dev nD, k1_dev11 d = (mate 1 2 d).val := by decide +kernel
theorem dev12_eq : ∀ d : Dev nD, k1_dev12 d = (mate 2 2 d).val := by decide +kernel
theorem dev13_eq : ∀ d : Dev nD, k1_dev13 d = (mate 0 3 d).val := by decide +kernel
theorem dev14_eq : ∀ d : Dev nD, k1_dev14 d = (mate 1 3 d).val := by decide +kernel
theorem dev15_eq : ∀ d : Dev nD, k1_dev15 d = (mate 2 3 d).val := by decide +kernel
theorem dev16_eq : ∀ d : Dev nD, k1_dev16 d = (mate 0 4 d).val := by decide +kernel
theorem dev17_eq : ∀ d : Dev nD, k1_dev17 d = (mate 1 4 d).val := by decide +kernel
theorem dev18_eq : ∀ d : Dev nD, k1_dev18 d = (mate 2 4 d).val := by decide +kernel
theorem dev19_eq : ∀ d : Dev nD, k1_dev19 d = (mate 0 5 d).val := by decide +kernel
theorem dev20_eq : ∀ d : Dev nD, k1_dev20 d = (mate 1 5 d).val := by decide +kernel
theorem dev21_eq : ∀ d : Dev nD, k1_dev21 d = (mate 2 5 d).val := by decide +kernel

theorem sem_inb : ∀ (g : Fin 3) (k : Fin 6) (a : Fin 2), (![g.val, k.val] : Fin 2 → ℕ) a + S1x1.size a ≤ S3x6.size a := by decide

theorem send_sem : ∀ (g : Fin 3) (k : Fin 6), ((cc1_scratch2.slice (Rect.unit (s := S3x6) ![g.val, k.val] S1x1.size (sem_inb g k))).squeeze S_ squeezes_S1x1_S_).sem
    = (⟨12 + (6 * g.val + k.val), by show _ < 48; omega⟩ : DmaSem sig) := by decide +kernel
theorem recv_sem : ∀ (g : Fin 3) (k : Fin 6), ((cc1_scratch3.slice (Rect.unit (s := S3x6) ![g.val, k.val] S1x1.size (sem_inb g k))).squeeze S_ squeezes_S1x1_S_).sem
    = (⟨30 + (6 * g.val + k.val), by show _ < 48; omega⟩ : DmaSem sig) := by decide +kernel

end Cert.KernelIdeal.Hand
-- ==== Proof.Parts.lean ====
/-
  The device program of the exchange, part by part.
-/
module

public import proofs.«01_k».proof.Proof.Ends
public import proofs.«01_k».proof.Proof.Offsets

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Cube

variable {F : FTy → Type} [FloatOps F]

local notation "𝕄" => MT nD τ sig Unit (Elt F) ℕ UU ℕ

variable {A : Dev nD → Acc F} {K : GSem nD τ sig → ℕ} {c : Dev nD}
  {a0 : Memref sig .tc .vmem S1024x1024 .bf16} {h0 : a0.IsWhole} {a1 : Memref sig .tc .vmem S1024x1024 .f32} {h1 : a1.IsWhole}
  {a2 : Memref sig .tc .vmem S1024x1024 .f32} {h2 : a2.IsWhole} {h3 : accM.IsWhole} {h4 : rsM.IsWhole}

theorem part3 {α : Type} {Q : α → sProp 𝕄} {κ : (Σ' (v62 : BitVec 32) (v74 : BitVec 32), BitVec 32) → Prog (TpuEff nD τ sig (Elt F) Λ₀ .tc) α} {v15 : BitVec 32} {v56 : BitVec 32} {v57 : BitVec 32} :
    iprop(St A K c 1 0 ∗ Ow c 1)
      ⊢ iprop((∀ r, (Sent A K c (1, 0) ∗ Ow c 2) -∗ wp frame (wpE (defs₀ (F := F)) 𝒱₀ c none) Set.univ (κ r) Q)
        -∗ wp frame (wpE (defs₀ (F := F)) 𝒱₀ c none) Set.univ
          (k1_part3 a0 h0 a1 h1 a2 h2 accM h3 rsM h4 cc1_scratch2 cc1_scratch3 c v15 v56 v57 >>= κ) Q) := by
  simp only [k1_part3_eq_skeleton]
  unfold k1_part3_skel
  simp only [Prog.lift, Prog.bind_op, Prog.bind_ret, Prog.pure_eq_ret, Prog.bind_assoc]
  iintro ⟨H1, HO⟩ Hk
  iapply (step_down (p := (1, 0)) (n := 192) (by decide) (by decide) (off1_1 c) (by decide) (Fin.ext (dev5_eq c)) (send_sem 1 0) (recv_sem 1 0) 1 rfl) $$ [H1 HO]
  · isplitl [H1]; · iexact H1
    iexact HO
  iintro ⟨H1, HO⟩
  ispecialize Hk $$ %_
  iapply Hk
  isplitl [H1]; · iexact H1
  iexact HO

theorem part4 {α : Type} {Q : α → sProp 𝕄} {κ : (PUnit) → Prog (TpuEff nD τ sig (Elt F) Λ₀ .tc) α} {v38 : BitVec 32} {v44 : BitVec 32} :
    iprop(Sent A K c (0, 0) ∗ St A K c 2 0 ∗ Ow c 2)
      ⊢ iprop((∀ r, (St A K c 0 1 ∗ Sent A K c (2, 0) ∗ Ow c 3) -∗ wp frame (wpE (defs₀ (F := F)) 𝒱₀ c none) Set.univ (κ r) Q)
        -∗ wp frame (wpE (defs₀ (F := F)) 𝒱₀ c none) Set.univ
          (k1_part4 a0 h0 a1 h1 a2 h2 accM h3 rsM h4 cc1_scratch2 cc1_scratch3 c v38 v44 >>= κ) Q) := by
  simp only [k1_part4_eq_skeleton]
  unfold k1_part4_skel
  simp only [Prog.lift, Prog.bind_op, Prog.bind_ret, Prog.pure_eq_ret, Prog.bind_assoc]
  iintro ⟨H0, H2, HO⟩ Hk
  iapply (step_down (p := (2, 0)) (n := 128) (by decide) (by decide) (off2_2 c) (by decide) (Fin.ext (dev6_eq c)) (send_sem 2 0) (recv_sem 2 0) 2 rfl) $$ [H2 HO]
  · isplitl [H2]; · iexact H2
    iexact HO
  iintro ⟨H2, HO⟩
  iapply (step_left (p := (0, 0)) (n := 192) (by decide) rfl (send_sem 0 0) 3 (by decide)) $$ [H0 HO]
  · isplitl [H0]; · iexact H0
    iexact HO
  iintro ⟨H0, HO⟩
  iapply (step_here (p := (0, 0)) (n := 192) (by decide) rfl (recv_sem 0 0) 3 (by decide)) $$ [H0 HO]
  · isplitl [H0]; · iexact H0
    iexact HO
  iintro ⟨H0, HO⟩
  iapply (step_sum (p := (0, 0)) (n := 192) (w := k1_pay3) (by decide) (by decide) (off3_0 c) (by decide) (by decide) (fun _ _ => rfl)) $$ H0
  iintro H0
  ispecialize Hk $$ %_
  iapply Hk
  isplitl [H0]; · iexact H0
  isplitl [H2]; · iexact H2
  iexact HO

theorem part5 {α : Type} {Q : α → sProp 𝕄} {κ : (PUnit) → Prog (TpuEff nD τ sig (Elt F) Λ₀ .tc) α} {v56 : BitVec 32} {v62 : BitVec 32} {v74 : BitVec 32} :
    iprop(Sent A K c (1, 0) ∗ Sent A K c (2, 0) ∗ Ow c 3)
      ⊢ iprop((∀ r, (St A K c 1 1 ∗ Left A K c (2, 0) ∗ Ow c 3) -∗ wp frame (wpE (defs₀ (F := F)) 𝒱₀ c none) Set.univ (κ r) Q)
        -∗ wp frame (wpE (defs₀ (F := F)) 𝒱₀ c none) Set.univ
          (k1_part5 a0 h0 a1 h1 a2 h2 accM h3 rsM h4 cc1_scratch2 cc1_scratch3 c v56 v62 v74 >>= κ) Q) := by
  simp only [k1_part5_eq_skeleton]
  unfold k1_part5_skel
  simp only [Prog.lift, Prog.bind_op, Prog.bind_ret, Prog.pure_eq_ret, Prog.bind_assoc]
  iintro ⟨H1, H2, HO⟩ Hk
  iapply (step_left (p := (1, 0)) (n := 192) (by decide) rfl (send_sem 1 0) 3 (by decide)) $$ [H1 HO]
  · isplitl [H1]; · iexact H1
    iexact HO
  iintro ⟨H1, HO⟩
  iapply (step_here (p := (1, 0)) (n := 192) (by decide) rfl (recv_sem 1 0) 3 (by decide)) $$ [H1 HO]
  · isplitl [H1]; · iexact H1
    iexact HO
  iintro ⟨H1, HO⟩
  iapply (step_sum (p := (1, 0)) (n := 192) (w := k1_pay4) (by decide) (by decide) (off3_1 c) (by decide) (by decide) (fun _ _ => rfl)) $$ H1
  iintro H1
  iapply (step_left (p := (2, 0)) (n := 128) (by decide) rfl (send_sem 2 0) 3 (by decide)) $$ [H2 HO]
  · isplitl [H2]; · iexact H2
    iexact HO
  iintro ⟨H2, HO⟩
  ispecialize Hk $$ %_
  iapply Hk
  isplitl [H1]; · iexact H1
  isplitl [H2]; · iexact H2
  iexact HO

theorem part6 {α : Type} {Q : α → sProp 𝕄} {κ : (Σ' (v146 : BitVec 32) (v152 : BitVec 32) (v164 : BitVec 32), BitVec 32) → Prog (TpuEff nD τ sig (Elt F) Λ₀ .tc) α} {v15 : BitVec 32} {v44 : BitVec 32} {v80 : BitVec 32} :
    iprop(St A K c 0 1 ∗ Left A K c (2, 0) ∗ Ow c 3)
      ⊢ iprop((∀ r, (Sent A K c (0, 1) ∗ St A K c 2 1 ∗ Ow c 4) -∗ wp frame (wpE (defs₀ (F := F)) 𝒱₀ c none) Set.univ (κ r) Q)
        -∗ wp frame (wpE (defs₀ (F := F)) 𝒱₀ c none) Set.univ
          (k1_part6 a0 h0 a1 h1 a2 h2 accM h3 rsM h4 cc1_scratch2 cc1_scratch3 c v15 v44 v80 >>= κ) Q) := by
  simp only [k1_part6_eq_skeleton]
  unfold k1_part6_skel
  simp only [Prog.lift, Prog.bind_op, Prog.bind_ret, Prog.pure_eq_ret, Prog.bind_assoc]
  iintro ⟨H0, H2, HO⟩ Hk
  iapply (step_here (p := (2, 0)) (n := 128) (by decide) rfl (recv_sem 2 0) 3 (by decide)) $$ [H2 HO]
  · isplitl [H2]; · iexact H2
    iexact HO
  iintro ⟨H2, HO⟩
  iapply (step_sum (p := (2, 0)) (n := 128) (w := k1_pay5) (by decide) (by decide) (off4_2 c) (by decide) (by decide) (fun _ _ => rfl)) $$ H2
  iintro H2
  iapply (step_down (p := (0, 1)) (n := 96) (by decide) (by decide) (off5_0 c) (by decide) (Fin.ext (dev7_eq c)) (send_sem 0 1) (recv_sem 0 1) 3 rfl) $$ [H0 HO]
  · isplitl [H0]; · iexact H0
    iexact HO
  iintro ⟨H0, HO⟩
  ispecialize Hk $$ %_
  iapply Hk
  isplitl [H0]; · iexact H0
  isplitl [H2]; · iexact H2
  iexact HO

theorem part7 {α : Type} {Q : α → sProp 𝕄} {κ : (Σ' (v170 : BitVec 32) (v182 : BitVec 32), BitVec 32) → Prog (TpuEff nD τ sig (Elt F) Λ₀ .tc) α} {v15 : BitVec 32} {v62 : BitVec 32} {v80 : BitVec 32} {v164 : BitVec 32} {c1_i32_157 : BitVec 32} :
    iprop(St A K c 1 1 ∗ Ow c 4)
      ⊢ iprop((∀ r, (Sent A K c (1, 1) ∗ Ow c 5) -∗ wp frame (wpE (defs₀ (F := F)) 𝒱₀ c none) Set.univ (κ r) Q)
        -∗ wp frame (wpE (defs₀ (F := F)) 𝒱₀ c none) Set.univ
          (k1_part7 a0 h0 a1 h1 a2 h2 accM h3 rsM h4 cc1_scratch2 cc1_scratch3 c v15 v62 v80 v164 c1_i32_157 >>= κ) Q) := by
  simp only [k1_part7_eq_skeleton]
  unfold k1_part7_skel
  simp only [Prog.lift, Prog.bind_op, Prog.bind_ret, Prog.pure_eq_ret, Prog.bind_assoc]
  iintro ⟨H1, HO⟩ Hk
  iapply (step_down (p := (1, 1)) (n := 96) (by decide) (by decide) (off5_1 c) (by decide) (Fin.ext (dev8_eq c)) (send_sem 1 1) (recv_sem 1 1) 4 rfl) $$ [H1 HO]
  · isplitl [H1]; · iexact H1
    iexact HO
  iintro ⟨H1, HO⟩
  ispecialize Hk $$ %_
  iapply Hk
  isplitl [H1]; · iexact H1
  iexact HO

theorem part8 {α : Type} {Q : α → sProp 𝕄} {κ : (PUnit) → Prog (TpuEff nD τ sig (Elt F) Λ₀ .tc) α} {v146 : BitVec 32} {v152 : BitVec 32} :
    iprop(Sent A K c (0, 1) ∗ St A K c 2 1 ∗ Ow c 5)
      ⊢ iprop((∀ r, (St A K c 0 2 ∗ Sent A K c (2, 1) ∗ Ow c 6) -∗ wp frame (wpE (defs₀ (F := F)) 𝒱₀ c none) Set.univ (κ r) Q)
        -∗ wp frame (wpE (defs₀ (F := F)) 𝒱₀ c none) Set.univ
          (k1_part8 a0 h0 a1 h1 a2 h2 accM h3 rsM h4 cc1_scratch2 cc1_scratch3 c v146 v152 >>= κ) Q) := by
  simp only [k1_part8_eq_skeleton]
  unfold k1_part8_skel
  simp only [Prog.lift, Prog.bind_op, Prog.bind_ret, Prog.pure_eq_ret, Prog.bind_assoc]
  iintro ⟨H0, H2, HO⟩ Hk
  iapply (step_down (p := (2, 1)) (n := 64) (by decide) (by decide) (off6_2 c) (by decide) (Fin.ext (dev9_eq c)) (send_sem 2 1) (recv_sem 2 1) 5 rfl) $$ [H2 HO]
  · isplitl [H2]; · iexact H2
    iexact HO
  iintro ⟨H2, HO⟩
  iapply (step_left (p := (0, 1)) (n := 96) (by decide) rfl (send_sem 0 1) 6 (by decide)) $$ [H0 HO]
  · isplitl [H0]; · iexact H0
    iexact HO
  iintro ⟨H0, HO⟩
  iapply (step_here (p := (0, 1)) (n := 96) (by decide) rfl (recv_sem 0 1) 6 (by decide)) $$ [H0 HO]
  · isplitl [H0]; · iexact H0
    iexact HO
  iintro ⟨H0, HO⟩
  iapply (step_sum (p := (0, 1)) (n := 96) (w := k1_pay6) (by decide) (by decide) (off7_0 c) (by decide) (by decide) (fun _ _ => rfl)) $$ H0
  iintro H0
  ispecialize Hk $$ %_
  iapply Hk
  isplitl [H0]; · iexact H0
  isplitl [H2]; · iexact H2
  iexact HO

theorem part9 {α : Type} {Q : α → sProp 𝕄} {κ : (PUnit) → Prog (TpuEff nD τ sig (Elt F) Λ₀ .tc) α} {v164 : BitVec 32} {v170 : BitVec 32} {v182 : BitVec 32} {v188 : BitVec 32} :
    iprop(Sent A K c (1, 1) ∗ Sent A K c (2, 1) ∗ Ow c 6)
      ⊢ iprop((∀ r, (St A K c 1 2 ∗ Here A K c (2, 1) ∗ Ow c 6) -∗ wp frame (wpE (defs₀ (F := F)) 𝒱₀ c none) Set.univ (κ r) Q)
        -∗ wp frame (wpE (defs₀ (F := F)) 𝒱₀ c none) Set.univ
          (k1_part9 a0 h0 a1 h1 a2 h2 accM h3 rsM h4 cc1_scratch2 cc1_scratch3 c v164 v170 v182 v188 >>= κ) Q) := by
  simp only [k1_part9_eq_skeleton]
  unfold k1_part9_skel
  simp only [Prog.lift, Prog.bind_op, Prog.bind_ret, Prog.pure_eq_ret, Prog.bind_assoc]
  iintro ⟨H1, H2, HO⟩ Hk
  iapply (step_left (p := (1, 1)) (n := 96) (by decide) rfl (send_sem 1 1) 6 (by decide)) $$ [H1 HO]
  · isplitl [H1]; · iexact H1
    iexact HO
  iintro ⟨H1, HO⟩
  iapply (step_here (p := (1, 1)) (n := 96) (by decide) rfl (recv_sem 1 1) 6 (by decide)) $$ [H1 HO]
  · isplitl [H1]; · iexact H1
    iexact HO
  iintro ⟨H1, HO⟩
  iapply (step_sum (p := (1, 1)) (n := 96) (w := k1_pay7) (by decide) (by decide) (off7_1 c) (by decide) (by decide) (fun _ _ => rfl)) $$ H1
  iintro H1
  iapply (step_left (p := (2, 1)) (n := 64) (by decide) rfl (send_sem 2 1) 6 (by decide)) $$ [H2 HO]
  · isplitl [H2]; · iexact H2
    iexact HO
  iintro ⟨H2, HO⟩
  iapply (step_here (p := (2, 1)) (n := 64) (by decide) rfl (recv_sem 2 1) 6 (by decide)) $$ [H2 HO]
  · isplitl [H2]; · iexact H2
    iexact HO
  iintro ⟨H2, HO⟩
  ispecialize Hk $$ %_
  iapply Hk
  isplitl [H1]; · iexact H1
  isplitl [H2]; · iexact H2
  iexact HO

theorem part10 {α : Type} {Q : α → sProp 𝕄} {κ : (Σ' (v254 : BitVec 32) (v260 : BitVec 32) (v272 : BitVec 32), BitVec 1) → Prog (TpuEff nD τ sig (Elt F) Λ₀ .tc) α} {v15 : BitVec 32} {v152 : BitVec 32} {v188 : BitVec 32} :
    iprop(St A K c 0 2 ∗ Here A K c (2, 1) ∗ Ow c 6)
      ⊢ iprop((∀ r, (Sent A K c (0, 2) ∗ St A K c 2 2 ∗ Ow c 7) -∗ wp frame (wpE (defs₀ (F := F)) 𝒱₀ c none) Set.univ (κ r) Q)
        -∗ wp frame (wpE (defs₀ (F := F)) 𝒱₀ c none) Set.univ
          (k1_part10 a0 h0 a1 h1 a2 h2 accM h3 rsM h4 cc1_scratch2 cc1_scratch3 c v15 v152 v188 >>= κ) Q) := by
  simp only [k1_part10_eq_skeleton]
  unfold k1_part10_skel
  simp only [Prog.lift, Prog.bind_op, Prog.bind_ret, Prog.pure_eq_ret, Prog.bind_assoc]
  iintro ⟨H0, H2, HO⟩ Hk
  iapply (step_sum (p := (2, 1)) (n := 64) (w := k1_pay8) (by decide) (by decide) (off8_2 c) (by decide) (by decide) (fun _ _ => rfl)) $$ H2
  iintro H2
  iapply (step_down (p := (0, 2)) (n := 48) (by decide) (by decide) (off9_0 c) (by decide) (Fin.ext (dev10_eq c)) (send_sem 0 2) (recv_sem 0 2) 6 rfl) $$ [H0 HO]
  · isplitl [H0]; · iexact H0
    iexact HO
  iintro ⟨H0, HO⟩
  ispecialize Hk $$ %_
  iapply Hk
  isplitl [H0]; · iexact H0
  isplitl [H2]; · iexact H2
  iexact HO

theorem part11 {α : Type} {Q : α → sProp 𝕄} {κ : (Σ' (v278 : BitVec 32) (v290 : BitVec 32), BitVec 32) → Prog (TpuEff nD τ sig (Elt F) Λ₀ .tc) α} {v15 : BitVec 32} {v170 : BitVec 32} {v188 : BitVec 32} {v272 : BitVec 32} {v274 : BitVec 1} :
    iprop(St A K c 1 2 ∗ Ow c 7)
      ⊢ iprop((∀ r, (Sent A K c (1, 2) ∗ Ow c 8) -∗ wp frame (wpE (defs₀ (F := F)) 𝒱₀ c none) Set.univ (κ r) Q)
        -∗ wp frame (wpE (defs₀ (F := F)) 𝒱₀ c none) Set.univ
          (k1_part11 a0 h0 a1 h1 a2 h2 accM h3 rsM h4 cc1_scratch2 cc1_scratch3 c v15 v170 v188 v272 v274 >>= κ) Q) := by
  simp only [k1_part11_eq_skeleton]
  unfold k1_part11_skel
  simp only [Prog.lift, Prog.bind_op, Prog.bind_ret, Prog.pure_eq_ret, Prog.bind_assoc]
  iintro ⟨H1, HO⟩ Hk
  iapply (step_down (p := (1, 2)) (n := 48) (by decide) (by decide) (off9_1 c) (by decide) (Fin.ext (dev11_eq c)) (send_sem 1 2) (recv_sem 1 2) 7 rfl) $$ [H1 HO]
  · isplitl [H1]; · iexact H1
    iexact HO
  iintro ⟨H1, HO⟩
  ispecialize Hk $$ %_
  iapply Hk
  isplitl [H1]; · iexact H1
  iexact HO

theorem part12 {α : Type} {Q : α → sProp 𝕄} {κ : (PUnit) → Prog (TpuEff nD τ sig (Elt F) Λ₀ .tc) α} {v254 : BitVec 32} {v260 : BitVec 32} :
    iprop(Sent A K c (0, 2) ∗ Sent A K c (1, 2) ∗ St A K c 2 2 ∗ Ow c 8)
      ⊢ iprop((∀ r, (St A K c 0 3 ∗ Left A K c (1, 2) ∗ Sent A K c (2, 2) ∗ Ow c 9) -∗ wp frame (wpE (defs₀ (F := F)) 𝒱₀ c none) Set.univ (κ r) Q)
        -∗ wp frame (wpE (defs₀ (F := F)) 𝒱₀ c none) Set.univ
          (k1_part12 a0 h0 a1 h1 a2 h2 accM h3 rsM h4 cc1_scratch2 cc1_scratch3 c v254 v260 >>= κ) Q) := by
  simp only [k1_part12_eq_skeleton]
  unfold k1_part12_skel
  simp only [Prog.lift, Prog.bind_op, Prog.bind_ret, Prog.pure_eq_ret, Prog.bind_assoc]
  iintro ⟨H0, H1, H2, HO⟩ Hk
  iapply (step_down (p := (2, 2)) (n := 32) (by decide) (by decide) (off10_2 c) (by decide) (Fin.ext (dev12_eq c)) (send_sem 2 2) (recv_sem 2 2) 8 rfl) $$ [H2 HO]
  · isplitl [H2]; · iexact H2
    iexact HO
  iintro ⟨H2, HO⟩
  iapply (step_left (p := (0, 2)) (n := 48) (by decide) rfl (send_sem 0 2) 9 (by decide)) $$ [H0 HO]
  · isplitl [H0]; · iexact H0
    iexact HO
  iintro ⟨H0, HO⟩
  iapply (step_here (p := (0, 2)) (n := 48) (by decide) rfl (recv_sem 0 2) 9 (by decide)) $$ [H0 HO]
  · isplitl [H0]; · iexact H0
    iexact HO
  iintro ⟨H0, HO⟩
  iapply (step_sum (p := (0, 2)) (n := 48) (w := k1_pay9) (by decide) (by decide) (off11_0 c) (by decide) (by decide) (fun _ _ => rfl)) $$ H0
  iintro H0
  iapply (step_left (p := (1, 2)) (n := 48) (by decide) rfl (send_sem 1 2) 9 (by decide)) $$ [H1 HO]
  · isplitl [H1]; · iexact H1
    iexact HO
  iintro ⟨H1, HO⟩
  ispecialize Hk $$ %_
  iapply Hk
  isplitl [H0]; · iexact H0
  isplitl [H1]; · iexact H1
  isplitl [H2]; · iexact H2
  iexact HO

theorem part13 {α : Type} {Q : α → sProp 𝕄} {κ : (Vec F S32x1024 .bf16) → Prog (TpuEff nD τ sig (Elt F) Λ₀ .tc) α} {v272 : BitVec 32} {v278 : BitVec 32} {v290 : BitVec 32} {v296 : BitVec 32} :
    iprop(Left A K c (1, 2) ∗ Sent A K c (2, 2) ∗ Ow c 9)
      ⊢ iprop(((St A K c 1 3 ∗ Here A K c (2, 2) ∗ Ow c 9) -∗ wp frame (wpE (defs₀ (F := F)) 𝒱₀ c none) Set.univ (κ (sl 32 (psum A 2 2 c) (keep 2 3 c))) Q)
        -∗ wp frame (wpE (defs₀ (F := F)) 𝒱₀ c none) Set.univ
          (k1_part13 a0 h0 a1 h1 a2 h2 accM h3 rsM h4 cc1_scratch2 cc1_scratch3 c v272 v278 v290 v296 >>= κ) Q) := by
  simp only [k1_part13_eq_skeleton]
  unfold k1_part13_skel
  simp only [Prog.lift, Prog.bind_op, Prog.bind_ret, Prog.pure_eq_ret, Prog.bind_assoc]
  iintro ⟨H1, H2, HO⟩ Hk
  iapply (step_here (p := (1, 2)) (n := 48) (by decide) rfl (recv_sem 1 2) 9 (by decide)) $$ [H1 HO]
  · isplitl [H1]; · iexact H1
    iexact HO
  iintro ⟨H1, HO⟩
  iapply (step_sum (p := (1, 2)) (n := 48) (w := k1_pay10) (by decide) (by decide) (off11_1 c) (by decide) (by decide) (fun _ _ => rfl)) $$ H1
  iintro H1
  iapply (step_left (p := (2, 2)) (n := 32) (by decide) rfl (send_sem 2 2) 9 (by decide)) $$ [H2 HO]
  · isplitl [H2]; · iexact H2
    iexact HO
  iintro ⟨H2, HO⟩
  iapply (step_here (p := (2, 2)) (n := 32) (by decide) rfl (recv_sem 2 2) 9 (by decide)) $$ [H2 HO]
  · isplitl [H2]; · iexact H2
    iexact HO
  iintro ⟨H2, HO⟩
  iapply (step_read (p := (2, 2)) (n := 32) (by decide) (by decide) (off12_2 c)) $$ H2
  iintro H2
  iapply Hk
  isplitl [H1]; · iexact H1
  isplitl [H2]; · iexact H2
  iexact HO

theorem part14 {α : Type} {Q : α → sProp 𝕄} {κ : (Σ' (v362 : BitVec 32) (v374 : BitVec 32), BitVec 32) → Prog (TpuEff nD τ sig (Elt F) Λ₀ .tc) α} {v15 : BitVec 32} {v260 : BitVec 32} {v296 : BitVec 32} :
    iprop(St A K c 0 3 ∗ Here A K c (2, 2) ∗ Ow c 9)
      ⊢ iprop((∀ r, (Sent A K c (0, 3) ∗ St A K c 2 3 ∗ Ow c 10) -∗ wp frame (wpE (defs₀ (F := F)) 𝒱₀ c none) Set.univ (κ r) Q)
        -∗ wp frame (wpE (defs₀ (F := F)) 𝒱₀ c none) Set.univ
          (k1_part14 a0 h0 a1 h1 a2 h2 accM h3 rsM h4 cc1_scratch2 cc1_scratch3 c v15 v260 v296 (sl 32 (psum A 2 2 c) (keep 2 3 c)) >>= κ) Q) := by
  simp only [k1_part14_eq_skeleton]
  unfold k1_part14_skel
  simp only [Prog.lift, Prog.bind_op, Prog.bind_ret, Prog.pure_eq_ret, Prog.bind_assoc]
  iintro ⟨H0, H2, HO⟩ Hk
  iapply (step_readR (p := (2, 2)) (n := 32) (by decide) (by decide) (by decide)) $$ H2
  iintro H2
  iapply (step_read (p := (2, 2)) (n := 32) (by decide) (by decide) (off12_2 c)) $$ H2
  iintro H2
  iapply (step_add (p := (2, 2)) (n := 32) (by decide) (by decide) (off12_2 c) ((congrArg₂ k1_pay11 rfl rfl).trans (added (by decide) _ _ _))) $$ H2
  iintro H2
  iapply (step_up (p := (0, 3)) (n := 48) (by decide) (by decide) (off9_3 c) (Fin.ext (dev13_eq c)) (send_sem 0 3) (recv_sem 0 3) 9 rfl) $$ [H0 HO]
  · isplitl [H0]; · iexact H0
    iexact HO
  iintro ⟨H0, HO⟩
  ispecialize Hk $$ %_
  iapply Hk
  isplitl [H0]; · iexact H0
  isplitl [H2]; · iexact H2
  iexact HO

theorem part15 {α : Type} {Q : α → sProp 𝕄} {κ : (Σ' (v390 : BitVec 32) (v394 : BitVec 32), BitVec 32) → Prog (TpuEff nD τ sig (Elt F) Λ₀ .tc) α} {v15 : BitVec 32} {v278 : BitVec 32} {v296 : BitVec 32} :
    iprop(Sent A K c (0, 3) ∗ St A K c 1 3 ∗ St A K c 2 3 ∗ Ow c 10)
      ⊢ iprop((∀ r, (Left A K c (0, 3) ∗ Sent A K c (1, 3) ∗ Sent A K c (2, 3) ∗ Ow c 12) -∗ wp frame (wpE (defs₀ (F := F)) 𝒱₀ c none) Set.univ (κ r) Q)
        -∗ wp frame (wpE (defs₀ (F := F)) 𝒱₀ c none) Set.univ
          (k1_part15 a0 h0 a1 h1 a2 h2 accM h3 rsM h4 cc1_scratch2 cc1_scratch3 c v15 v278 v296 >>= κ) Q) := by
  simp only [k1_part15_eq_skeleton]
  unfold k1_part15_skel
  simp only [Prog.lift, Prog.bind_op, Prog.bind_ret, Prog.pure_eq_ret, Prog.bind_assoc]
  iintro ⟨H0, H1, H2, HO⟩ Hk
  iapply (step_up (p := (1, 3)) (n := 48) (by decide) (by decide) (off9_4 c) (Fin.ext (dev14_eq c)) (send_sem 1 3) (recv_sem 1 3) 10 rfl) $$ [H1 HO]
  · isplitl [H1]; · iexact H1
    iexact HO
  iintro ⟨H1, HO⟩
  iapply (step_up (p := (2, 3)) (n := 32) (by decide) (by decide) (off10_5 c) (Fin.ext (dev15_eq c)) (send_sem 2 3) (recv_sem 2 3) 11 rfl) $$ [H2 HO]
  · isplitl [H2]; · iexact H2
    iexact HO
  iintro ⟨H2, HO⟩
  iapply (step_left (p := (0, 3)) (n := 48) (by decide) rfl (send_sem 0 3) 12 (by decide)) $$ [H0 HO]
  · isplitl [H0]; · iexact H0
    iexact HO
  iintro ⟨H0, HO⟩
  ispecialize Hk $$ %_
  iapply Hk
  isplitl [H0]; · iexact H0
  isplitl [H1]; · iexact H1
  isplitl [H2]; · iexact H2
  iexact HO

theorem part16 {α : Type} {Q : α → sProp 𝕄} {κ : (PUnit) → Prog (TpuEff nD τ sig (Elt F) Λ₀ .tc) α} {v362 : BitVec 32} {v378 : BitVec 32} {v394 : BitVec 32} :
    iprop(Left A K c (0, 3) ∗ Sent A K c (1, 3) ∗ Sent A K c (2, 3) ∗ Ow c 12)
      ⊢ iprop((∀ r, (St A K c 0 4 ∗ St A K c 1 4 ∗ Left A K c (2, 3) ∗ Ow c 12) -∗ wp frame (wpE (defs₀ (F := F)) 𝒱₀ c none) Set.univ (κ r) Q)
        -∗ wp frame (wpE (defs₀ (F := F)) 𝒱₀ c none) Set.univ
          (k1_part16 a0 h0 a1 h1 a2 h2 accM h3 rsM h4 cc1_scratch2 cc1_scratch3 c v362 v378 v394 >>= κ) Q) := by
  simp only [k1_part16_eq_skeleton]
  unfold k1_part16_skel
  simp only [Prog.lift, Prog.bind_op, Prog.bind_ret, Prog.pure_eq_ret, Prog.bind_assoc]
  iintro ⟨H0, H1, H2, HO⟩ Hk
  iapply (step_home (p := (0, 3)) (n := 48) (by decide) (by decide) rfl (recv_sem 0 3) 12 (by decide)) $$ [H0 HO]
  · isplitl [H0]; · iexact H0
    iexact HO
  iintro ⟨H0, HO⟩
  iapply (step_left (p := (1, 3)) (n := 48) (by decide) rfl (send_sem 1 3) 12 (by decide)) $$ [H1 HO]
  · isplitl [H1]; · iexact H1
    iexact HO
  iintro ⟨H1, HO⟩
  iapply (step_home (p := (1, 3)) (n := 48) (by decide) (by decide) rfl (recv_sem 1 3) 12 (by decide)) $$ [H1 HO]
  · isplitl [H1]; · iexact H1
    iexact HO
  iintro ⟨H1, HO⟩
  iapply (step_left (p := (2, 3)) (n := 32) (by decide) rfl (send_sem 2 3) 12 (by decide)) $$ [H2 HO]
  · isplitl [H2]; · iexact H2
    iexact HO
  iintro ⟨H2, HO⟩
  ispecialize Hk $$ %_
  iapply Hk
  isplitl [H0]; · iexact H0
  isplitl [H1]; · iexact H1
  isplitl [H2]; · iexact H2
  iexact HO

theorem part17 {α : Type} {Q : α → sProp 𝕄} {κ : (Σ' (v440 : BitVec 32), BitVec 32) → Prog (TpuEff nD τ sig (Elt F) Λ₀ .tc) α} {v15 : BitVec 32} {v374 : BitVec 32} :
    iprop(St A K c 0 4 ∗ Left A K c (2, 3) ∗ Ow c 12)
      ⊢ iprop((∀ r, (Sent A K c (0, 4) ∗ St A K c 2 4 ∗ Ow c 13) -∗ wp frame (wpE (defs₀ (F := F)) 𝒱₀ c none) Set.univ (κ r) Q)
        -∗ wp frame (wpE (defs₀ (F := F)) 𝒱₀ c none) Set.univ
          (k1_part17 a0 h0 a1 h1 a2 h2 accM h3 rsM h4 cc1_scratch2 cc1_scratch3 c v15 v374 >>= κ) Q) := by
  simp only [k1_part17_eq_skeleton]
  unfold k1_part17_skel
  simp only [Prog.lift, Prog.bind_op, Prog.bind_ret, Prog.pure_eq_ret, Prog.bind_assoc]
  iintro ⟨H0, H2, HO⟩ Hk
  iapply (step_home (p := (2, 3)) (n := 32) (by decide) (by decide) rfl (recv_sem 2 3) 12 (by decide)) $$ [H2 HO]
  · isplitl [H2]; · iexact H2
    iexact HO
  iintro ⟨H2, HO⟩
  iapply (step_up (p := (0, 4)) (n := 96) (by decide) (by decide) (off13_0 c) (Fin.ext (dev16_eq c)) (send_sem 0 4) (recv_sem 0 4) 12 rfl) $$ [H0 HO]
  · isplitl [H0]; · iexact H0
    iexact HO
  iintro ⟨H0, HO⟩
  ispecialize Hk $$ %_
  iapply Hk
  isplitl [H0]; · iexact H0
  isplitl [H2]; · iexact H2
  iexact HO

theorem part18 {α : Type} {Q : α → sProp 𝕄} {κ : (Σ' (v472 : BitVec 32), BitVec 32) → Prog (TpuEff nD τ sig (Elt F) Λ₀ .tc) α} {v15 : BitVec 32} {v390 : BitVec 32} {v406 : BitVec 32} {v440 : BitVec 32} :
    iprop(Sent A K c (0, 4) ∗ St A K c 1 4 ∗ St A K c 2 4 ∗ Ow c 13)
      ⊢ iprop((∀ r, (Left A K c (0, 4) ∗ Sent A K c (1, 4) ∗ Sent A K c (2, 4) ∗ Ow c 15) -∗ wp frame (wpE (defs₀ (F := F)) 𝒱₀ c none) Set.univ (κ r) Q)
        -∗ wp frame (wpE (defs₀ (F := F)) 𝒱₀ c none) Set.univ
          (k1_part18 a0 h0 a1 h1 a2 h2 accM h3 rsM h4 cc1_scratch2 cc1_scratch3 c v15 v390 v406 v440 >>= κ) Q) := by
  simp only [k1_part18_eq_skeleton]
  unfold k1_part18_skel
  simp only [Prog.lift, Prog.bind_op, Prog.bind_ret, Prog.pure_eq_ret, Prog.bind_assoc]
  iintro ⟨H0, H1, H2, HO⟩ Hk
  iapply (step_up (p := (1, 4)) (n := 96) (by decide) (by decide) (off13_1 c) (Fin.ext (dev17_eq c)) (send_sem 1 4) (recv_sem 1 4) 13 rfl) $$ [H1 HO]
  · isplitl [H1]; · iexact H1
    iexact HO
  iintro ⟨H1, HO⟩
  iapply (step_up (p := (2, 4)) (n := 64) (by decide) (by decide) (off14_2 c) (Fin.ext (dev18_eq c)) (send_sem 2 4) (recv_sem 2 4) 14 rfl) $$ [H2 HO]
  · isplitl [H2]; · iexact H2
    iexact HO
  iintro ⟨H2, HO⟩
  iapply (step_left (p := (0, 4)) (n := 96) (by decide) rfl (send_sem 0 4) 15 (by decide)) $$ [H0 HO]
  · isplitl [H0]; · iexact H0
    iexact HO
  iintro ⟨H0, HO⟩
  ispecialize Hk $$ %_
  iapply Hk
  isplitl [H0]; · iexact H0
  isplitl [H1]; · iexact H1
  isplitl [H2]; · iexact H2
  iexact HO

theorem part19 {α : Type} {Q : α → sProp 𝕄} {κ : (PUnit) → Prog (TpuEff nD τ sig (Elt F) Λ₀ .tc) α} {v456 : BitVec 32} {v472 : BitVec 32} {v489 : BitVec 32} :
    iprop(Left A K c (0, 4) ∗ Sent A K c (1, 4) ∗ Sent A K c (2, 4) ∗ Ow c 15)
      ⊢ iprop((∀ r, (St A K c 0 5 ∗ St A K c 1 5 ∗ Left A K c (2, 4) ∗ Ow c 15) -∗ wp frame (wpE (defs₀ (F := F)) 𝒱₀ c none) Set.univ (κ r) Q)
        -∗ wp frame (wpE (defs₀ (F := F)) 𝒱₀ c none) Set.univ
          (k1_part19 a0 h0 a1 h1 a2 h2 accM h3 rsM h4 cc1_scratch2 cc1_scratch3 c v456 v472 v489 >>= κ) Q) := by
  simp only [k1_part19_eq_skeleton]
  unfold k1_part19_skel
  simp only [Prog.lift, Prog.bind_op, Prog.bind_ret, Prog.pure_eq_ret, Prog.bind_assoc]
  iintro ⟨H0, H1, H2, HO⟩ Hk
  iapply (step_home (p := (0, 4)) (n := 96) (by decide) (by decide) rfl (recv_sem 0 4) 15 (by decide)) $$ [H0 HO]
  · isplitl [H0]; · iexact H0
    iexact HO
  iintro ⟨H0, HO⟩
  iapply (step_left (p := (1, 4)) (n := 96) (by decide) rfl (send_sem 1 4) 15 (by decide)) $$ [H1 HO]
  · isplitl [H1]; · iexact H1
    iexact HO
  iintro ⟨H1, HO⟩
  iapply (step_home (p := (1, 4)) (n := 96) (by decide) (by decide) rfl (recv_sem 1 4) 15 (by decide)) $$ [H1 HO]
  · isplitl [H1]; · iexact H1
    iexact HO
  iintro ⟨H1, HO⟩
  iapply (step_left (p := (2, 4)) (n := 64) (by decide) rfl (send_sem 2 4) 15 (by decide)) $$ [H2 HO]
  · isplitl [H2]; · iexact H2
    iexact HO
  iintro ⟨H2, HO⟩
  ispecialize Hk $$ %_
  iapply Hk
  isplitl [H0]; · iexact H0
  isplitl [H1]; · iexact H1
  isplitl [H2]; · iexact H2
  iexact HO

theorem part20 {α : Type} {Q : α → sProp 𝕄} {κ : (Σ' (v518 : BitVec 32) (v530 : BitVec 32), BitVec 32) → Prog (TpuEff nD τ sig (Elt F) Λ₀ .tc) α} {v15 : BitVec 32} :
    iprop(St A K c 0 5 ∗ St A K c 1 5 ∗ Left A K c (2, 4) ∗ Ow c 15)
      ⊢ iprop((∀ r, (Sent A K c (0, 5) ∗ Sent A K c (1, 5) ∗ St A K c 2 5 ∗ Ow c 17) -∗ wp frame (wpE (defs₀ (F := F)) 𝒱₀ c none) Set.univ (κ r) Q)
        -∗ wp frame (wpE (defs₀ (F := F)) 𝒱₀ c none) Set.univ
          (k1_part20 a0 h0 a1 h1 a2 h2 accM h3 rsM h4 cc1_scratch2 cc1_scratch3 c v15 >>= κ) Q) := by
  simp only [k1_part20_eq_skeleton]
  unfold k1_part20_skel
  simp only [Prog.lift, Prog.bind_op, Prog.bind_ret, Prog.pure_eq_ret, Prog.bind_assoc]
  iintro ⟨H0, H1, H2, HO⟩ Hk
  iapply (step_home (p := (2, 4)) (n := 64) (by decide) (by decide) rfl (recv_sem 2 4) 15 (by decide)) $$ [H2 HO]
  · isplitl [H2]; · iexact H2
    iexact HO
  iintro ⟨H2, HO⟩
  iapply (step_up (p := (0, 5)) (n := 192) (by decide) (by decide) (off15_0 c) (Fin.ext (dev19_eq c)) (send_sem 0 5) (recv_sem 0 5) 15 rfl) $$ [H0 HO]
  · isplitl [H0]; · iexact H0
    iexact HO
  iintro ⟨H0, HO⟩
  iapply (step_up (p := (1, 5)) (n := 192) (by decide) (by decide) (off15_1 c) (Fin.ext (dev20_eq c)) (send_sem 1 5) (recv_sem 1 5) 16 rfl) $$ [H1 HO]
  · isplitl [H1]; · iexact H1
    iexact HO
  iintro ⟨H1, HO⟩
  ispecialize Hk $$ %_
  iapply Hk
  isplitl [H0]; · iexact H0
  isplitl [H1]; · iexact H1
  isplitl [H2]; · iexact H2
  iexact HO

theorem part21 {α : Type} {Q : α → sProp 𝕄} {κ : (BitVec 32) → Prog (TpuEff nD τ sig (Elt F) Λ₀ .tc) α} {v518 : BitVec 32} {v530 : BitVec 32} {v542 : BitVec 32} :
    iprop(Sent A K c (0, 5) ∗ Sent A K c (1, 5) ∗ St A K c 2 5 ∗ Ow c 17)
      ⊢ iprop((∀ r, (St A K c 0 6 ∗ Left A K c (1, 5) ∗ Sent A K c (2, 5) ∗ Ow c 18) -∗ wp frame (wpE (defs₀ (F := F)) 𝒱₀ c none) Set.univ (κ r) Q)
        -∗ wp frame (wpE (defs₀ (F := F)) 𝒱₀ c none) Set.univ
          (k1_part21 a0 h0 a1 h1 a2 h2 accM h3 rsM h4 cc1_scratch2 cc1_scratch3 c v518 v530 v542 >>= κ) Q) := by
  simp only [k1_part21_eq_skeleton]
  unfold k1_part21_skel
  simp only [Prog.lift, Prog.bind_op, Prog.bind_ret, Prog.pure_eq_ret, Prog.bind_assoc]
  iintro ⟨H0, H1, H2, HO⟩ Hk
  iapply (step_up (p := (2, 5)) (n := 128) (by decide) (by decide) (off16_2 c) (Fin.ext (dev21_eq c)) (send_sem 2 5) (recv_sem 2 5) 17 rfl) $$ [H2 HO]
  · isplitl [H2]; · iexact H2
    iexact HO
  iintro ⟨H2, HO⟩
  iapply (step_left (p := (0, 5)) (n := 192) (by decide) rfl (send_sem 0 5) 18 (by decide)) $$ [H0 HO]
  · isplitl [H0]; · iexact H0
    iexact HO
  iintro ⟨H0, HO⟩
  iapply (step_home (p := (0, 5)) (n := 192) (by decide) (by decide) rfl (recv_sem 0 5) 18 (by decide)) $$ [H0 HO]
  · isplitl [H0]; · iexact H0
    iexact HO
  iintro ⟨H0, HO⟩
  iapply (step_left (p := (1, 5)) (n := 192) (by decide) rfl (send_sem 1 5) 18 (by decide)) $$ [H1 HO]
  · isplitl [H1]; · iexact H1
    iexact HO
  iintro ⟨H1, HO⟩
  ispecialize Hk $$ %_
  iapply Hk
  isplitl [H0]; · iexact H0
  isplitl [H1]; · iexact H1
  isplitl [H2]; · iexact H2
  iexact HO

end Cert.KernelIdeal.Hand
-- ==== Proof.Body.lean ====
/-
  The device program of the exchange: its beginning, its end, and the whole.
-/
module

public import proofs.«01_k».proof.Proof.Parts

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Cube

variable {F : FTy → Type} [FloatOps F]

local notation "𝕄" => MT nD τ sig Unit (Elt F) ℕ UU ℕ

variable {A : Dev nD → Acc F} {K : GSem nD τ sig → ℕ} {c : Dev nD}
  {a0 : Memref sig .tc .vmem S1024x1024 .bf16} {h0 : a0.IsWhole} {a1 : Memref sig .tc .vmem S1024x1024 .f32} {h1 : a1.IsWhole}
  {a2 : Memref sig .tc .vmem S1024x1024 .f32} {h2 : a2.IsWhole} {h3 : accM.IsWhole} {h4 : rsM.IsWhole}

/-- The product stored, and two hellos. -/
theorem part1 {α : Type} {Q : α → sProp 𝕄} {κ : (Σ' (d10 : Dev nD) (v15 : BitVec 32) (v16 : Sems sig S_) (v29 : BitVec 32), BitVec 32) → Prog (TpuEff nD τ sig (Elt F) Λ₀ .tc) α} {q₀ q₁ : PosShare TreeShare}
    {X0 : S1024x1024.Idx → Elt F .bf16} {X1 : S1024x1024.Idx → Elt F .f32} :
    iprop(owns (c : Thread nD τ) a0 q₀ X0 ∗ owns (c : Thread nD τ) a1 q₁ X1 ∗ (∃ X, owns (c : Thread nD τ) accM fullShare X)
        ∗ hello A K c 0 ∗ hello A K c 1 ∗ ∃ W, owes (c : Thread nD τ) (owing c 0) W)
      ⊢ iprop((∀ w w' w'', (owns (c : Thread nD τ) a0 q₀ X0 ∗ owns (c : Thread nD τ) a1 q₁ X1 ∗ owns (c : Thread nD τ) accM fullShare (k1_pay2 X0 X1)
            ∗ ∃ W, owes (c : Thread nD τ) (owing c 2) W)
          -∗ wp frame (wpE (defs₀ (F := F)) 𝒱₀ c none) Set.univ (κ ⟨c, w, SemArray.scalar (sig.barrier 0 rfl), w', w''⟩) Q)
        -∗ wp frame (wpE (defs₀ (F := F)) 𝒱₀ c none) Set.univ (k1_part1 a0 h0 a1 h1 a2 h2 accM h3 rsM h4 cc1_scratch2 cc1_scratch3 >>= κ) Q) := by
  simp only [k1_part1_eq_skeleton]
  unfold k1_part1_skel
  simp only [semSignalWord, Prog.lift, Prog.bind_op, Prog.bind_ret, Prog.pure_eq_ret, Prog.bind_assoc]
  iintro ⟨H0, H1, ⟨%X, HA⟩, Hh0, Hh1, HO⟩ Hk
  iapply step_load $$ H0
  iintro H0
  iapply step_load $$ H1
  iintro H1
  iapply step_load $$ HA
  iintro HA
  iapply step_store $$ HA
  iintro HA
  rw [wp_deviceId]
  iapply (step_hello 0 (Fin.ext (dev1_eq c)) rfl rfl) $$ [Hh0 HO]
  · isplitl [Hh0]; · iexact Hh0
    iexact HO
  iintro HO
  iapply (step_hello 1 (Fin.ext (dev2_eq c)) rfl rfl) $$ [Hh1 HO]
  · isplitl [Hh1]; · iexact Hh1
    iexact HO
  iintro HO
  ispecialize Hk $$ %_ %_ %_
  iapply Hk
  isplitl [H0]; · iexact H0
  isplitl [H1]; · iexact H1
  isplitl [HA]; · iexact HA
  iexact HO

/-- The last hello, the wait for the neighbours' and the first copy. -/
theorem part2 {α : Type} {Q : α → sProp 𝕄} {κ : (Σ' (v38 : BitVec 32) (v44 : BitVec 32) (v56 : BitVec 32), BitVec 32) → Prog (TpuEff nD τ sig (Elt F) Λ₀ .tc) α} {w w' w'' : BitVec 32} :
    iprop(hello A K c 2 ∗ meet A K c ∗ accP c 0 1024 (A c) ∗ (bigSep Finset.univ fun p => kit0 A K c p)
        ∗ (∃ W, owes (c : Thread nD τ) (owing c 2) W) ∗ levAts L lv)
      ⊢ iprop((∀ r, (semVal (barCell c) 0 ∗ Sent A K c (0, 0) ∗ St A K c 1 0 ∗ St A K c 2 0 ∗ Ow c 1) -∗ wp frame (wpE (defs₀ (F := F)) 𝒱₀ c none) Set.univ (κ r) Q)
        -∗ wp frame (wpE (defs₀ (F := F)) 𝒱₀ c none) Set.univ (k1_part2 a0 h0 a1 h1 a2 h2 accM h3 rsM h4 cc1_scratch2 cc1_scratch3 c w (SemArray.scalar (sig.barrier 0 rfl)) w' w'' >>= κ) Q) := by
  simp only [k1_part2_eq_skeleton]
  unfold k1_part2_skel
  simp only [semSignalWord, semWaitWord, Prog.lift, Prog.bind_op, Prog.bind_ret, Prog.pure_eq_ret, Prog.bind_assoc]
  iintro ⟨Hh, Hm, HA, Hkits, HO, #Hlev⟩ Hk
  iapply (step_hello 2 (Fin.ext (dev3_eq c)) rfl rfl) $$ [Hh HO]
  · isplitl [Hh]; · iexact Hh
    iexact HO
  iintro HO
  iapply (step_meet rfl rfl) $$ [Hm HO]
  · isplitl [Hm]; · iexact Hm
    unfold Ow
    isplitl [HO]; · iexact HO
    iexact Hlev
  iintro ⟨Hb, Hs, HO⟩
  ihave H := (bundle A K c) $$ [Hb HA Hkits]
  · isplitl [Hb]; · iexact Hb
    isplitl [HA]; · iexact HA
    iexact Hkits
  ihave H := (Entails.of_eq (over3 (fun g => St A K c g 0))) $$ H
  icases H with ⟨H0, H1, H2⟩
  iapply (step_down (p := (0, 0)) (n := 192) (by decide) (by decide) (off1_0 c) (by decide) (Fin.ext (dev4_eq c)) (send_sem 0 0) (recv_sem 0 0) 0 rfl) $$ [H0 HO]
  · isplitl [H0]; · iexact H0
    iexact HO
  iintro ⟨H0, HO⟩
  ispecialize Hk $$ %_
  iapply Hk
  isplitl [Hs]; · iexact Hs
  isplitl [H0]; · iexact H0
  isplitl [H1]; · iexact H1
  isplitl [H2]; · iexact H2
  iexact HO

/-- All of the exchange, to the reading of the sum. -/
theorem part22 {α : Type} {Q : α → sProp 𝕄} {κ : Vec F S1024x1024 .bf16 → Prog (TpuEff nD τ sig (Elt F) Λ₀ .tc) α} {q₀ q₁ : PosShare TreeShare}
    {X0 : S1024x1024.Idx → Elt F .bf16} {X1 : S1024x1024.Idx → Elt F .f32} (hA : k1_pay2 X0 X1 = A c) :
    iprop(owns (c : Thread nD τ) a0 q₀ X0 ∗ owns (c : Thread nD τ) a1 q₁ X1 ∗ (∃ X, owns (c : Thread nD τ) accM fullShare X)
        ∗ (bigSep Finset.univ fun m => hello A K c m) ∗ meet A K c ∗ (bigSep Finset.univ fun p => kit0 A K c p)
        ∗ (∃ W, owes (c : Thread nD τ) (O₀ c) W) ∗ levAts L lv)
      ⊢ iprop(((owns (c : Thread nD τ) a0 q₀ X0 ∗ owns (c : Thread nD τ) a1 q₁ X1 ∗ owns (c : Thread nD τ) accM fullShare (total A)
            ∗ semVal (barCell c) 0 ∗ (bigSep Finset.univ fun p => done c p) ∗ rsAll c ∗ ∃ W, owes (c : Thread nD τ) 0 W) -∗ wp frame (wpE (defs₀ (F := F)) 𝒱₀ c none) Set.univ (κ (total A)) Q)
        -∗ wp frame (wpE (defs₀ (F := F)) 𝒱₀ c none) Set.univ (k1_part22 a0 h0 a1 h1 a2 h2 accM h3 rsM h4 cc1_scratch2 cc1_scratch3 >>= κ) Q) := by
  simp only [k1_part22_eq_skeleton]
  unfold k1_part22_skel
  simp only [Prog.lift, Prog.bind_op, Prog.bind_ret, Prog.pure_eq_ret, Prog.bind_assoc]
  iintro ⟨Ha0, Ha1, HA, Hh, Hm, Hkits, HO, #Hlev⟩ Hk
  ihave Hh := (Entails.of_eq (over3 (fun m => hello A K c m))) $$ Hh
  icases Hh with ⟨Hh0, Hh1, Hh2⟩
  iapply (part1 (q₀ := q₀) (q₁ := q₁) (X0 := X0) (X1 := X1)) $$ [Ha0 Ha1 HA Hh0 Hh1 HO]
  · isplitl [Ha0]; · iexact Ha0
    isplitl [Ha1]; · iexact Ha1
    isplitl [HA]; · iexact HA
    isplitl [Hh0]; · iexact Hh0
    isplitl [Hh1]; · iexact Hh1
    iexact HO
  iintro %w15 %w29 %w30 ⟨Ha0, Ha1, HA, HO⟩
  ihave HA := (Entails.of_eq (hA ▸ acc_whole (c := c) (A c) : owns (c : Thread nD τ) accM fullShare (k1_pay2 X0 X1) = accP c 0 1024 (A c))) $$ HA
  dsimp only
  iapply part2 $$ [Hh2 Hm HA Hkits HO]
  · isplitl [Hh2]; · iexact Hh2
    isplitl [Hm]; · iexact Hm
    isplitl [HA]; · iexact HA
    isplitl [Hkits]; · iexact Hkits
    isplitl [HO]; · iexact HO
    iexact Hlev
  iintro %_r2 ⟨Hs, H0, H1, H2, HO⟩
  dsimp only
  iapply part3 $$ [H1 HO]
  · isplitl [H1]; · iexact H1
    iexact HO
  iintro %r3 ⟨H1, HO⟩
  dsimp only
  iapply part4 $$ [H0 H2 HO]
  · isplitl [H0]; · iexact H0
    isplitl [H2]; · iexact H2
    iexact HO
  iintro %r4 ⟨H0, H2, HO⟩
  dsimp only
  iapply part5 $$ [H1 H2 HO]
  · isplitl [H1]; · iexact H1
    isplitl [H2]; · iexact H2
    iexact HO
  iintro %r5 ⟨H1, H2, HO⟩
  dsimp only
  iapply part6 $$ [H0 H2 HO]
  · isplitl [H0]; · iexact H0
    isplitl [H2]; · iexact H2
    iexact HO
  iintro %r6 ⟨H0, H2, HO⟩
  dsimp only
  iapply part7 $$ [H1 HO]
  · isplitl [H1]; · iexact H1
    iexact HO
  iintro %r7 ⟨H1, HO⟩
  dsimp only
  iapply part8 $$ [H0 H2 HO]
  · isplitl [H0]; · iexact H0
    isplitl [H2]; · iexact H2
    iexact HO
  iintro %r8 ⟨H0, H2, HO⟩
  dsimp only
  iapply part9 $$ [H1 H2 HO]
  · isplitl [H1]; · iexact H1
    isplitl [H2]; · iexact H2
    iexact HO
  iintro %r9 ⟨H1, H2, HO⟩
  dsimp only
  iapply part10 $$ [H0 H2 HO]
  · isplitl [H0]; · iexact H0
    isplitl [H2]; · iexact H2
    iexact HO
  iintro %r10 ⟨H0, H2, HO⟩
  dsimp only
  iapply part11 $$ [H1 HO]
  · isplitl [H1]; · iexact H1
    iexact HO
  iintro %r11 ⟨H1, HO⟩
  dsimp only
  iapply part12 $$ [H0 H1 H2 HO]
  · isplitl [H0]; · iexact H0
    isplitl [H1]; · iexact H1
    isplitl [H2]; · iexact H2
    iexact HO
  iintro %r12 ⟨H0, H1, H2, HO⟩
  dsimp only
  iapply part13 $$ [H1 H2 HO]
  · isplitl [H1]; · iexact H1
    isplitl [H2]; · iexact H2
    iexact HO
  iintro ⟨H1, H2, HO⟩
  dsimp only
  iapply part14 $$ [H0 H2 HO]
  · isplitl [H0]; · iexact H0
    isplitl [H2]; · iexact H2
    iexact HO
  iintro %r14 ⟨H0, H2, HO⟩
  dsimp only
  iapply part15 $$ [H0 H1 H2 HO]
  · isplitl [H0]; · iexact H0
    isplitl [H1]; · iexact H1
    isplitl [H2]; · iexact H2
    iexact HO
  iintro %r15 ⟨H0, H1, H2, HO⟩
  dsimp only
  iapply part16 $$ [H0 H1 H2 HO]
  · isplitl [H0]; · iexact H0
    isplitl [H1]; · iexact H1
    isplitl [H2]; · iexact H2
    iexact HO
  iintro %r16 ⟨H0, H1, H2, HO⟩
  dsimp only
  iapply part17 $$ [H0 H2 HO]
  · isplitl [H0]; · iexact H0
    isplitl [H2]; · iexact H2
    iexact HO
  iintro %r17 ⟨H0, H2, HO⟩
  dsimp only
  iapply part18 $$ [H0 H1 H2 HO]
  · isplitl [H0]; · iexact H0
    isplitl [H1]; · iexact H1
    isplitl [H2]; · iexact H2
    iexact HO
  iintro %r18 ⟨H0, H1, H2, HO⟩
  dsimp only
  iapply part19 $$ [H0 H1 H2 HO]
  · isplitl [H0]; · iexact H0
    isplitl [H1]; · iexact H1
    isplitl [H2]; · iexact H2
    iexact HO
  iintro %r19 ⟨H0, H1, H2, HO⟩
  dsimp only
  iapply part20 $$ [H0 H1 H2 HO]
  · isplitl [H0]; · iexact H0
    isplitl [H1]; · iexact H1
    isplitl [H2]; · iexact H2
    iexact HO
  iintro %r20 ⟨H0, H1, H2, HO⟩
  dsimp only
  iapply part21 $$ [H0 H1 H2 HO]
  · isplitl [H0]; · iexact H0
    isplitl [H1]; · iexact H1
    isplitl [H2]; · iexact H2
    iexact HO
  iintro %r21 ⟨H0, H1, H2, HO⟩
  dsimp only
  iapply (step_home (p := (1, 5)) (n := 192) (by decide) (by decide) rfl (recv_sem 1 5) 18 (by decide)) $$ [H1 HO]
  · isplitl [H1]; · iexact H1
    iexact HO
  iintro ⟨H1, HO⟩
  iapply (step_left (p := (2, 5)) (n := 128) (by decide) rfl (send_sem 2 5) 18 (by decide)) $$ [H2 HO]
  · isplitl [H2]; · iexact H2
    iexact HO
  iintro ⟨H2, HO⟩
  iapply (step_home (p := (2, 5)) (n := 128) (by decide) (by decide) rfl (recv_sem 2 5) 18 (by decide)) $$ [H2 HO]
  · isplitl [H2]; · iexact H2
    iexact HO
  iintro ⟨H2, HO⟩
  ihave H := (unbundle A K c) $$ [H0 H1 H2]
  · iapply (Entails.of_eq (over3 (fun g => St A K c g 6)).symm)
    isplitl [H0]; · iexact H0
    isplitl [H1]; · iexact H1
    iexact H2
  icases H with ⟨HA, Hd, Hr⟩
  ihave HA := (Entails.of_eq (acc_whole (c := c) (total A)).symm) $$ HA
  iapply step_load $$ HA
  iintro HA
  iapply Hk
  isplitl [Ha0]; · iexact Ha0
  isplitl [Ha1]; · iexact Ha1
  isplitl [HA]; · iexact HA
  isplitl [Hs]; · iexact Hs
  isplitl [Hd]; · iexact Hd
  isplitl [Hr]; · iexact Hr
  unfold Ow
  rw [owe_end]
  icases HO with ⟨HO, -⟩
  iexact HO

/-- The device program. -/
theorem body {q₀ q₁ : PosShare TreeShare} {X0 : S1024x1024.Idx → Elt F .bf16} {X1 : S1024x1024.Idx → Elt F .f32} (hA : k1_pay2 X0 X1 = A c) {Q : PUnit → sProp 𝕄} :
    iprop(owns (c : Thread nD τ) a0 q₀ X0 ∗ owns (c : Thread nD τ) a1 q₁ X1 ∗ (∃ X, owns (c : Thread nD τ) accM fullShare X)
        ∗ (bigSep Finset.univ fun m => hello A K c m) ∗ meet A K c ∗ (bigSep Finset.univ fun p => kit0 A K c p)
        ∗ (∃ W, owes (c : Thread nD τ) (O₀ c) W) ∗ levAts L lv
        ∗ ∃ X, owns (c : Thread nD τ) a2 fullShare X)
      ⊢ iprop(((owns (c : Thread nD τ) a2 fullShare (k1_pay1 (total A))
            ∗ owns (c : Thread nD τ) a0 q₀ X0 ∗ owns (c : Thread nD τ) a1 q₁ X1 ∗ (∃ X, owns (c : Thread nD τ) accM fullShare X)
            ∗ semVal (barCell c) 0 ∗ (bigSep Finset.univ fun p => done c p) ∗ rsAll c ∗ ∃ W, owes (c : Thread nD τ) 0 W) -∗ |={Set.univ}=> Q ⟨⟩)
        -∗ wp frame (wpE (defs₀ (F := F)) 𝒱₀ c none) Set.univ (cc1_ar_body a0 h0 a1 h1 a2 h2 accM h3 rsM h4 cc1_scratch2 cc1_scratch3) Q) := by
  rw [cc1_ar_body_eq_skeleton]
  unfold cc1_ar_body_skel
  iintro ⟨Ha0, Ha1, HA, Hh, Hm, Hkits, HO, #Hlev, %X, Ha2⟩ Hk
  iapply (part22 hA) $$ [Ha0 Ha1 HA Hh Hm Hkits HO]
  · isplitl [Ha0]; · iexact Ha0
    isplitl [Ha1]; · iexact Ha1
    isplitl [HA]; · iexact HA
    isplitl [Hh]; · iexact Hh
    isplitl [Hm]; · iexact Hm
    isplitl [Hkits]; · iexact Hkits
    isplitl [HO]; · iexact HO
    iexact Hlev
  iintro ⟨Ha0, Ha1, HA, Hs, Hd, Hr, HO⟩
  simp only [Prog.lift, Prog.bind_op, Prog.bind_ret, Prog.pure_eq_ret]
  iapply step_load $$ Ha2
  iintro Ha2
  iapply step_store $$ Ha2
  iintro Ha2
  rw [wp_ret]
  iapply Hk
  isplitl [Ha2]; · iexact Ha2
  isplitl [Ha0]; · iexact Ha0
  isplitl [Ha1]; · iexact Ha1
  isplitl [HA]; · iexists _; iexact HA
  isplitl [Hs]; · iexact Hs
  isplitl [Hd]; · iexact Hd
  isplitl [Hr]; · iexact Hr
  iexact HO

end Cert.KernelIdeal.Hand
-- ==== Proof.Attn.lean ====
/-
  The attention call on one block of a device: its eight heads, one slab of columns after another, and what they leave
  together.
-/
module

public import proofs.«01_k».proof.Proof.Barrier

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Cube

variable {F : FTy → Type} [FloatOps F]

local notation "𝕄" => MT nD τ sig Unit (Elt F) ℕ UU ℕ

/-! ## One head -/

theorem cols_q (h : Fin 8) : S256x1024.Slices ![0, 128 * h.val] S256x128 :=
  ⟨rfl, fun a => match a with | 0 => (by decide : 0 + 256 ≤ 256) | 1 => by have := h.isLt; show 128 * h.val + 128 ≤ 1024; omega⟩

theorem cols_k (h : Fin 8) : S1024x1024.Slices ![0, 128 * h.val] S1024x128 :=
  ⟨rfl, fun a => match a with | 0 => (by decide : 0 + 1024 ≤ 1024) | 1 => by have := h.isLt; show 128 * h.val + 128 ≤ 1024; omega⟩

/-- The exponentials of a head's scores. -/
def weights (q : FVec F S256x1024 .bf16) (k : Vec F S1x1024x1024 .bf16) (h : Fin 8) : FVec F S256x1024 .bf16 :=
  exp (truncf .bf16 (matmul dot_S256x128_S1024x128_S256x1024_1_1_0_0_n_n none
    (extractStridedSlice S256x128 ![0, 128 * h.val] q (cols_q h))
    (extractStridedSlice S1024x128 ![0, 128 * h.val] (shapeCast S1024x1024 k shapeCasts_S1x1024x1024_S1024x1024) (cols_k h))
    (constant S256x1024 .f32 0x00000000#32)) bitsLt_bf16_f32)

/-- Their sums along the rows. -/
def sums (p : FVec F S256x1024 .bf16) : FVec F S256x1 .f32 :=
  shapeCast S256x1 (multiReduction .add [1] S256 (extf .f32 p bitsLt_bf16_f32) 0x00000000#32 reduces_S256x1024_S256 (.inl rfl) rfl) shapeCasts_S256_S256x1

/-- The values they weigh. -/
def mixed (p : FVec F S256x1024 .bf16) (v : Vec F S1x1024x1024 .bf16) (h : Fin 8) : FVec F S256x128 .f32 :=
  matmul dot_S256x1024_S1024x128_S256x128_1_0_0_1_n_n none p
    (extractStridedSlice S1024x128 ![0, 128 * h.val] (shapeCast S1024x1024 v shapeCasts_S1x1024x1024_S1024x1024) (cols_k h))
    (constant S256x128 .f32 0x00000000#32)

/-- One over the other. -/
def scaled (l : FVec F S256x1 .f32) (o : FVec F S256x128 .f32) : FVec F S1x256x128 .bf16 :=
  shapeCast S1x256x128 (truncf .bf16 (mulf o (broadcastTo S256x128 (divf (broadcast S256x1 (Scalar.ofBits .f32 0x3F800000#32)) l) broadcasts_S256x1_S256x128)) bitsLt_bf16_f32) shapeCasts_S256x128_S1x256x128

/-- A head's slab of the result. -/
def head (q : FVec F S256x1024 .bf16) (k v : Vec F S1x1024x1024 .bf16) (h : Fin 8) : FVec F S1x256x128 .bf16 :=
  scaled (sums (weights q k h)) (mixed (weights q k h) v h)

/-! ## The slabs side by side -/

/-- Which head a column belongs to, and where it lies in that head's slab. -/
def headOf (i : S1x256x1024.Idx) : Fin 8 := ⟨(i 2).val / 128, by have : (i 2).val < 1024 := (i 2).isLt; omega⟩
def inHead (i : S1x256x1024.Idx) : S1x256x128.Idx
  | 0 => ⟨(i 0).val, (i 0).isLt⟩
  | 1 => ⟨(i 1).val, (i 1).isLt⟩
  | 2 => ⟨(i 2).val % 128, Nat.mod_lt _ (by decide)⟩

/-- The result of one block. -/
def attn (x : Vec F S1x256x1024 .bf16) (w : Vec F S1024x1024 .bf16) (k v : Vec F S1x1024x1024 .bf16) : S1x256x1024.Idx → Elt F .bf16 :=
  fun i => head (k0_pay1 x w) k v (headOf i) (inHead i)

section Slabs

variable {c : Dev nD} {α : Type} {m : Memref sig .tc .vmem S1x256x1024 .bf16}

/-- The first `n` slabs written. -/
def slabs (G : S1x256x1024.Idx → Elt F .bf16) (c : Dev nD) (m : Memref sig .tc .vmem S1x256x1024 .bf16) (n : ℕ) : sProp 𝕄 :=
  iprop(∃ X, ⌜∀ i : S1x256x1024.Idx, (i 2).val < 128 * n → X i = G i⌝ ∗ owns (c : Thread nD τ) m fullShare X)

theorem slabs_zero {G : S1x256x1024.Idx → Elt F .bf16} {X} : (owns (c : Thread nD τ) m fullShare X : sProp 𝕄) ⊢ slabs G c m 0 := by
  unfold slabs
  iintro H
  iexists X
  isplitr
  · ipureintro; intro i hi; omega
  iexact H

theorem slabs_eight {G : S1x256x1024.Idx → Elt F .bf16} : slabs G c m 8 ⊢ (owns (c : Thread nD τ) m fullShare G : sProp 𝕄) := by
  unfold slabs
  iintro ⟨%X, %h, H⟩
  rw [show G = X from funext fun i => (h i (i 2).isLt).symm]
  iexact H

theorem slab_sub {off : Fin 3 → ℕ} {inb : ∀ x, off x + S1x256x128.size x ≤ S1x256x1024.size x} :
    m.view.setOn (Rect.unit (s := S1x256x1024) off S1x256x128.size inb).toLoadRect.set ⊆ m.view.set := by
  rw [← View.setOn_univ]
  exact Finset.map_subset_map.mpr (Finset.subset_univ _)

/-- Reading a slab, the value not used. -/
theorem step_peek {Q : α → sProp 𝕄} {G : S1x256x1024.Idx → Elt F .bf16} {n : ℕ} {off : Fin 3 → ℕ} {inb : ∀ x, off x + S1x256x128.size x ≤ S1x256x1024.size x}
    {hl : m.view.LoadsAt (Rect.unit (s := S1x256x1024) off S1x256x128.size inb).toLoadRect}
    {kk : (S1x256x128.Idx → Elt F .bf16) → Prog (TpuEff nD τ sig (Elt F) Λ₀ .tc) α} :
    slabs G c m n
      ⊢ iprop((∀ z, slabs G c m n -∗ wp frame (wpE (defs₀ (F := F)) 𝒱₀ c none) Set.univ (kk z) Q)
        -∗ wp frame (wpE (defs₀ (F := F)) 𝒱₀ c none) Set.univ
          (.op (.load m (Rect.unit (s := S1x256x1024) off S1x256x128.size inb).toLoadRect hl) kk) Q) := by
  unfold slabs owns
  iintro ⟨%X, %hX, %f, %hf, H⟩ Hk
  iapply (wp_load 𝒱₀ (c : Thread nD τ) none Set.univ (m := m) (S := m.view.set) (q := fullShare) (f := f) slab_sub) $$ H
  iintro H
  iapply Hk
  iexists X
  isplitr
  · ipureintro; exact hX
  iexists f
  isplitr
  · ipureintro; exact hf
  iexact H

/-- Writing the next slab. -/
theorem step_slab {Q : α → sProp 𝕄} {x : Vec F S1x256x1024 .bf16} {w : Vec F S1024x1024 .bf16} {k v : Vec F S1x1024x1024 .bf16} {n n' : ℕ} (h : Fin 8) {off : Fin 3 → ℕ}
    {inb : ∀ x, off x + S1x256x128.size x ≤ S1x256x1024.size x} {u : S1x256x128.Idx → Elt F .bf16}
    (hn : n = h.val) (hn' : n' = h.val + 1) (ho : off = ![0, 0, 128 * h.val]) (hu : u = head (k0_pay1 x w) k v h)
    {kk : PUnit → Prog (TpuEff nD τ sig (Elt F) Λ₀ .tc) α}
    {hx : (m.access (Rect.unit (s := S1x256x1024) off S1x256x128.size inb)).Stores Finset.univ} {hm} :
    slabs (attn x w k v) c m n
      ⊢ iprop((slabs (attn x w k v) c m n' -∗ wp frame (wpE (defs₀ (F := F)) 𝒱₀ c none) Set.univ (kk ⟨⟩) Q)
        -∗ wp frame (wpE (defs₀ (F := F)) 𝒱₀ c none) Set.univ
          (.op (.store m (Rect.unit (s := S1x256x1024) off S1x256x128.size inb) u Finset.univ hx hm) kk) Q) := by
  subst hn hn' ho hu
  unfold slabs owns
  iintro ⟨%X, %hX, %f, %hf, H⟩ Hk
  iapply (wp_store 𝒱₀ (c : Thread nD τ) none Set.univ (m := m) (r := Rect.unit (s := S1x256x1024) _ S1x256x128.size inb) (S := m.view.set) (f := f)
    (((m.access (Rect.unit (s := S1x256x1024) _ S1x256x128.size inb)).setOn_univ).trans_subset ((View.set_slice _ _).trans_subset slab_sub))) $$ [H]
  · iexact H
  iintro H
  iapply Hk
  iexists (m.view.read (Elt F) ((m.access (Rect.unit (s := S1x256x1024) ![0, 0, 128 * h.val] S1x256x128.size inb)).write (Elt F) f (head (k0_pay1 x w) k v h) Finset.univ))
  isplitr
  rotate_left
  · iexists _
    isplitr
    rotate_left
    · iexact H
    · ipureintro; rfl
  · ipureintro
    intro i hi
    by_cases hin : i ∈ (Rect.unit (s := S1x256x1024) ![0, 0, 128 * h.val] S1x256x128.size inb).set
    · obtain ⟨y, rfl⟩ := (Rect.unit (s := S1x256x1024) ![0, 0, 128 * h.val] S1x256x128.size inb).toLoadRect.exists_idx_of_mem hin
      refine (View.read_slice_write_emb (v := m.view) (Rect.unit (s := S1x256x1024) ![0, 0, 128 * h.val] S1x256x128.size inb) f _ (Finset.mem_univ y)).trans ?_
      have hy : (y 2).val < 128 := (y 2).isLt
      have e2 : (((Rect.unit (s := S1x256x1024) ![0, 0, 128 * h.val] S1x256x128.size inb).idx y) 2).val = 128 * h.val + 1 * (y 2).val := rfl
      unfold attn
      rw [show headOf ((Rect.unit (s := S1x256x1024) ![0, 0, 128 * h.val] S1x256x128.size inb).idx y) = h from
        Fin.ext (by show (((Rect.unit (s := S1x256x1024) ![0, 0, 128 * h.val] S1x256x128.size inb).idx y) 2).val / 128 = h.val; rw [e2]; omega)]
      refine congrArg _ (funext fun a => Fin.ext ?_)
      match a with
      | 0 => show (y 0).val = 0 + 1 * (y 0).val; omega
      | 1 => show (y 1).val = 0 + 1 * (y 1).val; omega
      | 2 => show (y 2).val = (((Rect.unit (s := S1x256x1024) ![0, 0, 128 * h.val] S1x256x128.size inb).idx y) 2).val % 128; rw [e2]; omega
    · refine (View.read_slice_write_of_not_mem (v := m.view) (Rect.unit (s := S1x256x1024) ![0, 0, 128 * h.val] S1x256x128.size inb) f _ _ (by rw [Rect.map_emb_univ]; exact hin)).trans ?_
      rw [hf]
      refine hX i (Nat.lt_of_not_le fun hle => hin (Rect.mem_set_unit.mpr fun a => ?_))
      have h0 := (i 0).isLt
      have h1 := (i 1).isLt
      match a with
      | 0 => exact ⟨Nat.zero_le _, h0.trans_eq (Nat.zero_add _).symm⟩
      | 1 => exact ⟨Nat.zero_le _, h1.trans_eq (Nat.zero_add _).symm⟩
      | 2 => exact ⟨hle, lt_of_lt_of_eq hi (show 128 * (h.val + 1) = 128 * h.val + 128 by omega)⟩

end Slabs

/-! ## The body -/

section Body

variable {c : Dev nD} {i : grid0.Coords} {q₁ q₂ q₃ q₄ : PosShare TreeShare}
  {a1 : Memref sig .tc .vmem S1x256x1024 .bf16} {h1 : a1.IsWhole} {a2 : Memref sig .tc .vmem S1024x1024 .bf16} {h2 : a2.IsWhole}
  {a3 : Memref sig .tc .vmem S1x1024x1024 .bf16} {h3 : a3.IsWhole} {a4 : Memref sig .tc .vmem S1x1024x1024 .bf16} {h4 : a4.IsWhole}
  {a5 : Memref sig .tc .vmem S1x256x1024 .bf16} {h5 : a5.IsWhole}
  {x : Vec F S1x256x1024 .bf16} {w : Vec F S1024x1024 .bf16} {k v : Vec F S1x1024x1024 .bf16}

theorem attn1 {α : Type} {Q : α → sProp 𝕄} {κ : (Σ' (v5 : FVec F S256x1024 .bf16), FVec F S256x1024 .bf16) → Prog (TpuEff nD τ sig (Elt F) Λ₀ .tc) α} :
    iprop(owns (c : Thread nD τ) a1 q₁ x ∗ owns (c : Thread nD τ) a2 q₂ w ∗ owns (c : Thread nD τ) a3 q₃ k ∗ owns (c : Thread nD τ) a4 q₄ v ∗ slabs (attn x w k v) c a5 0)
      ⊢ iprop(((owns (c : Thread nD τ) a1 q₁ x ∗ owns (c : Thread nD τ) a2 q₂ w ∗ owns (c : Thread nD τ) a3 q₃ k ∗ owns (c : Thread nD τ) a4 q₄ v ∗ slabs (attn x w k v) c a5 1)
          -∗ wp frame (wpE (defs₀ (F := F)) 𝒱₀ c none) Set.univ (κ ⟨k0_pay1 x w, weights (k0_pay1 x w) k 1⟩) Q)
        -∗ wp frame (wpE (defs₀ (F := F)) 𝒱₀ c none) Set.univ (k0_part1 i a1 h1 a2 h2 a3 h3 a4 h4 a5 h5 >>= κ) Q) := by
  simp only [k0_part1_eq_skeleton]
  unfold k0_part1_skel
  simp only [Prog.lift, Prog.bind_op, Prog.bind_ret, Prog.pure_eq_ret, Prog.bind_assoc]
  iintro ⟨H1, H2, H3, H4, H5⟩ Hk
  iapply step_load $$ H1
  iintro H1
  iapply step_load $$ H2
  iintro H2
  iapply step_load $$ H3
  iintro H3
  iapply step_load $$ H4
  iintro H4
  iapply step_peek $$ H5
  iintro %_ H5
  iapply (step_slab (n := 0) (n' := 1) (off := ![0, 0, 0]) (x := x) (w := w) (k := k) (v := v) (u := k0_pay2 x w k v) 0 rfl rfl rfl rfl) $$ H5
  iintro H5
  iapply step_load $$ H3
  iintro H3
  iapply Hk
  isplitl [H1]; · iexact H1
  isplitl [H2]; · iexact H2
  isplitl [H3]; · iexact H3
  isplitl [H4]; · iexact H4
  iexact H5

theorem attn2 {α : Type} {Q : α → sProp 𝕄} {κ : FVec F S1x256x128 .bf16 → Prog (TpuEff nD τ sig (Elt F) Λ₀ .tc) α} :
    iprop(owns (c : Thread nD τ) a3 q₃ k ∗ owns (c : Thread nD τ) a4 q₄ v ∗ slabs (attn x w k v) c a5 1)
      ⊢ iprop(((owns (c : Thread nD τ) a3 q₃ k ∗ owns (c : Thread nD τ) a4 q₄ v ∗ slabs (attn x w k v) c a5 2)
          -∗ wp frame (wpE (defs₀ (F := F)) 𝒱₀ c none) Set.univ (κ (head (k0_pay1 x w) k v 2)) Q)
        -∗ wp frame (wpE (defs₀ (F := F)) 𝒱₀ c none) Set.univ (k0_part2 i a1 h1 a2 h2 a3 h3 a4 h4 a5 h5 (k0_pay1 x w) (weights (k0_pay1 x w) k 1) >>= κ) Q) := by
  simp only [k0_part2_eq_skeleton]
  unfold k0_part2_skel
  simp only [Prog.lift, Prog.bind_op, Prog.bind_ret, Prog.pure_eq_ret, Prog.bind_assoc]
  iintro ⟨H3, H4, H5⟩ Hk
  iapply step_load $$ H4
  iintro H4
  iapply step_peek $$ H5
  iintro %_ H5
  iapply (step_slab (n := 1) (n' := 2) (off := ![0, 0, 128]) (x := x) (w := w) (k := k) (v := v) (u := k0_pay4 (weights (k0_pay1 x w) k 1) v) 1 rfl rfl rfl rfl) $$ H5
  iintro H5
  iapply step_load $$ H3
  iintro H3
  iapply step_load $$ H4
  iintro H4
  iapply step_peek $$ H5
  iintro %_ H5
  iapply Hk
  isplitl [H3]; · iexact H3
  isplitl [H4]; · iexact H4
  iexact H5

theorem attn3 {α : Type} {Q : α → sProp 𝕄} {κ : (Σ' (v103 : FVec F S256x1 .f32), FVec F S256x128 .f32) → Prog (TpuEff nD τ sig (Elt F) Λ₀ .tc) α} :
    iprop(owns (c : Thread nD τ) a3 q₃ k ∗ owns (c : Thread nD τ) a4 q₄ v ∗ slabs (attn x w k v) c a5 2)
      ⊢ iprop(((owns (c : Thread nD τ) a3 q₃ k ∗ owns (c : Thread nD τ) a4 q₄ v ∗ slabs (attn x w k v) c a5 4)
          -∗ wp frame (wpE (defs₀ (F := F)) 𝒱₀ c none) Set.univ (κ (⟨sums (weights (k0_pay1 x w) k 4), mixed (weights (k0_pay1 x w) k 4) v 4⟩)) Q)
        -∗ wp frame (wpE (defs₀ (F := F)) 𝒱₀ c none) Set.univ (k0_part3 i a1 h1 a2 h2 a3 h3 a4 h4 a5 h5 (k0_pay1 x w) (head (k0_pay1 x w) k v 2) >>= κ) Q) := by
  simp only [k0_part3_eq_skeleton]
  unfold k0_part3_skel
  simp only [Prog.lift, Prog.bind_op, Prog.bind_ret, Prog.pure_eq_ret, Prog.bind_assoc]
  iintro ⟨H3, H4, H5⟩ Hk
  iapply (step_slab (n := 2) (n' := 3) (off := ![0, 0, 256]) (x := x) (w := w) (k := k) (v := v) (u := head (k0_pay1 x w) k v 2) 2 rfl rfl rfl rfl) $$ H5
  iintro H5
  iapply step_load $$ H3
  iintro H3
  iapply step_load $$ H4
  iintro H4
  iapply step_peek $$ H5
  iintro %_ H5
  iapply (step_slab (n := 3) (n' := 4) (off := ![0, 0, 384]) (x := x) (w := w) (k := k) (v := v) (u := k0_pay6 (k0_pay1 x w) k v) 3 rfl rfl rfl rfl) $$ H5
  iintro H5
  iapply step_load $$ H3
  iintro H3
  iapply step_load $$ H4
  iintro H4
  iapply Hk
  isplitl [H3]; · iexact H3
  isplitl [H4]; · iexact H4
  iexact H5

theorem attn4 {α : Type} {Q : α → sProp 𝕄} {κ : FVec F S256x1024 .bf16 → Prog (TpuEff nD τ sig (Elt F) Λ₀ .tc) α} :
    iprop(owns (c : Thread nD τ) a3 q₃ k ∗ owns (c : Thread nD τ) a4 q₄ v ∗ slabs (attn x w k v) c a5 4)
      ⊢ iprop(((owns (c : Thread nD τ) a3 q₃ k ∗ owns (c : Thread nD τ) a4 q₄ v ∗ slabs (attn x w k v) c a5 6)
          -∗ wp frame (wpE (defs₀ (F := F)) 𝒱₀ c none) Set.univ (κ (weights (k0_pay1 x w) k 6)) Q)
        -∗ wp frame (wpE (defs₀ (F := F)) 𝒱₀ c none) Set.univ (k0_part4 i a1 h1 a2 h2 a3 h3 a4 h4 a5 h5 (k0_pay1 x w) (sums (weights (k0_pay1 x w) k 4)) (mixed (weights (k0_pay1 x w) k 4) v 4) >>= κ) Q) := by
  simp only [k0_part4_eq_skeleton]
  unfold k0_part4_skel
  simp only [Prog.lift, Prog.bind_op, Prog.bind_ret, Prog.pure_eq_ret, Prog.bind_assoc]
  iintro ⟨H3, H4, H5⟩ Hk
  iapply step_peek $$ H5
  iintro %_ H5
  iapply (step_slab (n := 4) (n' := 5) (off := ![0, 0, 512]) (x := x) (w := w) (k := k) (v := v) (u := k0_pay10 (sums (weights (k0_pay1 x w) k 4)) (mixed (weights (k0_pay1 x w) k 4) v 4)) 4 rfl rfl rfl rfl) $$ H5
  iintro H5
  iapply step_load $$ H3
  iintro H3
  iapply step_load $$ H4
  iintro H4
  iapply step_peek $$ H5
  iintro %_ H5
  iapply (step_slab (n := 5) (n' := 6) (off := ![0, 0, 640]) (x := x) (w := w) (k := k) (v := v) (u := k0_pay11 (k0_pay1 x w) k v) 5 rfl rfl rfl rfl) $$ H5
  iintro H5
  iapply step_load $$ H3
  iintro H3
  iapply Hk
  isplitl [H3]; · iexact H3
  isplitl [H4]; · iexact H4
  iexact H5

theorem attn5 {α : Type} {Q : α → sProp 𝕄} {κ : FVec F S1x256x128 .bf16 → Prog (TpuEff nD τ sig (Elt F) Λ₀ .tc) α} :
    iprop(owns (c : Thread nD τ) a3 q₃ k ∗ owns (c : Thread nD τ) a4 q₄ v ∗ slabs (attn x w k v) c a5 6)
      ⊢ iprop(((owns (c : Thread nD τ) a3 q₃ k ∗ owns (c : Thread nD τ) a4 q₄ v ∗ slabs (attn x w k v) c a5 7)
          -∗ wp frame (wpE (defs₀ (F := F)) 𝒱₀ c none) Set.univ (κ (head (k0_pay1 x w) k v 7)) Q)
        -∗ wp frame (wpE (defs₀ (F := F)) 𝒱₀ c none) Set.univ (k0_part5 i a1 h1 a2 h2 a3 h3 a4 h4 a5 h5 (k0_pay1 x w) (weights (k0_pay1 x w) k 6) >>= κ) Q) := by
  simp only [k0_part5_eq_skeleton]
  unfold k0_part5_skel
  simp only [Prog.lift, Prog.bind_op, Prog.bind_ret, Prog.pure_eq_ret, Prog.bind_assoc]
  iintro ⟨H3, H4, H5⟩ Hk
  iapply step_load $$ H4
  iintro H4
  iapply step_peek $$ H5
  iintro %_ H5
  iapply (step_slab (n := 6) (n' := 7) (off := ![0, 0, 768]) (x := x) (w := w) (k := k) (v := v) (u := k0_pay13 (weights (k0_pay1 x w) k 6) v) 6 rfl rfl rfl rfl) $$ H5
  iintro H5
  iapply step_load $$ H3
  iintro H3
  iapply step_load $$ H4
  iintro H4
  iapply step_peek $$ H5
  iintro %_ H5
  iapply Hk
  isplitl [H3]; · iexact H3
  isplitl [H4]; · iexact H4
  iexact H5

/-- One block, start to end. -/
theorem attn_body {Q : PUnit → sProp 𝕄} :
    iprop(owns (c : Thread nD τ) a1 q₁ x ∗ owns (c : Thread nD τ) a2 q₂ w ∗ owns (c : Thread nD τ) a3 q₃ k ∗ owns (c : Thread nD τ) a4 q₄ v ∗ ∃ X, owns (c : Thread nD τ) a5 fullShare X)
      ⊢ iprop(((owns (c : Thread nD τ) a1 q₁ x ∗ owns (c : Thread nD τ) a2 q₂ w ∗ owns (c : Thread nD τ) a3 q₃ k ∗ owns (c : Thread nD τ) a4 q₄ v ∗ owns (c : Thread nD τ) a5 fullShare (attn x w k v))
          -∗ |={Set.univ}=> Q ⟨⟩)
        -∗ wp frame (wpE (defs₀ (F := F)) 𝒱₀ c none) Set.univ (cc0_attn_body i a1 h1 a2 h2 a3 h3 a4 h4 a5 h5) Q) := by
  rw [cc0_attn_body_eq_skeleton]
  unfold cc0_attn_body_skel
  iintro ⟨H1, H2, H3, H4, %X, H5⟩ Hk
  ihave H5 := (slabs_zero (G := attn x w k v)) $$ H5
  iapply attn1 $$ [H1 H2 H3 H4 H5]
  · isplitl [H1]; · iexact H1
    isplitl [H2]; · iexact H2
    isplitl [H3]; · iexact H3
    isplitl [H4]; · iexact H4
    iexact H5
  iintro ⟨H1, H2, H3, H4, H5⟩
  iapply attn2 $$ [H3 H4 H5]
  · isplitl [H3]; · iexact H3
    isplitl [H4]; · iexact H4
    iexact H5
  iintro ⟨H3, H4, H5⟩
  iapply attn3 $$ [H3 H4 H5]
  · isplitl [H3]; · iexact H3
    isplitl [H4]; · iexact H4
    iexact H5
  iintro ⟨H3, H4, H5⟩
  iapply attn4 $$ [H3 H4 H5]
  · isplitl [H3]; · iexact H3
    isplitl [H4]; · iexact H4
    iexact H5
  iintro ⟨H3, H4, H5⟩
  iapply attn5 $$ [H3 H4 H5]
  · isplitl [H3]; · iexact H3
    isplitl [H4]; · iexact H4
    iexact H5
  iintro ⟨H3, H4, H5⟩
  simp only [Prog.lift, Prog.bind_op, Prog.bind_ret, Prog.pure_eq_ret]
  iapply (step_slab (n := 7) (n' := 8) (off := ![0, 0, 896]) (x := x) (w := w) (k := k) (v := v) (u := head (k0_pay1 x w) k v 7) 7 rfl rfl rfl rfl) $$ H5
  iintro H5
  rw [wp_ret]
  iapply Hk
  isplitl [H1]; · iexact H1
  isplitl [H2]; · iexact H2
  isplitl [H3]; · iexact H3
  isplitl [H4]; · iexact H4
  iapply slabs_eight $$ H5

end Body

end Cert.KernelIdeal.Hand
-- ==== Proof.First.lean ====
/-
  The attention region: what its windows hold at each point, and its body there.
-/
module

public import proofs.«01_k».proof.Proof.Attn
public import proofs.«01_k».proof.Proof.Gen.KernelIdeal.Regions
public import proofs.«01_k».proof.Proof.Gen.KernelIdeal.Points
public import Idealize.ShloMosaic.Lib.Pipeline.FrameBody

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen Cert.Cube

variable {F : FTy → Type} [FloatOps F]

local notation "𝕄" => MT nD τ sig Unit (Elt F) ℕ UU ℕ

variable (m : (ℓ : Loc nD τ sig) → Buf (Elt F) ℓ) (c : Dev nD)

/-- What point `t` reads through window `w` of the attention region: its block of the window's array. -/
abbrev read0 (w : Fin cfg0.W) (t : Fin cfg0.N) : ((cfg0.win w).xblock (grid0.coords t)).Idx → Elt F (cfg0.win w).elt :=
  ((cfg0.win w).blk t).view.read (Elt F) (V1 m c (Proc.devRef .tc (Pipeline.arrRef spec0 w)))

abbrev inX (t : Fin cfg0.N) : Vec F S1x256x1024 .bf16 := read0 m c 0 t
abbrev inW (t : Fin cfg0.N) : Vec F S1024x1024 .bf16 := read0 m c 1 t
abbrev inK (t : Fin cfg0.N) : Vec F S1x1024x1024 .bf16 := read0 m c 2 t
abbrev inV (t : Fin cfg0.N) : Vec F S1x1024x1024 .bf16 := read0 m c 3 t

/-- What the body leaves in the result's buffer at point `t`. -/
def out0 (t : Fin cfg0.N) : S1x256x1024.Idx → Elt F .bf16 := attn (inX m c t) (inW m c t) (inK m c t) (inV m c t)

/-- The contents of the attention region: its arrays as the host leaves them; every input's buffer at its block and the
    result's at the attention of the four; the device owing all it owes at the start. -/
def dat0 : Dat τ (Elt F) Unit ℕ UU ℕ cfg0 c where
  A w := V1 m c (Proc.devRef .tc (Pipeline.arrRef spec0 w))
  after w t := match w with
    | ⟨0, _⟩ => inX m c t
    | ⟨1, _⟩ => inW m c t
    | ⟨2, _⟩ => inK m c t
    | ⟨3, _⟩ => inV m c t
    | ⟨4, _⟩ => out0 m c t
  Φ _ := Pipeline.scopedRest (Ix := Unit) (Name := ℕ) (U := UU) (Lvl := ℕ) (Val := Elt F) spec0 c
  q _ := fullShare
  owed _ := O₀ c

theorem before0_0 (t : Fin cfg0.N) (d) : (dat0 m c).before 0 t d = inX m c t :=
  (dat0 m c).before_in_eq_fetched 0 rfl (fun _ => rfl) (fun _ _ _ => rfl) (fun _ => rfl) t d
theorem before0_1 (t : Fin cfg0.N) (d) : (dat0 m c).before 1 t d = inW m c t :=
  (dat0 m c).before_in_eq_fetched 1 rfl (fun _ => rfl) (fun _ _ _ => rfl) (fun _ => rfl) t d
theorem before0_2 (t : Fin cfg0.N) (d) : (dat0 m c).before 2 t d = inK m c t :=
  (dat0 m c).before_in_eq_fetched 2 rfl (fun _ => rfl) (fun _ _ _ => rfl) (fun _ => rfl) t d
theorem before0_3 (t : Fin cfg0.N) (d) : (dat0 m c).before 3 t d = inV m c t :=
  (dat0 m c).before_in_eq_fetched 3 rfl (fun _ => rfl) (fun _ _ _ => rfl) (fun _ => rfl) t d

/-- The attention region's body at a point. -/
theorem body0 : BodyObligation (dat0 m c) (defs₀ (F := F)) 𝒱₀ () Set.univ := fun t => by
  rw [bigSep_W0, bigSep_W0]
  rw [show (dat0 m c).Φ t.succ = (dat0 m c).Φ t.castSucc from rfl,
    show (dat0 m c).owesAt () t.succ = (dat0 m c).owesAt () t.castSucc from rfl]
  iintro ⟨HΦ, HO, ⟨%d0, H0⟩, ⟨%d1, H1⟩, ⟨%d2, H2⟩, ⟨%d3, H3⟩, ⟨%d4, H4⟩⟩
  rw [before0_0, before0_1, before0_2, before0_3]
  iapply attn_body $$ [H0 H1 H2 H3 H4]
  · isplitl [H0]; · iexact H0
    isplitl [H1]; · iexact H1
    isplitl [H2]; · iexact H2
    isplitl [H3]; · iexact H3
    iexists ((dat0 m c).before 4 t d4)
    iexact H4
  iintro ⟨H0, H1, H2, H3, H4⟩
  imodintro
  isplitl [HΦ]; · iexact HΦ
  isplitl [HO]; · iexact HO
  isplitl [H0]; · iexact H0
  isplitl [H1]; · iexact H1
  isplitl [H2]; · iexact H2
  isplitl [H3]; · iexact H3
  iexact H4

end Cert.KernelIdeal.Hand

end
-- ==== Proof.Second.lean ====
/-
  The exchange region: what a device brings to it from the launch, what its windows hold, and its body.
-/
module

public import proofs.«01_k».proof.Proof.Body
public import proofs.«01_k».proof.Proof.First

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen Cert.Cube

variable {F : FTy → Type} [FloatOps F]

local notation "𝕄" => MT nD τ sig Unit (Elt F) ℕ UU ℕ

/-! ## What a device brings -/

section Start

variable (A : Dev nD → Acc F) (K : GSem nD τ sig → ℕ) (c : Dev nD)

/-- The invariants of an exchange's cells: both ends of its own, and the mate's receiving end. -/
def invs (p : Ex) : sProp 𝕄 :=
  iprop(cellInv ER (rd A) (K (sendCell c p)) (sendCell c p) ∗ cellInv ER (rd A) (K (recvCell c p)) (recvCell c p)
    ∗ cellInv ER (rd A) (K (recvCell (mate p.1 p.2 c) p)) (recvCell (mate p.1 p.2 c) p))

instance invs_persistent (p : Ex) : BI.Persistent (invs A K c p) := by unfold invs; infer_instance

/-- Of an exchange: its invariants, the right to open the two cells, and the two duties paid there. -/
def closed (p : Ex) : sProp 𝕄 :=
  iprop(invs A K c p ∗ (openTok ER (sendCell c p) ∗ openTok ER (recvCell c p))
    ∗ (dutyTok ER (sendCell c p) 0 0 ∗ dutyTok ER (recvCell (mate p.1 p.2 c) p) 0 0))

/-- What the launch leaves a device for the region, the names of the invariants aside. -/
def ghost : sProp 𝕄 :=
  iprop(cellInv ER (rd A) (K (barCell c)) (barCell c) ∗ atPos ER (barCell c) 0 ∅ 0
    ∗ (bigSep Finset.univ fun m => hello0 A K c m) ∗ (bigSep Finset.univ fun p => closed A K c p))

/-- The credits it waits with. -/
def creds : sProp 𝕄 := iprop(cred (tallyAt (barCell c) () 3) ∗ bigSep Finset.univ fun p : Ex => cred (tallyAt (recvCell c p) () (Nx p)))

def start : sProp 𝕄 := iprop((∃ K, ghost A K c) ∗ creds c)

/-- The same with the cells open. -/
def ready : sProp 𝕄 :=
  iprop(∃ K, (bigSep Finset.univ fun p : Ex => reached ER (recvCell c p) 0) ∗ (bigSep Finset.univ fun m => hello0 A K c m) ∗ meet A K c
    ∗ (bigSep Finset.univ fun p => kit0 A K c p) ∗ levAts L lv)

theorem open_one (p : Ex) : iprop(cred (tallyAt (recvCell c p) () (Nx p)) ∗ closed A K c p ∗ (semVal (sendCell c p) 0 ∗ semVal (recvCell c p) 0))
    ⊢ (|={Set.univ}=> iprop(reached ER (recvCell c p) 0 ∗ kit0 A K c p) : sProp 𝕄) := by
  unfold closed invs kit0
  iintro ⟨Hc, ⟨⟨#Is, #Ir, #Im⟩, ⟨Hos, Hor⟩, Hd, Hd'⟩, Hs, Hr⟩
  imod (Rounds.cell_open ER (rd A) (g := sendCell c p) (Set.mem_univ (K (sendCell c p)))) $$ [Hos Hs] with ⟨HaS, #HrS⟩
  · isplitr; · iexact Is
    isplitl [Hos] <;> iassumption
  imod (Rounds.cell_open ER (rd A) (g := recvCell c p) (Set.mem_univ (K (recvCell c p)))) $$ [Hor Hr] with ⟨HaR, #HrR⟩
  · isplitr; · iexact Ir
    isplitl [Hor] <;> iassumption
  imodintro
  isplitr; · iexact HrR
  isplitr
  · isplitr; · iexact Is
    isplitr; · iexact Ir
    isplitr; · iexact Im
    iexact HrS
  isplitl [Hd]; · iexact Hd
  isplitl [Hd']; · iexact Hd'
  isplitl [HaS]; · iexact HaS
  isplitl [HaR]; · iexact HaR
  iexact Hc

/-- The region's own semaphores, by exchange. -/
def osem (x : Ex × Bool) : SemLoc sig := .dma (if x.2 then recvS x.1 else sendS x.1)

theorem ownSems_eq : (Pipeline.ownSems0 (Ix := Unit) (Name := ℕ) (U := UU) (Lvl := ℕ) (Val := Elt F) osem c : sProp 𝕄)
    = bigSep Finset.univ fun p : Ex => iprop(semVal (sendCell c p) 0 ∗ semVal (recvCell c p) 0) := by
  unfold Pipeline.ownSems0
  rw [bigSep_univ_prod]
  refine bigSep_congr fun p _ => ?_
  rw [show (Finset.univ : Finset Bool) = {false, true} from by decide, bigSep_insert (by decide), bigSep_singleton]
  rfl

theorem open_all : iprop(start A c ∗ Pipeline.ownSems0 osem c ∗ levAts L lv) ⊢ (|={Set.univ}=> ready A c : sProp 𝕄) := by
  rw [ownSems_eq]
  unfold start ghost creds ready meet
  iintro ⟨⟨⟨%K, Hib, Hat, Hh, Hcl⟩, Hcb, Hcr⟩, Hs, Hlev⟩
  have h : iprop((bigSep Finset.univ fun p : Ex => cred (tallyAt (recvCell c p) () (Nx p))) ∗ (bigSep Finset.univ fun p => closed A K c p)
      ∗ bigSep Finset.univ fun p : Ex => iprop(semVal (sendCell c p) 0 ∗ semVal (recvCell c p) 0))
      ⊢ (|={Set.univ}=> iprop((bigSep Finset.univ fun p : Ex => reached ER (recvCell c p) 0) ∗ bigSep Finset.univ fun p => kit0 A K c p) : sProp 𝕄) := by
    rw [← bigSep_sep', ← bigSep_sep', ← bigSep_sep']
    exact BIBase.Entails.trans (bigSep_mono fun p _ => open_one A K c p) (bigSep_fupd _ _)
  imod h $$ [Hcr Hcl Hs] with ⟨Hr, Hk⟩
  · isplitl [Hcr]; · iexact Hcr
    isplitl [Hcl] <;> iassumption
  imodintro
  iexists K
  isplitl [Hr]; · iexact Hr
  isplitl [Hh]; · iexact Hh
  isplitl [Hib Hat Hcb]
  · isplitl [Hib]; · iexact Hib
    isplitl [Hat] <;> iassumption
  isplitl [Hk]; · iexact Hk
  iexact Hlev

end Start

/-! ## The region's contents -/

section Region

variable (V : Dev nD → Valuation τ sig (Elt F)) (c : Dev nD)

/-- What the region reads through window `w`: the whole array. -/
abbrev read1 (w : Fin cfg1.W) (t : Fin cfg1.N) : ((cfg1.win w).xblock (grid1.coords t)).Idx → Elt F (cfg1.win w).elt :=
  ((cfg1.win w).blk t).view.read (Elt F) (V c (Proc.devRef .tc (Pipeline.arrRef spec1 w)))

abbrev inO : Vec F S1024x1024 .bf16 := read1 V c 0 t1_0
abbrev inP : Vec F S1024x1024 .f32 := read1 V c 1 t1_0

/-- The block a device starts the exchange with. -/
def begun (c : Dev nD) : Acc F := k1_pay2 (inO V c) (inP V c)

/-- What the region leaves in the result's buffer. -/
def out1 : Vec F S1024x1024 .f32 := k1_pay1 (total (begun V))

/-- Between the region's ends: the buffers no window stages and the generator register, beside the start first and the zeroed
    cells last. -/
def mid (n : ℕ) : sProp 𝕄 :=
  iprop(Pipeline.scopedRest (Ix := Unit) (Name := ℕ) (U := UU) (Lvl := ℕ) (Val := Elt F) spec1 c ∗ (∃ r, prngReg c r)
    ∗ if n = 0 then ready (begun V) c else iprop(semVal (barCell c) 0 ∗ bigSep Finset.univ fun p => done c p))

def dat1 : Dat τ (Elt F) Unit ℕ UU ℕ cfg1 c where
  A w := V c (Proc.devRef .tc (Pipeline.arrRef spec1 w))
  after w t := match w with
    | ⟨0, _⟩ => inO V c
    | ⟨1, _⟩ => inP V c
    | ⟨2, _⟩ => out1 V
  Φ t := mid V c t.val
  q _ := fullShare
  owed t := if t.val = 0 then O₀ c else 0

theorem owesAt_intro {cfg : Pipeline.Cfg sig Λ₀} {c : Dev nD} (dat : Dat τ (Elt F) Unit ℕ UU ℕ cfg c) (t : Fin (cfg.N + 1))
    {O : CellTallies nD τ sig Unit} (hO : dat.owed t = O) (hr : dat.recorded t = Set.univ) :
    iprop(∃ W, owes (c : Thread nD τ) O W) ⊢ (dat.owesAt () t : sProp 𝕄) := by
  unfold Dat.owesAt Pipeline.owesWithin Dat.bound
  rw [hO, hr]
  iintro ⟨%W, HO⟩
  iexists W
  isplitr; · ipureintro; exact fun _ _ => Or.inl trivial
  iexact HO

theorem owesAt_elim {cfg : Pipeline.Cfg sig Λ₀} {c : Dev nD} (dat : Dat τ (Elt F) Unit ℕ UU ℕ cfg c) (t : Fin (cfg.N + 1))
    {O : CellTallies nD τ sig Unit} (hO : dat.owed t = O) :
    (dat.owesAt () t : sProp 𝕄) ⊢ iprop(∃ W, owes (c : Thread nD τ) O W) := by
  unfold Dat.owesAt Pipeline.owesWithin
  rw [hO]
  iintro ⟨%W, -, HO⟩
  iexists W
  iexact HO

theorem before1_0 (d) : (dat1 V c).before 0 t1_0 d = inO V c :=
  (dat1 V c).before_in_eq_fetched 0 rfl (fun _ => rfl) (fun _ _ _ => rfl) (fun t => by obtain rfl := fin_N1 t; rfl) t1_0 d
theorem before1_1 (d) : (dat1 V c).before 1 t1_0 d = inP V c :=
  (dat1 V c).before_in_eq_fetched 1 rfl (fun _ => rfl) (fun _ _ _ => rfl) (fun t => by obtain rfl := fin_N1 t; rfl) t1_0 d

theorem owed1_last : (dat1 V c).owed (Fin.last cfg1.N) = 0 := by
  show (if (Fin.last cfg1.N).val = 0 then O₀ c else 0) = 0
  rw [Fin.val_last, if_neg (by rw [show cfg1.N = 1 from N_1]; decide)]

/-- The exchange region's body. -/
theorem body1 : BodyObligation (dat1 V c) (defs₀ (F := F)) 𝒱₀ () Set.univ := fun t => by
  obtain rfl := fin_N1 t
  rw [bigSep_W1, bigSep_W1]
  rw [show (dat1 V c).Φ t1_0.castSucc = mid V c 0 from rfl, show (dat1 V c).Φ t1_0.succ = mid V c 1 from rfl]
  unfold mid
  rw [if_pos rfl, if_neg Nat.one_ne_zero, scopedRest1_eq]
  unfold ready
  iintro ⟨⟨⟨B0, B1, B2, B3, B4, B5, B6, B7, B8, HA, ⟨%Y, HR⟩⟩, Hp, ⟨%K, Hr, Hh, Hm, Hk, Hlev⟩⟩, HO, ⟨%d0, H0⟩, ⟨%d1, H1⟩, ⟨%d2, H2⟩⟩
  rw [before1_0, before1_1]
  ihave HO := (owesAt_elim (dat1 V c) _ (O := O₀ c) rfl) $$ HO
  ihave HR := (rs_split (c := c) Y) $$ HR
  ihave Hh := (hellos (A := begun V) (K := K) (c := c)) $$ [Hr HR Hh]
  · isplitl [Hr]; · iexact Hr
    isplitl [HR] <;> iassumption
  iapply (body (A := begun V) (K := K) (c := c) rfl) $$ [H0 H1 H2 HA Hh Hm Hk HO Hlev]
  · isplitl [H0]; · iexact H0
    isplitl [H1]; · iexact H1
    isplitl [HA]
    · icases HA with ⟨%f, HA⟩
      iexists f
      iapply (Entails.of_eq (owns_whole (c : Thread nD τ) cc1_scratch0 fullShare f).symm)
      iexact HA
    isplitl [Hh]; · iexact Hh
    isplitl [Hm]; · iexact Hm
    isplitl [Hk]; · iexact Hk
    isplitl [HO]; · iexact HO
    isplitl [Hlev]; · iexact Hlev
    iexists ((dat1 V c).before 2 t1_0 d2)
    iexact H2
  iintro ⟨H2, H0, H1, ⟨%f, HA⟩, Hb, Hd, HR, HO⟩
  ihave HR := (rs_join (c := c) Y) $$ HR
  imodintro
  isplitr [H0 H1 H2 HO]
  · isplitr [Hp Hb Hd]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [HA]
      · iexists f
        iapply (Entails.of_eq (owns_whole (c : Thread nD τ) cc1_scratch0 fullShare f))
        iexact HA
      iexact HR
    isplitl [Hp]; · iexact Hp
    isplitl [Hb]; · iexact Hb
    iexact Hd
  isplitl [HO]
  · iapply (owesAt_intro (dat1 V c) t1_0.succ (O := 0) rfl rfl)
    iexact HO
  isplitl [H0]; · iexact H0
  isplitl [H1]; · iexact H1
  iexact H2

end Region

end Cert.KernelIdeal.Hand

end
-- ==== Proof.Regs.lean ====
/-
  The records of the two regions, and how they chain with the host's operations.
-/
module

public import proofs.«01_k».proof.Proof.Second
public import Idealize.ShloMosaic.Lib.Pipeline.RegionArrays
public import Idealize.ShloMosaic.Lib.Pipeline.RegionTalk

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen Cert.Cube

variable {F : FTy → Type} [FloatOps F]

local notation "𝕄" => MT nD τ sig Unit (Elt F) ℕ UU ℕ

variable (m : (ℓ : Loc nD τ sig) → Buf (Elt F) ℓ) (c : Dev nD)

/-! ## The buffers along the way -/

/-- After the attention region. -/
def W2 : Valuation τ sig (Elt F) := Function.update (V1 m c) main_v9 ((dat0 m c).arrAt 4 cfg0.N)
/-- After the reshape that follows it. -/
def W3 : Valuation τ sig (Elt F) := StableHlo.after hostOps1 (W2 m c)
/-- After the exchange region. -/
def W4 : Valuation τ sig (Elt F) := Function.update (W3 m c) main_v11 ((dat1 (W3 m) c).arrAt 2 cfg1.N)

/-- What the two regions leave. -/
def outs : Outs (F := F) := fun k r c => if k = 2 then W2 m c r else W4 m c r

theorem V2_eq : V2 m (outs m) c = W2 m c := by
  show Function.update (V1 m c) _ (W2 m c main_v9) = W2 m c
  unfold W2
  rw [Function.update_self]
theorem V3_eq : V3 m (outs m) c = W3 m c := by
  show StableHlo.after hostOps1 (V2 m (outs m) c) = _
  rw [V2_eq]
  rfl
theorem V4_eq : V4 m (outs m) c = W4 m c := by
  show Function.update (V3 m (outs m) c) _ (W4 m c main_v11) = W4 m c
  rw [V3_eq]
  unfold W4
  rw [Function.update_self]

def pdats (p : Fin 2) (c : Dev nD) : Dat τ (Elt F) Unit ℕ UU ℕ (cfgs p) c :=
  match p with
  | 0 => dat0 m c
  | 1 => dat1 (W3 m) c

/-! ## Levels -/

theorem O₀_pos {g : GSem nD τ sig} {u : Unit} (h : 0 < O₀ c g u) : u ∈ L g ∧ 0 < lv g u := by
  have hbar (d : Dev nD) (h : 0 < (tallyAt (barCell d) () 1 : CellTallies nD τ sig Unit) g u) : u ∈ L g ∧ 0 < lv g u := by
    rw [tallyAt_apply] at h
    split at h
    · next hg =>
      obtain ⟨rfl, -⟩ := hg
      exact ⟨by rw [L_tc]; exact Finset.mem_singleton_self _, Nat.one_pos⟩
    · exact absurd h (Nat.lt_irrefl 0)
  unfold O₀ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨c', p, rfl, -⟩ := owe_pos h
        exact ⟨by rw [L_tc]; exact Finset.mem_singleton_self _, by show 0 < lv (recvCell c' p) (); rw [lv_recv]; omega⟩
      · exact hbar _ h
    · exact hbar _ h
  · exact hbar _ h

theorem stg0_lt : ∀ (w : Fin cfg0.W) (s : Fin (cfg0.win w).nbuf), ((cfg0.win w).sem s).val < 30 := by decide
theorem stg1_lt : ∀ (w : Fin cfg1.W) (s : Fin (cfg1.win w).nbuf), ((cfg1.win w).sem s).val < 30 := by decide

theorem lv_low {q : DmaSem sig} (h : q.val < 30) : lv ((c : Thread nD τ), .dma q) () ≤ 0 := by
  dsimp only [lv]
  rw [if_pos h]

/-! ## The records -/

local notation "ℝ𝕊" => Pipeline.RegionSeg (pcfgs (F := F)) adm (pdats m) () defs₀ 𝒱₀ L lv

/-- The buffers beside the arrays of a region. -/
abbrev rest0 : Finset (DevRef τ sig) := Pipeline.ucRefs τ sig \ Pipeline.arrRefs (τ := τ) spec0
abbrev rest1 : Finset (DevRef τ sig) := Pipeline.ucRefs τ sig \ Pipeline.arrRefs (τ := τ) spec1

theorem arr0_sub : Pipeline.arrRefs (τ := τ) spec0 ⊆ Pipeline.ucRefs τ sig := by decide
theorem arr1_sub : Pipeline.arrRefs (τ := τ) spec1 ⊆ Pipeline.ucRefs τ sig := by decide

theorem W2_of (r : DevRef τ sig) (h : r ≠ Proc.devRef .tc main_v9) : W2 m c r = V1 m c r := Function.update_of_ne h _ _
theorem W4_of (r : DevRef τ sig) (h : r ≠ Proc.devRef .tc main_v11) : W4 m c r = W3 m c r := Function.update_of_ne h _ _

theorem W2_out : W2 m c main_v9 = (dat0 m c).arrAt 4 cfg0.N := by
  unfold W2
  rw [Function.update_self]
theorem W4_out : W4 m c main_v11 = (dat1 (W3 m) c).arrAt 2 cfg1.N := by
  unfold W4
  rw [Function.update_self]

theorem W2_arr : ∀ w : Fin cfg0.W, (dat0 m c).arrAt w cfg0.N = W2 m c (Proc.devRef .tc (Pipeline.arrRef spec0 w))
  | ⟨0, _⟩ => ((dat0 m c).arrAt_in 0 rfl _).trans (W2_of m c main_v1 (by decide)).symm
  | ⟨1, _⟩ => ((dat0 m c).arrAt_in 1 rfl _).trans (W2_of m c main_v4 (by decide)).symm
  | ⟨2, _⟩ => ((dat0 m c).arrAt_in 2 rfl _).trans (W2_of m c main_v6 (by decide)).symm
  | ⟨3, _⟩ => ((dat0 m c).arrAt_in 3 rfl _).trans (W2_of m c main_v8 (by decide)).symm
  | ⟨4, _⟩ => (W2_out m c).symm

theorem W4_arr : ∀ w : Fin cfg1.W, (dat1 (W3 m) c).arrAt w cfg1.N = W4 m c (Proc.devRef .tc (Pipeline.arrRef spec1 w))
  | ⟨0, _⟩ => ((dat1 (W3 m) c).arrAt_in 0 rfl _).trans (W4_of m c main_v10 (by decide)).symm
  | ⟨1, _⟩ => ((dat1 (W3 m) c).arrAt_in 1 rfl _).trans (W4_of m c main_arg4 (by decide)).symm
  | ⟨2, _⟩ => (W4_out m c).symm

/-- What rides along with the buffers: up to the exchange region, and after it. -/
def E (j : Fin 3) (c : Dev nD) : sProp 𝕄 :=
  if j = 2 then iprop(semVal (barCell c) 0 ∗ ∃ W, owes (c : Thread nD τ) (0 : CellTallies nD τ sig Unit) W)
  else iprop(start (begun (W3 m)) c ∗ (∃ r, prngReg c r) ∗ ∃ W, owes (c : Thread nD τ) (O₀ c) W)

set_option backward.isDefEq.respectTransparency.types false in
def reg0 : ℝ𝕊 0 :=
  Pipeline.RegionSeg.ofHeld (pcfgs (F := F)) adm (pdats m) () defs₀ 𝒱₀ L lv 0 O₀ (fun _ => iprop(emp)) (fun _ => iprop(emp))
    (Pipeline.LaunchFacts.toP (Val := Elt F) launch0) rfl (fun c => (body0 m c).loose) (fun _ _ => rfl) (fun _ => rfl) (fun _ w => by fin_cases w <;> rfl)
    (fun c => by
      show iprop(Pipeline.scopedRest (Ix := Unit) (Name := ℕ) (U := UU) (Lvl := ℕ) (Val := Elt F) spec0 c ∗ emp)
        ⊢ (Pipeline.scopedRest (Ix := Unit) (Name := ℕ) (U := UU) (Lvl := ℕ) (Val := Elt F) spec0 c : sProp 𝕄)
      iintro ⟨H, -⟩
      iexact H)
    (fun c => by
      show (Pipeline.scopedRest (Ix := Unit) (Name := ℕ) (U := UU) (Lvl := ℕ) (Val := Elt F) spec0 c : sProp 𝕄)
        ⊢ iprop(Pipeline.scopedRest (Ix := Unit) (Name := ℕ) (U := UU) (Lvl := ℕ) (Val := Elt F) spec0 c ∗ emp)
      iintro H
      isplitl [H]; · iexact H
      iempintro)
    (fun _ => 0)
    ⟨fun c w s => by rw [L_tc]; exact Finset.mem_singleton_self _, fun c w s => lv_low c (stg0_lt w s), fun c g i h => O₀_pos c h⟩
    (fun c => iprop(StableHlo.held (c : Thread nD τ) rest0 (V1 m c) ∗ start (begun (W3 m)) c ∗ ∃ r, prngReg c r))
    (V1 m) (W2 m) (fun _ w => by fin_cases w <;> rfl) (W2_arr m)

theorem held_congr' {S : Finset (DevRef τ sig)} {V W : Valuation τ sig (Elt F)} (h : ∀ b ∈ S, V b = W b) :
    (StableHlo.held (c : Thread nD τ) S V : sProp 𝕄) = StableHlo.held (c : Thread nD τ) S W := by
  unfold StableHlo.held
  exact bigSep_congr fun b hb => by rw [h b hb]

theorem mem_rest0 : ∀ b ∈ rest0, b ≠ (Proc.devRef .tc main_v9 : DevRef τ sig) := by
  rintro b hb rfl
  exact absurd hb (by decide)
theorem mem_rest1 : ∀ b ∈ rest1, b ≠ (Proc.devRef .tc main_v11 : DevRef τ sig) := by
  rintro b hb rfl
  exact absurd hb (by decide)

theorem pre0 : iprop(StableHlo.held (c : Thread nD τ) (Pipeline.ucRefs τ sig) (V1 m c) ∗ E m 0 c) ⊢ (reg0 m).pre c := by
  show _ ⊢ iprop(StableHlo.held (c.tc : Thread nD τ) (Pipeline.arrRefs (τ := τ) spec0) (V1 m c) ∗ emp
    ∗ (StableHlo.held (c : Thread nD τ) rest0 (V1 m c) ∗ start (begun (W3 m)) c ∗ ∃ r, prngReg c r) ∗ ∃ Wd, owes (c : Thread nD τ) (O₀ c) Wd)
  rw [StableHlo.held_sub_split (c : Thread nD τ) arr0_sub (V1 m c)]
  unfold E
  rw [if_neg (by decide)]
  iintro ⟨⟨Ha, Hr⟩, Hs, Hp, HO⟩
  isplitl [Ha]; · iexact Ha
  isplitr; · iempintro
  isplitr [HO]
  · isplitl [Hr]; · iexact Hr
    isplitl [Hs] <;> iassumption
  iexact HO

theorem post0 : (reg0 m).post c ⊢ iprop(StableHlo.held (c : Thread nD τ) (Pipeline.ucRefs τ sig) (V2 m (outs m) c) ∗ E m 1 c) := by
  show iprop(StableHlo.held (c.tc : Thread nD τ) (Pipeline.arrRefs (τ := τ) spec0) (W2 m c) ∗ emp
    ∗ (StableHlo.held (c : Thread nD τ) rest0 (V1 m c) ∗ start (begun (W3 m)) c ∗ ∃ r, prngReg c r) ∗ ∃ Wd, owes (c : Thread nD τ) (O₀ c) Wd) ⊢ _
  rw [V2_eq, StableHlo.held_sub_split (c : Thread nD τ) arr0_sub (W2 m c),
    held_congr' (c := c) (S := rest0) (V := W2 m c) (W := V1 m c) fun b hb => W2_of m c b (mem_rest0 b hb)]
  unfold E
  rw [if_neg (by decide)]
  iintro ⟨Ha, -, ⟨Hr, Hs, Hp⟩, HO⟩
  isplitl [Ha Hr]; · isplitl [Ha] <;> iassumption
  isplitl [Hs]; · iexact Hs
  isplitl [Hp]; · iexact Hp
  iexact HO

theorem osem_facts : Pipeline.OwnSemFacts spec1 osem := by decide

theorem empty_held (W : Valuation τ sig (Elt F)) : (StableHlo.held (c : Thread nD τ) ∅ W : sProp 𝕄) = BI.emp := by
  unfold StableHlo.held
  exact BI.bigSep_empty

set_option backward.isDefEq.respectTransparency.types false in
def reg1 : ℝ𝕊 1 :=
  Pipeline.RegionSeg.ofTalk (pcfgs (F := F)) adm (pdats m) () defs₀ 𝒱₀ L lv 1 osem osem_facts
    ∅ rest1 (Finset.empty_subset _) (Pipeline.LaunchFacts.toP (Val := Elt F) launch1) rfl (fun c => (body1 (W3 m) c).loose)
    (fun _ => 0) O₀ (fun c => (zero_add (O₀ c)).symm) (fun c => owed1_last (W3 m) c) (fun _ => rfl) (fun _ w => by fin_cases w <;> rfl)
    (W3 m) (W4 m) (fun c b hb => W4_of m c b (mem_rest1 b (Finset.mem_sdiff.mp hb).1))
    (start (begun (W3 m))) (fun c => semVal (barCell c) 0) (ready (begun (W3 m))) (fun c => semVal (barCell c) 0)
    (open_all (begun (W3 m)))
    (fun c => by
      rw [show (pdats m 1 c).Φ 0 = mid (W3 m) c 0 from rfl, empty_held]
      unfold mid
      rw [if_pos rfl]
      iintro ⟨Hs, Hp, -, Hr⟩
      isplitl [Hs]; · iexact Hs
      isplitl [Hp] <;> iassumption)
    (fun c => by
      rw [show (pdats m 1 c).Φ (Fin.last _) = mid (W3 m) c 1 from rfl, empty_held, ownSems_eq]
      unfold mid
      rw [if_neg Nat.one_ne_zero]
      iintro ⟨Hs, Hp, Hb, Hd⟩
      isplitl [Hs]; · iexact Hs
      isplitl [Hp]; · iexact Hp
      isplitr; · iempintro
      isplitl [Hd]; · iexact Hd
      iexact Hb)
    (fun c => by iintro H; imodintro; iexact H)
    (fun _ => 0)
    ⟨fun c w s => by rw [L_tc]; exact Finset.mem_singleton_self _, fun c w s => lv_low c (stg1_lt w s), fun c t g i h => by
      have e : (pdats m 1 c).owed t = if t.val = 0 then O₀ c else 0 := rfl
      rw [e] at h
      split at h
      · exact O₀_pos c h
      · exact absurd h (Nat.lt_irrefl 0)⟩
    (fun _ => iprop(emp))
    (fun _ w => by fin_cases w <;> rfl) (W4_arr m)

theorem pre1 : iprop(StableHlo.held (c : Thread nD τ) (Pipeline.ucRefs τ sig) (V3 m (outs m) c) ∗ E m 1 c) ⊢ (reg1 m).pre c := by
  show _ ⊢ iprop(StableHlo.held (c.tc : Thread nD τ) (Pipeline.arrRefs (τ := τ) spec1) (W3 m c) ∗ (∃ r, prngReg c r)
    ∗ (StableHlo.held (c : Thread nD τ) rest1 (W3 m c) ∗ emp) ∗ start (begun (W3 m)) c ∗ ∃ Wd, owes (c : Thread nD τ) (0 + O₀ c) Wd)
  rw [V3_eq, StableHlo.held_sub_split (c : Thread nD τ) arr1_sub (W3 m c), zero_add]
  unfold E
  rw [if_neg (by decide)]
  iintro ⟨⟨Ha, Hr⟩, Hs, Hp, HO⟩
  isplitl [Ha]; · iexact Ha
  isplitl [Hp]; · iexact Hp
  isplitl [Hr]
  · isplitl [Hr]; · iexact Hr
    iempintro
  isplitl [Hs]; · iexact Hs
  iexact HO

theorem post1 : (reg1 m).post c ⊢ iprop(StableHlo.held (c : Thread nD τ) (Pipeline.ucRefs τ sig) (V4 m (outs m) c) ∗ E m 2 c) := by
  show iprop(StableHlo.held (c.tc : Thread nD τ) (Pipeline.arrRefs (τ := τ) spec1) (W4 m c) ∗ (∃ r, prngReg c r)
    ∗ (StableHlo.held (c : Thread nD τ) rest1 (W4 m c) ∗ emp) ∗ semVal (barCell c) 0 ∗ ∃ Wd, owes (c : Thread nD τ) (0 : CellTallies nD τ sig Unit) Wd) ⊢ _
  rw [V4_eq, StableHlo.held_sub_split (c : Thread nD τ) arr1_sub (W4 m c)]
  unfold E
  rw [if_pos rfl]
  iintro ⟨Ha, -, ⟨Hr, -⟩, Hb, HO⟩
  isplitl [Ha Hr]; · isplitl [Ha] <;> iassumption
  isplitl [Hb]; · iexact Hb
  iexact HO

end Cert.KernelIdeal.Hand

end
-- ==== Proof.Run.lean ====
/-
  The launch: the cells funded, every duty and credit dealt to its device, and the run of the program.
-/
module

public import proofs.«01_k».proof.Proof.Regs

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen Cert.Cube

variable {F : FTy → Type} [FloatOps F]

local notation "𝕄" => MT nD τ sig Unit (Elt F) ℕ UU ℕ

/-! ## Cells and tokens -/

theorem osem_inj : Function.Injective osem := by
  rintro ⟨p, a⟩ ⟨q, b⟩ h
  have h' : (if a then recvS p else sendS p) = if b then recvS q else sendS q := SemLoc.dma.inj h
  have hp (p : Ex) : 6 * p.1.val + p.2.val < 18 := by omega
  have key (h : 6 * p.1.val + p.2.val = 6 * q.1.val + q.2.val) : p = q := by rw [← exOf_eq p, h, exOf_eq]
  have hv := congrArg Fin.val h'
  have h₁ := hp p
  have h₂ := hp q
  cases a <;> cases b
  · rw [key (by have : 12 + (6 * p.1.val + p.2.val) = 12 + (6 * q.1.val + q.2.val) := hv; omega)]
  · have : 12 + (6 * p.1.val + p.2.val) = 30 + (6 * q.1.val + q.2.val) := hv
    omega
  · have : 30 + (6 * p.1.val + p.2.val) = 12 + (6 * q.1.val + q.2.val) := hv
    omega
  · rw [key (by have : 30 + (6 * p.1.val + p.2.val) = 30 + (6 * q.1.val + q.2.val) := hv; omega)]

def barEmb : Dev nD ↪ GSem nD τ sig := ⟨fun c => barCell c, fun _ _ h => congrArg (fun g : GSem nD τ sig => g.1.1) h⟩
def exEmb : Dev nD × (Ex × Bool) ↪ GSem nD τ sig :=
  ⟨fun x => ((x.1 : Thread nD τ), osem x.2), fun _ _ h => Prod.ext (congrArg (fun g : GSem nD τ sig => g.1.1) h) (osem_inj (congrArg Prod.snd h))⟩

/-- The barrier cells, open from the start; and the cells of the exchanges, opened by the region. -/
abbrev barCells : Finset (GSem nD τ sig) := Finset.univ.map barEmb
abbrev exCells : Finset (GSem nD τ sig) := Finset.univ.map exEmb

def barTokEmb : Dev nD × Fin 3 ↪ GSem nD τ sig × ℕ × Fin 3 :=
  ⟨fun x => (barCell x.1, 0, x.2), fun _ _ h => Prod.ext (congrArg (fun t : GSem nD τ sig × ℕ × Fin 3 => t.1.1.1) h)
    (congrArg (fun t : GSem nD τ sig × ℕ × Fin 3 => t.2.2) h)⟩
def exTokEmb : Dev nD × (Ex × Bool) ↪ GSem nD τ sig × ℕ × Fin 3 :=
  ⟨fun x => (exEmb x, 0, 0), fun _ _ h => exEmb.injective (congrArg Prod.fst h)⟩

abbrev barToks : Finset (GSem nD τ sig × ℕ × Fin 3) := Finset.univ.map barTokEmb
abbrev exToks : Finset (GSem nD τ sig × ℕ × Fin 3) := Finset.univ.map exTokEmb

theorem disjoint_cells : Disjoint (barCells : Finset (GSem nD τ sig)) exCells := by
  rw [Finset.disjoint_left]
  rintro g h₁ h₂
  obtain ⟨c, -, rfl⟩ := Finset.mem_map.mp h₁
  obtain ⟨x, -, h⟩ := Finset.mem_map.mp h₂
  exact absurd (congrArg Prod.snd h) (by show SemLoc.dma _ ≠ SemLoc.reg _; simp)

theorem disjoint_toks : Disjoint (barToks : Finset (GSem nD τ sig × ℕ × Fin 3)) exToks := by
  rw [Finset.disjoint_left]
  rintro g h₁ h₂
  obtain ⟨c, -, rfl⟩ := Finset.mem_map.mp h₁
  obtain ⟨x, -, h⟩ := Finset.mem_map.mp h₂
  exact absurd (congrArg (fun t : GSem nD τ sig × ℕ × Fin 3 => t.1.2) h) (by show SemLoc.dma _ ≠ SemLoc.reg _; simp)

theorem bar_mem (c : Dev nD) : barCell c ∈ (barCells ∪ exCells : Finset (GSem nD τ sig)) :=
  Finset.mem_union_left _ (Finset.mem_map_of_mem barEmb (Finset.mem_univ c))
theorem send_mem (c : Dev nD) (p : Ex) : sendCell c p ∈ (barCells ∪ exCells : Finset (GSem nD τ sig)) :=
  Finset.mem_union_right _ (Finset.mem_map_of_mem exEmb (Finset.mem_univ (c, (p, false))))
theorem recv_mem (c : Dev nD) (p : Ex) : recvCell c p ∈ (barCells ∪ exCells : Finset (GSem nD τ sig)) :=
  Finset.mem_union_right _ (Finset.mem_map_of_mem exEmb (Finset.mem_univ (c, (p, true))))

/-- The pairing of the devices by an involution. -/
def flip (f : Dev nD → Dev nD) (h : ∀ c, f (f c) = c) : Dev nD ≃ Dev nD := ⟨f, f, h, h⟩

/-- A family over the devices and an index, each member handed over by an involution that may depend on the index. -/
theorem around {I : Type} [Fintype I] (f : I → Dev nD → Dev nD) (h : ∀ i c, f i (f i c) = c) (Φ : Dev nD → I → sProp 𝕄) :
    (bigSep Finset.univ fun c => bigSep Finset.univ fun i => Φ c i) = bigSep Finset.univ fun c => bigSep Finset.univ fun i => Φ (f i c) i := by
  rw [bigSep_univ_comm, bigSep_univ_comm fun c i => Φ (f i c) i]
  exact bigSep_congr fun i _ => bigSep_univ_equiv (flip (f i) (h i)) (fun c => Φ c i)

theorem bigSep_bool (Φ : Bool → sProp 𝕄) : bigSep Finset.univ Φ = iprop(Φ false ∗ Φ true) := by
  rw [show (Finset.univ : Finset Bool) = {false, true} from by decide, bigSep_insert (by decide), bigSep_singleton]
  rfl

/-- Two families over the devices, joined member by member, and parted again. -/
theorem join (Φ Ψ : Dev nD → sProp 𝕄) : iprop(bigSep Finset.univ Φ ∗ bigSep Finset.univ Ψ) ⊢ bigSep Finset.univ fun c => iprop(Φ c ∗ Ψ c) :=
  Entails.of_eq (bigSep_sep' _ _ _).symm
theorem part (Φ Ψ : Dev nD → sProp 𝕄) : (bigSep Finset.univ fun c => iprop(Φ c ∗ Ψ c)) ⊢ iprop(bigSep Finset.univ Φ ∗ bigSep Finset.univ Ψ) :=
  Entails.of_eq (bigSep_sep' _ _ _)

/-! ## What a device gets -/

section Deal

variable (A : Dev nD → Acc F) (κ : GSem nD τ sig → ℕ) (c : Dev nD)

/-- What every device may consult: all invariants, and that the barrier cells are open. -/
def records : sProp 𝕄 :=
  iprop((bigSep (barCells ∪ exCells) fun g => cellInv ER (rd A) (κ g) g) ∗ bigSep barCells fun g => reached ER g 0)

instance records_persistent : BI.Persistent (records A κ) := by unfold records; infer_instance

theorem inv_at {g : GSem nD τ sig} (hg : g ∈ (barCells ∪ exCells : Finset (GSem nD τ sig))) :
    records A κ ⊢ (cellInv ER (rd A) (κ g) g : sProp 𝕄) := by
  have h : (bigSep (barCells ∪ exCells) fun g => (cellInv ER (rd A) (κ g) g : sProp 𝕄)) ⊢ cellInv ER (rd A) (κ g) g := bigSep_elim hg
  unfold records
  iintro ⟨H, -⟩
  iapply h $$ H

theorem reached_at : records A κ ⊢ (reached ER (barCell c) 0 : sProp 𝕄) := by
  have h : (bigSep barCells fun g => (reached ER g 0 : sProp 𝕄)) ⊢ reached ER (barCell c) 0 :=
    bigSep_elim (Φ := fun g : GSem nD τ sig => (reached ER g 0 : sProp 𝕄)) (Finset.mem_map_of_mem barEmb (Finset.mem_univ c))
  unfold records
  iintro ⟨-, H⟩
  iapply h $$ H

/-- What stays with a device. -/
def linear : sProp 𝕄 :=
  iprop(atPos ER (barCell c) 0 ∅ 0
    ∗ (bigSep Finset.univ fun p : Ex => iprop(openTok ER (sendCell c p) ∗ openTok ER (recvCell c p)))
    ∗ (bigSep Finset.univ fun m : Fin 3 => dutyTok ER (barCell (across m c)) 0 m)
    ∗ (bigSep Finset.univ fun p : Ex => iprop(dutyTok ER (sendCell c p) 0 0 ∗ dutyTok ER (recvCell (mate p.1 p.2 c) p) 0 0)))

theorem hello_intro (m : Fin 3) : iprop(records A κ ∗ dutyTok ER (barCell (across m c)) 0 m) ⊢ (hello0 A κ c m : sProp 𝕄) := by
  unfold hello0
  iintro ⟨#HR, Hd⟩
  isplitr
  · iapply (inv_at A κ (bar_mem (across m c)))
    iexact HR
  isplitl [Hd]; · iexact Hd
  iapply (reached_at A κ (across m c))
  iexact HR

theorem closed_intro (p : Ex) : iprop(records A κ ∗ ((openTok ER (sendCell c p) ∗ openTok ER (recvCell c p))
      ∗ (dutyTok ER (sendCell c p) 0 0 ∗ dutyTok ER (recvCell (mate p.1 p.2 c) p) 0 0))) ⊢ (closed A κ c p : sProp 𝕄) := by
  unfold closed invs
  iintro ⟨#HR, Ho, Hd⟩
  isplitr
  · isplitr
    · iapply (inv_at A κ (send_mem c p))
      iexact HR
    isplitr
    · iapply (inv_at A κ (recv_mem c p))
      iexact HR
    iapply (inv_at A κ (recv_mem (mate p.1 p.2 c) p))
    iexact HR
  isplitl [Ho] <;> iassumption

theorem ghost_intro : iprop(records A κ ∗ linear c) ⊢ (ghost A κ c : sProp 𝕄) := by
  unfold linear ghost
  iintro ⟨#HR, Hat, Ho, Hm, Hd⟩
  isplitr
  · iapply (inv_at A κ (bar_mem c))
    iexact HR
  isplitl [Hat]; · iexact Hat
  isplitl [Hm]
  · iapply (bigSep_pers (P := records A κ) (Φ := fun m : Fin 3 => dutyTok ER (barCell (across m c)) 0 m) fun m => hello_intro A κ c m)
    isplitr; · iexact HR
    iexact Hm
  iapply (bigSep_pers (P := records A κ) (Φ := fun p : Ex => iprop((openTok ER (sendCell c p) ∗ openTok ER (recvCell c p))
      ∗ (dutyTok ER (sendCell c p) 0 0 ∗ dutyTok ER (recvCell (mate p.1 p.2 c) p) 0 0))) fun p => closed_intro A κ c p)
  isplitr; · iexact HR
  iapply (Entails.of_eq (bigSep_sep' Finset.univ (fun p : Ex => iprop(openTok ER (sendCell c p) ∗ openTok ER (recvCell c p)))
    (fun p : Ex => iprop(dutyTok ER (sendCell c p) 0 0 ∗ dutyTok ER (recvCell (mate p.1 p.2 c) p) 0 0))).symm)
  isplitl [Ho] <;> iassumption

end Deal

/-- The tokens, each with the device that pays its duty. -/
theorem toks_bar : bigSep barToks (fun x => (dutyTok ER x.1 x.2.1 x.2.2 : sProp 𝕄))
    = bigSep Finset.univ fun c : Dev nD => bigSep Finset.univ fun m : Fin 3 => dutyTok ER (barCell (across m c)) 0 m := by
  rw [bigSep_map, bigSep_univ_prod]
  exact around (fun m => across m) across_across fun c m => dutyTok ER (barCell c) 0 m

theorem toks_ex : bigSep exToks (fun x => (dutyTok ER x.1 x.2.1 x.2.2 : sProp 𝕄))
    = bigSep Finset.univ fun c : Dev nD => bigSep Finset.univ fun p : Ex =>
        iprop(dutyTok ER (sendCell c p) 0 0 ∗ dutyTok ER (recvCell (mate p.1 p.2 c) p) 0 0) := by
  have h : (bigSep Finset.univ fun c : Dev nD => bigSep Finset.univ fun p : Ex => (dutyTok ER (recvCell c p) 0 0 : sProp 𝕄))
      = bigSep Finset.univ fun c : Dev nD => bigSep Finset.univ fun p : Ex => (dutyTok ER (recvCell (mate p.1 p.2 c) p) 0 0 : sProp 𝕄) :=
    around (fun p : Ex => mate p.1 p.2) (fun p => mate_mate p.1 p.2) fun c p => dutyTok ER (recvCell c p) 0 0
  have h1 : bigSep exToks (fun x => (dutyTok ER x.1 x.2.1 x.2.2 : sProp 𝕄))
      = bigSep Finset.univ fun c : Dev nD => bigSep Finset.univ fun p : Ex => iprop(dutyTok ER (sendCell c p) 0 0 ∗ dutyTok ER (recvCell c p) 0 0) := by
    rw [bigSep_map, bigSep_univ_prod]
    refine bigSep_congr fun c _ => ?_
    rw [bigSep_univ_prod]
    exact bigSep_congr fun p _ => bigSep_bool _
  have h2 (Φ Ψ : Dev nD → Ex → sProp 𝕄) : (bigSep Finset.univ fun c : Dev nD => bigSep Finset.univ fun p : Ex => iprop(Φ c p ∗ Ψ c p))
      = iprop((bigSep Finset.univ fun c : Dev nD => bigSep Finset.univ fun p : Ex => Φ c p)
        ∗ bigSep Finset.univ fun c : Dev nD => bigSep Finset.univ fun p : Ex => Ψ c p) := by
    rw [← bigSep_sep']
    exact bigSep_congr fun c _ => bigSep_sep' _ _ _
  rw [h1, h2, h, ← h2]

theorem opens_ex : bigSep exCells (fun g => (openTok ER g : sProp 𝕄))
    = bigSep Finset.univ fun c : Dev nD => bigSep Finset.univ fun p : Ex => iprop(openTok ER (sendCell c p) ∗ openTok ER (recvCell c p)) := by
  rw [bigSep_map, bigSep_univ_prod]
  refine bigSep_congr fun c _ => ?_
  rw [bigSep_univ_prod]
  exact bigSep_congr fun p _ => bigSep_bool _

/-! ## The launch credit -/

theorem owe_bar (d c : Dev nD) (n : ℕ) : owe d n (barCell c) () = 0 := by
  by_contra h
  obtain ⟨c', p, h, -⟩ := owe_pos (Nat.pos_of_ne_zero h)
  exact absurd (congrArg Prod.snd h) (by show SemLoc.reg _ ≠ SemLoc.dma _; simp)

theorem tally_bar (m : Fin 3) (d c : Dev nD) : (tallyAt (barCell (across m d)) () 1 : CellTallies nD τ sig Unit) (barCell c) () = if d = across m c then 1 else 0 := by
  rw [tallyAt_apply]
  by_cases h : d = across m c
  · subst h
    rw [across_across, if_pos ⟨rfl, rfl⟩, if_pos rfl]
  · rw [if_neg h, if_neg fun h' => h (by
      rw [show c = across m d from congrArg (fun g : GSem nD τ sig => g.1.1) h'.1, across_across])]

theorem owed_bar (c : Dev nD) : ∑ d : Dev nD, O₀ d (barCell c) () = 3 := by
  unfold O₀
  simp only [Pi.add_apply, Finsupp.add_apply, owe_bar, tally_bar, Finset.sum_add_distrib, Finset.sum_ite_eq', Finset.mem_univ, if_true,
    Finset.sum_const_zero]

theorem exAt_index (p : Ex) : ∃ i : Fin 18, exAt i = p ∧ ∀ j, exAt j = p → j = i := by
  obtain ⟨g, k⟩ := p
  refine ⟨⟨3 * k.val + g.val, by omega⟩, Prod.ext (Fin.ext (by show (3 * k.val + g.val) % 3 = g.val; omega))
    (Fin.ext (by show (3 * k.val + g.val) / 3 = k.val; omega)), fun j hj => Fin.ext ?_⟩
  have h₁ : j.val % 3 = g.val := congrArg (fun p : Ex => p.1.val) hj
  have h₂ : j.val / 3 = k.val := congrArg (fun p : Ex => p.2.val) hj
  show j.val = 3 * k.val + g.val
  omega

theorem recv_inj {c d : Dev nD} {p q : Ex} (h : recvCell c p = recvCell d q) : c = d ∧ p = q := by
  have h₁ : c = d := congrArg (fun g : GSem nD τ sig => g.1.1) h
  have h₂ := osem_inj (a₁ := (p, true)) (a₂ := (q, true)) (congrArg Prod.snd h)
  exact ⟨h₁, congrArg Prod.fst h₂⟩

theorem owe_recv (d c : Dev nD) (p : Ex) : owe d 0 (recvCell c p) () = if d = mate p.1 p.2 c then Nx p else 0 := by
  obtain ⟨i, hi, hu⟩ := exAt_index p
  unfold owe
  rw [Finset.sum_apply, Finsupp.finset_sum_apply, Finset.sum_eq_single i]
  · rw [hi, tallyAt_apply]
    by_cases h : d = mate p.1 p.2 c
    · subst h
      rw [mate_mate, if_pos ⟨rfl, rfl⟩, if_pos rfl]
    · rw [if_neg h, if_neg fun h' => h (by rw [(recv_inj h'.1).1, mate_mate])]
  · intro j _ hj
    rw [tallyAt_apply, if_neg fun ⟨h', _⟩ => hj (hu j (recv_inj h').2.symm)]
  · intro h
    exact absurd (Finset.mem_filter.mpr ⟨Finset.mem_univ i, Nat.zero_le _⟩) h

theorem tally_recv (d c : Dev nD) (p : Ex) : (tallyAt (barCell d) () 1 : CellTallies nD τ sig Unit) (recvCell c p) () = 0 := by
  rw [tallyAt_apply, if_neg fun ⟨h, _⟩ => absurd (congrArg Prod.snd h) (by show SemLoc.dma _ ≠ SemLoc.reg _; simp)]

theorem owed_recv (c : Dev nD) (p : Ex) : ∑ d : Dev nD, O₀ d (recvCell c p) () = Nx p := by
  unfold O₀
  simp only [Pi.add_apply, Finsupp.add_apply, owe_recv, tally_recv, Nat.add_zero, Finset.sum_ite_eq', Finset.mem_univ, if_true]

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

def recvEmb : Ex ↪ SemLoc sig := ⟨fun p => osem (p, true), fun _ _ h => congrArg Prod.fst (osem_inj h)⟩

theorem creds_intro (c : Dev nD) : (Pipeline.launchCred O₀ c : sProp 𝕄) ⊢ creds c := by
  unfold Pipeline.launchCred creds
  rw [bigSep_univ_at _ (SemLoc.reg barS), launch_at (barCell c) 3 (owed_bar c)]
  refine sep_mono_right ?_
  have hs : Finset.univ.map recvEmb ⊆ Finset.univ.erase (SemLoc.reg barS) := fun s hs => by
    obtain ⟨p, -, rfl⟩ := Finset.mem_map.mp hs
    exact Finset.mem_erase.mpr ⟨by show SemLoc.dma _ ≠ SemLoc.reg _; simp, Finset.mem_univ _⟩
  refine BIBase.Entails.trans (BI.bigSep_subset hs) ?_
  rw [bigSep_map]
  exact bigSep_mono fun p _ => Entails.of_eq (congrArg cred (launch_at (recvCell c p) (Nx p) (owed_recv c p)))

/-! ## The run -/

variable (m : (ℓ : Loc nD τ sig) → Buf (Elt F) ℓ) (ρ : Dev nD → PrngReg)

/-- The launch element. -/
def u₀ : UU :=
  (initOf (Pipeline.cells cfgs cellOf_inj) (Pipeline.launchToks cfgs cellOf_inj), launchOf barCells exCells (barToks ∪ exToks))

/-- The protocol's part of it, all on the first device. -/
def G (c : Dev nD) : sProp 𝕄 := if c = 0 then BI.own (ER (launchOf barCells exCells (barToks ∪ exToks))) else iprop(emp)

theorem G_all : bigSep Finset.univ G = (BI.own (ER (launchOf barCells exCells (barToks ∪ exToks))) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

theorem unscoped_eq : ∀ sm : SemLoc sig, sm.isScoped .tc = false → sm = .reg barS := by decide

theorem unscopedSems0_eq (c : Dev nD) : (unscopedSems0 c : sProp 𝕄) = semVal (barCell c) 0 := by
  unfold unscopedSems0
  rw [show (Finset.univ.filter fun s : SemLoc sig => ¬s.isScoped .tc) = {SemLoc.reg barS} from by decide, BI.bigSep_singleton]

/-- A core's holdings beside the protocol's. -/
def own (c : Dev nD) : sProp 𝕄 := iprop(creds c ∗ owes (c : Thread nD τ) (O₀ c) ∅ ∗ ∃ r, prngReg c r)

theorem E_intro (κ : GSem nD τ sig → ℕ) (c : Dev nD) : iprop(records (begun (W3 m)) κ ∗ (linear c ∗ own c)) ⊢ E m 0 c := by
  unfold own E start
  rw [if_neg (by decide)]
  iintro ⟨#HR, Hl, Hc, HO, Hp⟩
  isplitl [Hl Hc]
  · isplitl [Hl]
    · iexists κ
      iapply (ghost_intro (begun (W3 m)) κ c)
      isplitr; · iexact HR
      iexact Hl
    iexact Hc
  isplitl [Hp]; · iexact Hp
  iexists ∅
  iexact HO

theorem launch : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E m 0) : sProp 𝕄) := by
  have hcore (c : Dev nD) : iprop(unscopedSems0 c ∗ owes (c : Thread nD τ) (O₀ c) ∅ ∗ Pipeline.launchCred O₀ c ∗ prngReg c (ρ c) ∗ G c)
      ⊢ (iprop(own c ∗ (semVal (barCell c) 0 ∗ G c)) : sProp 𝕄) := by
    rw [unscopedSems0_eq]
    unfold own
    iintro ⟨Hs, HO, Hcr, Hp, HG⟩
    isplitl [HO Hcr Hp]
    · isplitl [Hcr]; · iapply (creds_intro (F := F) c) $$ Hcr
      isplitl [HO]; · iexact HO
      iexists (ρ c)
      iexact Hp
    isplitl [Hs] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have htok : bigSep (barToks ∪ exToks) (fun x => (dutyTok ER x.1 x.2.1 x.2.2 : sProp 𝕄))
      ⊢ iprop((bigSep Finset.univ fun c : Dev nD => bigSep Finset.univ fun m : Fin 3 => dutyTok ER (barCell (across m c)) 0 m)
        ∗ bigSep Finset.univ fun c : Dev nD => bigSep Finset.univ fun p : Ex =>
          iprop(dutyTok ER (sendCell c p) 0 0 ∗ dutyTok ER (recvCell (mate p.1 p.2 c) p) 0 0)) :=
    Entails.of_eq (by rw [BI.bigSep_union disjoint_toks, toks_bar, toks_ex]; rfl)
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(own c ∗ (semVal (barCell c) 0 ∗ G c)) : sProp 𝕄) from bigSep_mono fun c _ => hcore c) $$ H
  ihave H2 := (part _ _) $$ H'; icases H2 with ⟨HB, H3⟩
  ihave H4 := (part _ _) $$ H3; icases H4 with ⟨Hv, HG⟩
  ihave Hu := (Entails.of_eq (G_all (F := F))) $$ HG
  imod (Rounds.fund_launch ER (rd (begun (W3 m))) disjoint_cells (fun g _ h => h) (barToks ∪ exToks)) $$ [Hv Hu] with ⟨%κ, -, #Hinv, #Hr, Hat, Hopen, Htok⟩
  · isplitl [Hv]
    · iapply hv $$ Hv
    · iexact Hu
  imodintro
  iapply (bigSep_with_persistent (R := records (begun (W3 m)) κ) (Φ := fun c => iprop(linear c ∗ own c)) fun c _ => E_intro m κ c)
  isplitr
  · unfold records
    isplitr; · iexact Hinv
    iexact Hr
  iapply (join _ _)
  isplitr [HB]
  · ihave Ht := htok $$ Htok
    icases Ht with ⟨Ht1, Ht2⟩
    unfold linear
    iapply (join _ _); isplitl [Hat]; · iapply hat $$ Hat
    iapply (join _ _); isplitl [Hopen]; · iapply (Entails.of_eq (opens_ex (F := F))) $$ Hopen
    iapply (join _ _); isplitl [Ht1]; · iexact Ht1
    iexact Ht2
  · iexact HB

set_option backward.isDefEq.respectTransparency.types false in
/-- The run: from any memory with zero counters every weakly fair execution terminates, with every buffer of the program as the
    last host operations leave it and every counter at zero. -/
theorem run_main : θ_run defs (onTc (τ := τ) (main (F := F))) ⟨m, fun _ => 0, ρ⟩ (fun r =>
    (∀ c : Dev nD, ∀ b ∈ Pipeline.ucRefs τ sig, r.2.mem (c, b) = V5 m (outs m) c b) ∧ r.2.sem = fun _ => 0) := by
  refine Pipeline.θ_run_regions_kit_sems (pcfgs (F := F)) adm (pdats m) () cellOf_inj EP defs₀ 𝒱₀ L lv m ρ main
    (segs m (outs m) 𝒱₀ L lv (E m) () (pdats m) (reg0 m) (reg1 m) 0)
    (fun c Q => by
      rewrite [main_chain c, Pipeline.Seg.run_eq_chain,
        show (segs m (outs m) 𝒱₀ L lv (E m) () (pdats m) (reg0 m) (reg1 m) 0).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (by simp only [segs, Pipeline.Seg.pipes_host, Pipeline.Seg.pipes_region, Pipeline.Seg.pipes_nil]; decide) O₀ L_of_ne G u₀
    (by
      unfold u₀
      iintro Hu
      ihave H := (ownU_pair _ _) $$ Hu
      icases H with ⟨HP, HX⟩
      imodintro
      isplitl [HP]; · iexact HP
      rw [G_all]
      iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V5 m (outs m) c) ∗ semVal (barCell c) 0))
    (hch := ⟨fun c => .rfl, pre0 m, post0 m, pre1 m, post1 m, fun c => ?_⟩)
    (hinit := ?_)
    (QY := fun c s => (∀ b ∈ Pipeline.ucRefs τ sig, s.mem (c, b) = V5 m (outs m) c b) ∧ s.sem (barCell c) = 0)
    (hfin := fun c s' => ?_)
    (hQ := fun s h hs => ⟨fun c => (h c).1, sem_eq_zero hs fun c sm hsm => by
      obtain rfl := unscoped_eq sm hsm
      exact (h c).2⟩)
  · show iprop(StableHlo.held (c : Thread nD τ) (Pipeline.ucRefs τ sig) (V5 m (outs m) c) ∗ E m 2 c)
      ⊢ iprop((StableHlo.held (c : Thread nD τ) (Pipeline.ucRefs τ sig) (V5 m (outs m) c) ∗ semVal (barCell c) 0)
        ∗ ∃ W, owes (c : Thread nD τ) (0 : CellTallies nD τ sig Unit) W)
    unfold E
    rw [if_pos rfl]
    iintro ⟨Hh, Hb, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c)) : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (launch m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨h, by simpa using hb⟩
    iexact HSI

end Cert.KernelIdeal.Hand

end
-- ==== Proof.Ref.lean ====
/-
  The run of the reference: its operations in order, what the result buffer holds in the end, and that nothing else of
  note changes.
-/
module

public import proofs.«01_k».proof.Proof.Gen.ReferenceIdeal
public import Idealize.ShloMosaic.Lib.StableHlo.Run
public import Idealize.ShloMosaic.PureOps.Ideal

@[expose] public section

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- The operations, in order. -/
abbrev ops : List (HloOp τ sig (Elt F)) :=
  [ binary main_arg0 main_arg1 main_v0 (fun l r => Host.dotGeneral dot_S4x256x1024_S1024x8192_S4x256x8192_2_0_01_1_n_n none l r),
    reshape main_v0 main_v1 (rfl : (.f32 : EltTy) = .f32) shapeCasts_S4x256x8192_S4x256x64x128,
    nullary main_cst (constant S_ .f32 0x00000000#32),
    unary main_cst main_v2 (broadcastInDim S4x256x64x128 ![] bcast_S_S4x256x64x128),
    nullary main_cst_0 (constant S_ .f32 0xFF800000#32),
    unary main_cst_0 main_v3 (broadcastInDim S4x64x256x1 ![] bcast_S_S4x64x256x1),
    nullary main_cst_1 (constant S_ .f32 0x00000000#32),
    unary main_cst_1 main_v4 (broadcastInDim S4x64x256x1 ![] bcast_S_S4x64x256x1),
    binary main_v1 main_arg2 main_v5 (fun l r => Host.dotGeneral dot_S4x256x64x128_S4x1024x64x128_S4x64x256x1024_3_3_1_1_02_02 none l r),
    nullary main_cst_2 (constant S_ .f32 0x3DB504F3#32),
    unary main_cst_2 main_v6 (broadcastInDim S4x64x256x1024 ![] bcast_S_S4x64x256x1024),
    binary main_v5 main_v6 main_v7 mulf,
    nullary main_cst_3 (constant S_ .f32 0xFF800000#32),
    binary main_v7 main_cst_3 main_v8 (fun x v => Host.reduce FloatOps.maximumf x v reducesTo_S4x64x256x1024_S4x64x256_d3 h_S_),
    unary main_v8 main_v9 (broadcastInDim S4x64x256x1 ![0, 1, 2] bcast_S4x64x256_S4x64x256x1_0_1_2),
    binary main_v3 main_v9 main_v10 maximumf,
    binary main_v3 main_v10 main_v11 subf,
    unary main_v11 main_v12 Host.exp,
    unary main_v10 main_v13 (broadcastInDim S4x64x256x1024 ![0, 1, 2, 3] bcast_S4x64x256x1_S4x64x256x1024_0_1_2_3),
    binary main_v7 main_v13 main_v14 subf,
    unary main_v14 main_v15 Host.exp,
    binary main_v4 main_v12 main_v16 mulf,
    nullary main_cst_4 (constant S_ .f32 0x00000000#32),
    binary main_v15 main_cst_4 main_v17 (fun x v => Host.reduceAdd x v reducesTo_S4x64x256x1024_S4x64x256_d3 h_S_),
    unary main_v17 main_v18 (broadcastInDim S4x64x256x1 ![0, 1, 2] bcast_S4x64x256_S4x64x256x1_0_1_2),
    binary main_v16 main_v18 main_v19 addf,
    unary main_v12 main_v20 (transpose S4x256x64x1 [0, 2, 1, 3] · transposes_S4x64x256x1_S4x256x64x1_0_2_1_3),
    unary main_v20 main_v21 (broadcastInDim S4x256x64x128 ![0, 1, 2, 3] bcast_S4x256x64x1_S4x256x64x128_0_1_2_3),
    binary main_v2 main_v21 main_v22 mulf,
    binary main_arg3 main_v15 main_v23 (fun l r => Host.dotGeneral dot_S4x1024x64x128_S4x64x256x1024_S4x64x128x256_1_3_3_2_02_01 none l r),
    unary main_v23 main_v24 (transpose S4x256x64x128 [0, 3, 1, 2] · transposes_S4x64x128x256_S4x256x64x128_0_3_1_2),
    binary main_v22 main_v24 main_v25 addf,
    unary main_v19 main_v26 (transpose S4x256x64x1 [0, 2, 1, 3] · transposes_S4x64x256x1_S4x256x64x1_0_2_1_3),
    unary main_v26 main_v27 (broadcastInDim S4x256x64x128 ![0, 1, 2, 3] bcast_S4x256x64x1_S4x256x64x128_0_1_2_3),
    binary main_v25 main_v27 main_v28 Host.divf,
    reshape main_v28 main_v29 (rfl : (.f32 : EltTy) = .f32) shapeCasts_S4x256x64x128_S4x256x8192,
    binary main_v29 main_arg4 main_v30 (fun l r => Host.dotGeneral dot_S4x256x8192_S8192x1024_S4x256x1024_2_0_01_1_n_n none l r) ]

theorem main_eq (c : Dev nD) : main (F := F) c = seq ops := rfl

/-! ## The result, step by step -/

/-- Queries: the projection, by heads. -/
def queries (x : FVec F S4x256x1024 .f32) (wq : FVec F S1024x8192 .f32) : FVec F S4x256x64x128 .f32 :=
  shapeCast S4x256x64x128 (Host.dotGeneral dot_S4x256x1024_S1024x8192_S4x256x8192_2_0_01_1_n_n none x wq) shapeCasts_S4x256x8192_S4x256x64x128

/-- Scores: queries against keys, scaled. -/
def scores (q : FVec F S4x256x64x128 .f32) (k : FVec F S4x1024x64x128 .f32) : FVec F S4x64x256x1024 .f32 :=
  mulf (Host.dotGeneral dot_S4x256x64x128_S4x1024x64x128_S4x64x256x1024_3_3_1_1_02_02 none q k)
    (broadcastInDim S4x64x256x1024 ![] bcast_S_S4x64x256x1024 (constant S_ .f32 0x3DB504F3#32))

/-- The running maximum before any key: minus infinity. -/
def low : FVec F S4x64x256x1 .f32 := broadcastInDim S4x64x256x1 ![] bcast_S_S4x64x256x1 (constant S_ .f32 0xFF800000#32)
def zero1 : FVec F S4x64x256x1 .f32 := broadcastInDim S4x64x256x1 ![] bcast_S_S4x64x256x1 (constant S_ .f32 0x00000000#32)
def zero4 : FVec F S4x256x64x128 .f32 := broadcastInDim S4x256x64x128 ![] bcast_S_S4x256x64x128 (constant S_ .f32 0x00000000#32)

/-- The maximum of each row of scores. -/
def tops (s : FVec F S4x64x256x1024 .f32) : FVec F S4x64x256x1 .f32 :=
  maximumf low (broadcastInDim S4x64x256x1 ![0, 1, 2] bcast_S4x64x256_S4x64x256x1_0_1_2
    (Host.reduce FloatOps.maximumf s (constant S_ .f32 0xFF800000#32) reducesTo_S4x64x256x1024_S4x64x256_d3 h_S_))

/-- The factor the state before is rescaled by. -/
def decay (s : FVec F S4x64x256x1024 .f32) : FVec F S4x64x256x1 .f32 := Host.exp (subf low (tops s))

/-- The weights, not yet normalised. -/
def weights (s : FVec F S4x64x256x1024 .f32) : FVec F S4x64x256x1024 .f32 :=
  Host.exp (subf s (broadcastInDim S4x64x256x1024 ![0, 1, 2, 3] bcast_S4x64x256x1_S4x64x256x1024_0_1_2_3 (tops s)))

/-- The sum of each row of weights. -/
def sums (s : FVec F S4x64x256x1024 .f32) : FVec F S4x64x256x1 .f32 :=
  addf (mulf zero1 (decay s)) (broadcastInDim S4x64x256x1 ![0, 1, 2] bcast_S4x64x256_S4x64x256x1_0_1_2
    (Host.reduceAdd (weights s) (constant S_ .f32 0x00000000#32) reducesTo_S4x64x256x1024_S4x64x256_d3 h_S_))

/-- The values, weighted. -/
def mixed (s : FVec F S4x64x256x1024 .f32) (v : FVec F S4x1024x64x128 .f32) : FVec F S4x256x64x128 .f32 :=
  addf (mulf zero4 (broadcastInDim S4x256x64x128 ![0, 1, 2, 3] bcast_S4x256x64x1_S4x256x64x128_0_1_2_3
      (transpose S4x256x64x1 [0, 2, 1, 3] (decay s) transposes_S4x64x256x1_S4x256x64x1_0_2_1_3)))
    (transpose S4x256x64x128 [0, 3, 1, 2]
      (Host.dotGeneral dot_S4x1024x64x128_S4x64x256x1024_S4x64x128x256_1_3_3_2_02_01 none v (weights s)) transposes_S4x64x128x256_S4x256x64x128_0_3_1_2)

/-- Every head's attention. -/
def heads (s : FVec F S4x64x256x1024 .f32) (v : FVec F S4x1024x64x128 .f32) : FVec F S4x256x64x128 .f32 :=
  Host.divf (mixed s v) (broadcastInDim S4x256x64x128 ![0, 1, 2, 3] bcast_S4x256x64x1_S4x256x64x128_0_1_2_3
    (transpose S4x256x64x1 [0, 2, 1, 3] (sums s) transposes_S4x64x256x1_S4x256x64x1_0_2_1_3))

/-- The result from the five arguments. -/
def result (x : FVec F S4x256x1024 .f32) (wq : FVec F S1024x8192 .f32) (k v : FVec F S4x1024x64x128 .f32) (wo : FVec F S8192x1024 .f32) : FVec F S4x256x1024 .f32 :=
  Host.dotGeneral dot_S4x256x8192_S8192x1024_S4x256x1024_2_0_01_1_n_n none
    (shapeCast S4x256x8192 (heads (scores (queries x wq) k) v) shapeCasts_S4x256x64x128_S4x256x8192) wo

set_option maxHeartbeats 1000000 in
theorem out_eq (V : Valuation τ sig (Elt F)) : after ops V (main_v30 : DevRef τ sig)
    = result (V (main_arg0 : DevRef τ sig)) (V (main_arg1 : DevRef τ sig)) (V (main_arg2 : DevRef τ sig)) (V (main_arg3 : DevRef τ sig)) (V (main_arg4 : DevRef τ sig)) := by
  after_results
  rfl

theorem arg0_eq (V : Valuation τ sig (Elt F)) : after ops V (main_arg0 : DevRef τ sig) = V (main_arg0 : DevRef τ sig) := by after_results
theorem arg1_eq (V : Valuation τ sig (Elt F)) : after ops V (main_arg1 : DevRef τ sig) = V (main_arg1 : DevRef τ sig) := by after_results
theorem arg2_eq (V : Valuation τ sig (Elt F)) : after ops V (main_arg2 : DevRef τ sig) = V (main_arg2 : DevRef τ sig) := by after_results
theorem arg3_eq (V : Valuation τ sig (Elt F)) : after ops V (main_arg3 : DevRef τ sig) = V (main_arg3 : DevRef τ sig) := by after_results
theorem arg4_eq (V : Valuation τ sig (Elt F)) : after ops V (main_arg4 : DevRef τ sig) = V (main_arg4 : DevRef τ sig) := by after_results

/-- Nothing is scoped here, and there is no counter. -/
theorem scopedRefs_eq : (Finset.univ.filter fun b : Ref sig .tc => b.isScoped) = ∅ := by decide
theorem scopedSems_eq : (Finset.univ.filter fun sm : SemLoc sig => sm.isScoped .tc) = ∅ := by decide
theorem no_sem (s : SemLoc sig) : False := by
  cases s with
  | reg s => exact Fin.elim0 s
  | dma s => exact Fin.elim0 s

theorem ops_sub : (ops : List (HloOp τ sig (Elt F))).Forall fun op => op.bufs ⊆ tcRefs τ sig :=
  ⟨binary_bufs_sub .., reshape_bufs_sub .., nullary_bufs_sub .., unary_bufs_sub .., nullary_bufs_sub .., unary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., unary_bufs_sub .., binary_bufs_sub .., unary_bufs_sub .., binary_bufs_sub .., nullary_bufs_sub .., binary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub .., reshape_bufs_sub .., binary_bufs_sub ..⟩

/-- From any memory with zero counters every weakly fair execution ends with the result buffer at `result` of the arguments,
    the arguments as they were and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v30)
          = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0 :=
  (θ_run defs _ _).mono (fun _ h => ⟨fun c => ⟨(h c main_v30).trans (out_eq _), (h c main_arg0).trans (arg0_eq _), (h c main_arg1).trans (arg1_eq _),
      (h c main_arg2).trans (arg2_eq _), (h c main_arg3).trans (arg3_eq _), (h c main_arg4).trans (arg4_eq _)⟩, funext fun g => (no_sem g.2).elim⟩)
    (run_seq scopedRefs_eq scopedSems_eq defs main (fun _ => ops) main_eq (fun _ => ops_sub) m ρ)

end Cert.ReferenceIdeal.Hand

end
-- ==== Proof.Frames.lean ====
/-
  The frames: each program ends with its arguments as they were and every counter at zero.
-/
module

public import proofs.«01_k».proof.Defs
public import proofs.«01_k».proof.Proof.Run
public import proofs.«01_k».proof.Proof.Device.Run
public import proofs.«01_k».proof.Proof.Ref

@[expose] public section

set_option maxRecDepth 16384

noncomputable section

namespace Cert.Proof

open Idealize.ShloMosaic Idealize.ShloMosaic.TcCoe Idealize.SL.Sem

section Device
open Cert.Kernel Cert.Kernel.Gen Cert.Kernel.Hand

theorem device_frame : Cert.quiescent_Kernel := fun m g _ =>
  (θ_run defs _ _).mono (fun r h => ⟨fun c =>
    have at_ (b : Ref sig .tc) (hb : (b : DevRef τ sig) ∈ Pipeline.ucRefs τ sig) : r.2.mem ((c.tc : Thread nD τ).loc b) = V5 m (outs m) c b := h.1 c b hb
    ⟨(at_ main_arg0 (Finset.mem_filter.mpr ⟨StableHlo.devRef_mem_tcRefs main_arg0, by decide⟩)).trans (V5_main_arg0 m (outs m) c),
     (at_ main_arg1 (Finset.mem_filter.mpr ⟨StableHlo.devRef_mem_tcRefs main_arg1, by decide⟩)).trans (V5_main_arg1 m (outs m) c),
     (at_ main_arg2 (Finset.mem_filter.mpr ⟨StableHlo.devRef_mem_tcRefs main_arg2, by decide⟩)).trans (V5_main_arg2 m (outs m) c),
     (at_ main_arg3 (Finset.mem_filter.mpr ⟨StableHlo.devRef_mem_tcRefs main_arg3, by decide⟩)).trans (V5_main_arg3 m (outs m) c),
     (at_ main_arg4 (Finset.mem_filter.mpr ⟨StableHlo.devRef_mem_tcRefs main_arg4, by decide⟩)).trans (V5_main_arg4 m (outs m) c)⟩, h.2⟩)
    (run_main m g)

end Device

section Ideal
open Cert.KernelIdeal Cert.KernelIdeal.Gen Cert.KernelIdeal.Hand

/-- The run of the kernel over exact numbers: what its result buffer holds, and the frame. -/
theorem ideal_run (m : (ℓ : Loc nD τ sig) → Buf (Elt Ideal) ℓ) (g : Dev nD → PrngReg) :
    θ_run (defs (F := Ideal)) (onTc (τ := τ) (main (F := Ideal))) ⟨m, fun _ => 0, g⟩ (fun r =>
      (∀ c : Dev nD, r.2.mem ((c.tc : Thread nD τ).loc main_v12) = V5 m (outs m) c main_v12
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run defs _ _).mono (fun r h => ⟨fun c =>
    have at_ (b : Ref sig .tc) (hb : (b : DevRef τ sig) ∈ Pipeline.ucRefs τ sig) : r.2.mem ((c.tc : Thread nD τ).loc b) = V5 m (outs m) c b := h.1 c b hb
    ⟨at_ main_v12 (Finset.mem_filter.mpr ⟨StableHlo.devRef_mem_tcRefs main_v12, by decide⟩),
     (at_ main_arg0 (Finset.mem_filter.mpr ⟨StableHlo.devRef_mem_tcRefs main_arg0, by decide⟩)).trans (V5_main_arg0 m (outs m) c),
     (at_ main_arg1 (Finset.mem_filter.mpr ⟨StableHlo.devRef_mem_tcRefs main_arg1, by decide⟩)).trans (V5_main_arg1 m (outs m) c),
     (at_ main_arg2 (Finset.mem_filter.mpr ⟨StableHlo.devRef_mem_tcRefs main_arg2, by decide⟩)).trans (V5_main_arg2 m (outs m) c),
     (at_ main_arg3 (Finset.mem_filter.mpr ⟨StableHlo.devRef_mem_tcRefs main_arg3, by decide⟩)).trans (V5_main_arg3 m (outs m) c),
     (at_ main_arg4 (Finset.mem_filter.mpr ⟨StableHlo.devRef_mem_tcRefs main_arg4, by decide⟩)).trans (V5_main_arg4 m (outs m) c)⟩, h.2⟩)
    (run_main m g)

theorem ideal_frame : Cert.quiescent_KernelIdeal := fun m g _ =>
  (θ_run defs _ _).mono (fun _ h => ⟨fun c => (h.1 c).2, h.2⟩) (ideal_run m g)

end Ideal

section Reference
open Cert.ReferenceIdeal Cert.ReferenceIdeal.Hand

theorem reference_frame : Cert.quiescent_ReferenceIdeal := fun m g _ =>
  (θ_run defs _ _).mono (fun _ h => ⟨fun c => (h.1 c).2, h.2⟩) (run_main m g)

end Reference

end Cert.Proof

end
-- ==== Proof.Softmax.lean ====
/-
  Two facts about exact numbers. Scaling the projection weights scales the scores; and a row of scores that are real
  numbers gives the same attention whether its exponentials are taken as they are or after the row's maximum is subtracted.
-/
module

public import Idealize.ShloMosaic.PureOps.Ideal
public import Idealize.ShloMosaic.Lib.IdealHost

@[expose] public section

noncomputable section

open scoped BigOperators

namespace Cert.Softmax

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A positive real factor goes inside a sum of any extended reals. -/
theorem mul_sum {ι : Type} (s : Finset ι) (a : ℝ) (ha : 0 ≤ a) (f : ι → EReal) : (a : EReal) * ∑ i ∈ s, f i = ∑ i ∈ s, (a : EReal) * f i := by
  classical
  induction s using Finset.induction_on with
  | empty => simp
  | insert b s hb ih =>
    rw [Finset.sum_insert hb, Finset.sum_insert hb,
      EReal.left_distrib_of_nonneg_of_ne_top (EReal.coe_nonneg.mpr ha) (EReal.coe_ne_top a), ih]

/-- A sum over `m` blocks of `n`, block by block. -/
theorem sum_blocks (m n N : ℕ) (h : m * n = N) (f : Fin N → EReal) :
    ∑ J, f J = ∑ b : Fin m, ∑ e : Fin n, f ⟨n * b.val + e.val, by
      have h1 : n * (b.val + 1) ≤ n * m := Nat.mul_le_mul_left n b.isLt
      have h2 := e.isLt
      rw [Nat.mul_succ] at h1
      rw [Nat.mul_comm m n] at h
      omega⟩ := by
  subst h
  rw [← Equiv.sum_comp finProdFinEquiv, Fintype.sum_prod_type]
  exact Finset.sum_congr rfl fun b _ => Finset.sum_congr rfl fun e _ => congrArg f (Fin.ext (Nat.add_comm _ _))

section Scores

variable {K E : Type} [Fintype K] [Fintype E]

/-- Scores from scaled weights are the scaled scores. -/
theorem scores_scaled (x : K → ℝ) (w : K → E → ℝ) (y : E → ℝ) (κ : ℝ) :
    ∑ e, (∑ k, (x k : EReal) * ((w k e : EReal) * (κ : EReal))) * (y e : EReal)
      = (∑ e, (∑ k, (x k : EReal) * (w k e : EReal)) * (y e : EReal)) * (κ : EReal) := by
  simp only [← EReal.coe_mul, ← coe_sum]
  congr 1
  rw [Finset.sum_mul]
  refine Finset.sum_congr rfl fun e _ => ?_
  rw [Finset.sum_mul, Finset.sum_mul, Finset.sum_mul]
  refine Finset.sum_congr rfl fun k _ => ?_
  ring

/-- They are real numbers. -/
theorem scores_real (x : K → ℝ) (w : K → E → ℝ) (y : E → ℝ) (κ : ℝ) :
    (∑ e, (∑ k, (x k : EReal) * (w k e : EReal)) * (y e : EReal)) * (κ : EReal)
      = ((((∑ e, (∑ k, x k * w k e) * y e) * κ : ℝ)) : EReal) := by
  simp only [EReal.coe_mul, coe_sum]

end Scores

/-- The maximum of a list of reals, begun at minus infinity, is a real unless the list is empty. -/
theorem foldl_max_real {ι : Type} (f : ι → EReal) (hf : ∀ i, ∃ r : ℝ, f i = r) :
    ∀ (l : List ι) (a : EReal), (a = ⊥ ∧ l ≠ [] ∨ ∃ r : ℝ, a = r) → ∃ r : ℝ, l.foldl (fun r i => max r (f i)) a = r
  | [], a, h => by
    rcases h with ⟨-, h⟩ | h
    · exact absurd rfl h
    · exact h
  | i :: l, a, h => by
    obtain ⟨r, hr⟩ := hf i
    refine foldl_max_real f hf l (max a (f i)) (.inr ?_)
    rcases h with ⟨rfl, -⟩ | ⟨b, rfl⟩
    · exact ⟨r, by rw [hr, max_eq_right bot_le]⟩
    · exact ⟨max b r, by rw [hr, EReal.coe_strictMono.monotone.map_max]⟩

/-- Attention of one row, either way. -/
theorem attention {ι : Type} [Fintype ι] [Nonempty ι] (s : ι → ℝ) (v : ι → EReal) (M : ℝ) :
    (∑ j, Ideal.exp (s j : EReal) * v j) * Ideal.div 1 (∑ j, Ideal.exp (s j : EReal))
      = Ideal.div (∑ j, v j * Ideal.exp ((s j : EReal) - (M : EReal))) (∑ j, Ideal.exp ((s j : EReal) - (M : EReal))) := by
  have hexp (j : ι) : Ideal.exp ((s j : EReal) - (M : EReal)) = ((Real.exp (-M) * Real.exp (s j) : ℝ) : EReal) := by
    rw [← EReal.coe_sub, ← Real.exp_add]
    show ((Real.exp (s j - M) : ℝ) : EReal) = _
    rw [show s j - M = -M + s j by ring]
  have hL : (0 : ℝ) < ∑ j, Real.exp (s j) := Finset.sum_pos (fun j _ => Real.exp_pos _) Finset.univ_nonempty
  have h1 : ∑ j, Ideal.exp (s j : EReal) = ((∑ j, Real.exp (s j) : ℝ) : EReal) := by
    rw [coe_sum]
    rfl
  have h2 : ∑ j, Ideal.exp ((s j : EReal) - (M : EReal)) = ((Real.exp (-M) * ∑ j, Real.exp (s j) : ℝ) : EReal) := by
    rw [Finset.mul_sum, coe_sum]
    exact Finset.sum_congr rfl fun j _ => hexp j
  have h3 : ∑ j, v j * Ideal.exp ((s j : EReal) - (M : EReal)) = ((Real.exp (-M) : ℝ) : EReal) * ∑ j, Ideal.exp (s j : EReal) * v j := by
    rw [mul_sum _ _ (Real.exp_pos _).le]
    refine Finset.sum_congr rfl fun j _ => ?_
    rw [hexp, EReal.coe_mul, mul_comm, mul_assoc]
    rfl
  rw [h1, h2, h3, Ideal.div_coe hL.ne', Ideal.div_coe (mul_pos (Real.exp_pos _) hL).ne', one_mul]
  generalize (∑ j, Ideal.exp (s j : EReal) * v j) = N
  rw [mul_comm ((Real.exp (-M) : ℝ) : EReal) N, mul_assoc, ← EReal.coe_mul]
  congr 2
  field_simp

end Cert.Softmax

end
-- ==== Proof.RefValue.lean ====
/-
  The reference's result over exact numbers, entry by entry.
-/
module

public import proofs.«01_k».proof.Proof.Ref
public import proofs.«01_k».proof.Proof.Softmax
public import Idealize.ShloMosaic.Lib.Pointwise

@[expose] public section

noncomputable section

namespace Cert.ReferenceIdeal.Hand

open Cert.ReferenceIdeal Cert.ReferenceIdeal.Gen
open Idealize.ShloMosaic
open scoped BigOperators

/-- The column of a head's entry. -/
abbrev col (h : Fin 64) (e : Fin 128) : Fin 8192 := ⟨128 * h.val + e.val, by omega⟩

theorem queries_apply (x : FVec Ideal S4x256x1024 .f32) (wq : FVec Ideal S1024x8192 .f32) (b : Fin 4) (q : Fin 256) (h : Fin 64) (e : Fin 128) :
    queries x wq (ix4 b q h e) = ∑ k : Fin 1024, x (ix3 b q k) * wq (ix2 k (col h e)) := by
  unfold queries
  rw [shapeCast_apply _ _ _ (ix3 b q (col h e)) (by
    rw [Shape.rowMajor_val_three, Shape.rowMajor_val_four]
    show (b.val * 256 + q.val) * 8192 + (128 * h.val + e.val) = ((b.val * 256 + q.val) * 64 + h.val) * 128 + e.val
    omega)]
  pointwise

/-- The scale. -/
abbrev κ : EReal := Ideal.ofBits .f32 0x3DB504F3#32

theorem scores_apply (q : FVec Ideal S4x256x64x128 .f32) (k : FVec Ideal S4x1024x64x128 .f32) (b : Fin 4) (h : Fin 64) (i : Fin 256) (j : Fin 1024) :
    scores q k (ix4 b h i j) = (∑ e : Fin 128, q (ix4 b i h e) * k (ix4 b j h e)) * κ := by
  pointwise [scores]

theorem sums_apply (s : FVec Ideal S4x64x256x1024 .f32) (b : Fin 4) (h : Fin 64) (i : Fin 256) (z : Fin 1) :
    sums s (ix4 b h i z) = ∑ j : Fin 1024, weights s (ix4 b h i j) := by
  pointwise [sums, zero1]
  rw [zero_mul, zero_add]

theorem weights_apply (s : FVec Ideal S4x64x256x1024 .f32) (b : Fin 4) (h : Fin 64) (i : Fin 256) (j : Fin 1024) :
    weights s (ix4 b h i j) = Ideal.exp (s (ix4 b h i j) - tops s (ix4 b h i 0)) := by
  pointwise [weights]

theorem mixed_apply (s : FVec Ideal S4x64x256x1024 .f32) (v : FVec Ideal S4x1024x64x128 .f32) (b : Fin 4) (h : Fin 64) (i : Fin 256) (e : Fin 128) :
    mixed s v (ix4 b i h e) = ∑ j : Fin 1024, v (ix4 b j h e) * weights s (ix4 b h i j) := by
  pointwise [mixed, zero4]
  rw [zero_mul, zero_add]

theorem heads_apply (s : FVec Ideal S4x64x256x1024 .f32) (v : FVec Ideal S4x1024x64x128 .f32) (b : Fin 4) (h : Fin 64) (i : Fin 256) (e : Fin 128) :
    heads s v (ix4 b i h e) = Ideal.div (mixed s v (ix4 b i h e)) (sums s (ix4 b h i 0)) := by
  pointwise [heads]

/-- What the maxima begin at is below every number. -/
theorem bottom : Ideal.ofBits .f32 0xFF800000#32 = ⊥ := by simp [Ideal.ofBits, Ideal.ieee]

/-- The maximum of a row of real scores is real. -/
theorem tops_real (s : FVec Ideal S4x64x256x1024 .f32) (hs : ∀ i, ∃ r : ℝ, s i = r) (i : S4x64x256x1.Idx) : ∃ r : ℝ, tops s i = r := by
  obtain ⟨r, hr⟩ : ∃ r : ℝ, Host.reduce FloatOps.maximumf s (constant S_ .f32 0xFF800000#32) reducesTo_S4x64x256x1024_S4x64x256_d3 h_S_ (ix3 (i 0) (i 1) (i 2)) = r := by
    rw [Host.reduce_eq_foldl]
    refine Softmax.foldl_max_real s hs _ _ (.inl ⟨bottom, ?_⟩)
    refine List.ne_nil_of_mem (a := ix4 (i 0) (i 1) (i 2) (0 : Fin 1024)) (List.mem_filter.mpr ⟨?_, ?_⟩)
    · exact List.mem_map.mpr ⟨_, List.mem_finRange _, Equiv.symm_apply_apply _ _⟩
    · refine decide_eq_true (funext fun a => Fin.ext ?_)
      match a with
      | ⟨0, _⟩ => rfl
      | ⟨1, _⟩ => rfl
      | ⟨2, _⟩ => rfl
  have hb : broadcastInDim S4x64x256x1 ![0, 1, 2] bcast_S4x64x256_S4x64x256x1_0_1_2
      (Host.reduce FloatOps.maximumf s (constant S_ .f32 0xFF800000#32) reducesTo_S4x64x256x1024_S4x64x256_d3 h_S_) i = r :=
    (broadcastInDim_apply _ _ _ i (ix3 (i 0) (i 1) (i 2)) fun a => match a with
      | ⟨0, _⟩ => rfl
      | ⟨1, _⟩ => rfl
      | ⟨2, _⟩ => rfl).trans hr
  refine ⟨r, ?_⟩
  unfold tops
  rw [maximumf_apply, hb]
  show max (low (F := Ideal) i : EReal) ((r : ℝ) : EReal) = ((r : ℝ) : EReal)
  exact max_eq_right (le_of_eq_of_le bottom bot_le)

theorem result_apply (x : FVec Ideal S4x256x1024 .f32) (wq : FVec Ideal S1024x8192 .f32) (k v : FVec Ideal S4x1024x64x128 .f32) (wo : FVec Ideal S8192x1024 .f32)
    (b : Fin 4) (q : Fin 256) (d : Fin 1024) :
    result x wq k v wo (ix3 b q d) = ∑ h : Fin 64, ∑ e : Fin 128, heads (scores (queries x wq) k) v (ix4 b q h e) * wo (ix2 (col h e) d) := by
  have flat (J : Fin 8192) : shapeCast S4x256x8192 (heads (scores (queries x wq) k) v) shapeCasts_S4x256x64x128_S4x256x8192 (ix3 b q J)
      = heads (scores (queries x wq) k) v (ix4 b q ⟨J.val / 128, by omega⟩ ⟨J.val % 128, by omega⟩) :=
    shapeCast_apply _ _ _ _ (by
      rw [Shape.rowMajor_val_three, Shape.rowMajor_val_four]
      show ((b.val * 256 + q.val) * 64 + J.val / 128) * 128 + J.val % 128 = (b.val * 256 + q.val) * 8192 + J.val
      omega)
  have dot : result x wq k v wo (ix3 b q d) = ∑ J : Fin 8192, shapeCast S4x256x8192 (heads (scores (queries x wq) k) v) shapeCasts_S4x256x64x128_S4x256x8192 (ix3 b q J) * wo (ix2 J d) := by
    unfold result
    generalize shapeCast S4x256x8192 (heads (scores (queries x wq) k) v) shapeCasts_S4x256x64x128_S4x256x8192 = y
    pointwise
  rw [dot, Softmax.sum_blocks 64 128 8192 rfl]
  refine Finset.sum_congr rfl fun h _ => Finset.sum_congr rfl fun e _ => ?_
  rw [flat]
  have h1 : (128 * h.val + e.val) / 128 = h.val := by omega
  have h2 : (128 * h.val + e.val) % 128 = e.val := by omega
  simp only [h1, h2]

theorem κ_real : ∃ r : ℝ, κ = r := by
  refine ⟨11863283 / 134217728, ?_⟩
  simp [κ, Ideal.ofBits, Ideal.ieee, -EReal.coe_mul]
  norm_num

/-- A row's scores from the arguments. -/
abbrev score (x : FVec Ideal S4x256x1024 .f32) (wq : FVec Ideal S1024x8192 .f32) (k : FVec Ideal S4x1024x64x128 .f32) (b : Fin 4) (h : Fin 64) (i : Fin 256) (j : Fin 1024) : EReal :=
  (∑ e : Fin 128, (∑ l : Fin 1024, x (ix3 b i l) * wq (ix2 l (col h e))) * k (ix4 b j h e)) * κ

theorem score_real {x : FVec Ideal S4x256x1024 .f32} {wq : FVec Ideal S1024x8192 .f32} {k : FVec Ideal S4x1024x64x128 .f32}
    (hx : ∀ i, ∃ r : ℝ, x i = r) (hw : ∀ i, ∃ r : ℝ, wq i = r) (hk : ∀ i, ∃ r : ℝ, k i = r) (b : Fin 4) (h : Fin 64) (i : Fin 256) (j : Fin 1024) :
    ∃ r : ℝ, score x wq k b h i j = r := by
  choose x' hx using hx
  choose w' hw using hw
  choose k' hk using hk
  obtain ⟨r, hr⟩ := κ_real
  simp only [score, hx, hw, hk, hr]
  exact ⟨_, Softmax.scores_real (fun l => x' (ix3 b i l)) (fun l e => w' (ix2 l (col h e))) (fun e => k' (ix4 b j h e)) r⟩

theorem scores_eq (x : FVec Ideal S4x256x1024 .f32) (wq : FVec Ideal S1024x8192 .f32) (k : FVec Ideal S4x1024x64x128 .f32) (b : Fin 4) (h : Fin 64) (i : Fin 256) (j : Fin 1024) :
    scores (queries x wq) k (ix4 b h i j) = score x wq k b h i j := by
  rw [scores_apply]
  simp only [queries_apply]

/-- A head's attention, no maximum subtracted. -/
theorem heads_eq {x : FVec Ideal S4x256x1024 .f32} {wq : FVec Ideal S1024x8192 .f32} {k : FVec Ideal S4x1024x64x128 .f32} (v : FVec Ideal S4x1024x64x128 .f32)
    (hx : ∀ i, ∃ r : ℝ, x i = r) (hw : ∀ i, ∃ r : ℝ, wq i = r) (hk : ∀ i, ∃ r : ℝ, k i = r) (b : Fin 4) (h : Fin 64) (i : Fin 256) (e : Fin 128) :
    heads (scores (queries x wq) k) v (ix4 b i h e)
      = (∑ j : Fin 1024, Ideal.exp (score x wq k b h i j) * v (ix4 b j h e)) * Ideal.div 1 (∑ j : Fin 1024, Ideal.exp (score x wq k b h i j)) := by
  have hreal (a : S4x64x256x1024.Idx) : ∃ r : ℝ, scores (queries x wq) k a = r := by
    obtain ⟨r, hr⟩ := score_real hx hw hk (a 0) (a 1) (a 2) (a 3)
    exact ⟨r, (congrArg _ (ValueIdx.eq_ix4 a)).trans ((scores_eq x wq k (a 0) (a 1) (a 2) (a 3)).trans hr)⟩
  obtain ⟨M, hM⟩ := tops_real _ hreal (ix4 b h i 0)
  choose s hs using fun j => score_real hx hw hk b h i j
  rw [heads_apply, mixed_apply, sums_apply]
  simp only [weights_apply, hM, scores_eq, hs]
  exact (Softmax.attention s _ M).symm

end Cert.ReferenceIdeal.Hand

end
-- ==== Proof.KerValue.lean ====
/-
  The kernel's payloads over exact numbers, entry by entry: the attention of a block, the block a device brings to the
  exchange, and the sum the exchange ends with.
-/
module

public import proofs.«01_k».proof.Proof.Attn
public import proofs.«01_k».proof.Proof.Proto
public import Idealize.ShloMosaic.Lib.Pointwise

@[expose] public section

noncomputable section

namespace Cert.KernelIdeal.Hand

open Cert.KernelIdeal Cert.KernelIdeal.Gen Cert.Cube
open Idealize.ShloMosaic
open scoped BigOperators

/-- The column of a head's entry in a device's block. -/
abbrev col (h : Fin 8) (e : Fin 128) : Fin 1024 := ⟨128 * h.val + e.val, by omega⟩

theorem slice_q (q : FVec Ideal S256x1024 .bf16) (h : Fin 8) (i : Fin 256) (e : Fin 128) :
    extractStridedSlice S256x128 ![0, 128 * h.val] q (cols_q h) (ix2 i e) = q (ix2 i (col h e)) :=
  extractStridedSlice_apply _ _ _ _ _ fun a => match a with
    | ⟨0, _⟩ => (Nat.zero_add _).symm
    | ⟨1, _⟩ => rfl

theorem slice_k (k : Vec Ideal S1x1024x1024 .bf16) (h : Fin 8) (s : Fin 1024) (e : Fin 128) :
    extractStridedSlice S1024x128 ![0, 128 * h.val] (shapeCast S1024x1024 k shapeCasts_S1x1024x1024_S1024x1024) (cols_k h) (ix2 s e) = k (ix3 0 s (col h e)) := by
  rw [extractStridedSlice_apply _ _ _ _ (ix2 s (col h e)) fun a => match a with
    | ⟨0, _⟩ => (Nat.zero_add _).symm
    | ⟨1, _⟩ => rfl]
  pointwise

theorem pay1_apply (x : Vec Ideal S1x256x1024 .bf16) (w : Vec Ideal S1024x1024 .bf16) (i : Fin 256) (j : Fin 1024) :
    k0_pay1 x w (ix2 i j) = ∑ l : Fin 1024, x (ix3 0 i l) * w (ix2 l j) := by
  pointwise [k0_pay1]

theorem weights_apply (q : FVec Ideal S256x1024 .bf16) (k : Vec Ideal S1x1024x1024 .bf16) (h : Fin 8) (i : Fin 256) (s : Fin 1024) :
    weights q k h (ix2 i s) = Ideal.exp (∑ e : Fin 128, q (ix2 i (col h e)) * k (ix3 0 s (col h e))) := by
  simp only [← slice_q, ← slice_k]
  unfold weights
  generalize extractStridedSlice S256x128 ![0, 128 * h.val] q (cols_q h) = q'
  generalize extractStridedSlice S1024x128 ![0, 128 * h.val] (shapeCast S1024x1024 k shapeCasts_S1x1024x1024_S1024x1024) (cols_k h) = k'
  pointwise

theorem sums_apply (p : FVec Ideal S256x1024 .bf16) (i : Fin 256) (z : Fin 1) : sums p (ix2 i z) = ∑ s : Fin 1024, p (ix2 i s) := by
  pointwise [sums]

theorem mixed_apply (p : FVec Ideal S256x1024 .bf16) (v : Vec Ideal S1x1024x1024 .bf16) (h : Fin 8) (i : Fin 256) (e : Fin 128) :
    mixed p v h (ix2 i e) = ∑ s : Fin 1024, p (ix2 i s) * v (ix3 0 s (col h e)) := by
  simp only [← slice_k]
  unfold mixed
  generalize extractStridedSlice S1024x128 ![0, 128 * h.val] (shapeCast S1024x1024 v shapeCasts_S1x1024x1024_S1024x1024) (cols_k h) = v'
  pointwise

theorem scaled_apply (l : FVec Ideal S256x1 .f32) (o : FVec Ideal S256x128 .f32) (z : Fin 1) (i : Fin 256) (e : Fin 128) :
    scaled l o (ix3 z i e) = o (ix2 i e) * Ideal.div 1 (l (ix2 i 0)) := by
  pointwise [scaled]

theorem attn_apply (x : Vec Ideal S1x256x1024 .bf16) (w : Vec Ideal S1024x1024 .bf16) (k v : Vec Ideal S1x1024x1024 .bf16) (i : Fin 256) (h : Fin 8) (e : Fin 128) :
    attn x w k v (ix3 0 i (col h e))
      = (∑ s : Fin 1024, Ideal.exp (∑ e' : Fin 128, (∑ l : Fin 1024, x (ix3 0 i l) * w (ix2 l (col h e'))) * k (ix3 0 s (col h e'))) * v (ix3 0 s (col h e)))
        * Ideal.div 1 (∑ s : Fin 1024, Ideal.exp (∑ e' : Fin 128, (∑ l : Fin 1024, x (ix3 0 i l) * w (ix2 l (col h e'))) * k (ix3 0 s (col h e')))) := by
  have hh : headOf (ix3 0 i (col h e)) = h := Fin.ext (by show (128 * h.val + e.val) / 128 = h.val; omega)
  have hi : inHead (ix3 0 i (col h e)) = ix3 0 i e := funext fun a => Fin.ext (match a with
    | ⟨0, _⟩ => rfl
    | ⟨1, _⟩ => rfl
    | ⟨2, _⟩ => by show (128 * h.val + e.val) % 128 = e.val; omega)
  unfold attn head
  rw [hh, hi, scaled_apply, mixed_apply, sums_apply]
  simp only [weights_apply, pay1_apply]

/-- The same with the four blocks given by their entries. -/
theorem attn_of {x : Vec Ideal S1x256x1024 .bf16} {w : Vec Ideal S1024x1024 .bf16} {k v : Vec Ideal S1x1024x1024 .bf16}
    {X : Fin 256 → Fin 1024 → EReal} {W : Fin 1024 → Fin 1024 → EReal} {K V : Fin 1024 → Fin 8 → Fin 128 → EReal}
    (hx : ∀ i l, x (ix3 0 i l) = X i l) (hw : ∀ l j, w (ix2 l j) = W l j)
    (hk : ∀ s h e, k (ix3 0 s (col h e)) = K s h e) (hv : ∀ s h e, v (ix3 0 s (col h e)) = V s h e) (i : Fin 256) (h : Fin 8) (e : Fin 128) :
    attn x w k v (ix3 0 i (col h e))
      = (∑ s : Fin 1024, Ideal.exp (∑ e' : Fin 128, (∑ l : Fin 1024, X i l * W l (col h e')) * K s h e') * V s h e)
        * Ideal.div 1 (∑ s : Fin 1024, Ideal.exp (∑ e' : Fin 128, (∑ l : Fin 1024, X i l * W l (col h e')) * K s h e')) := by
  rw [attn_apply]
  simp only [hx, hw, hk, hv]

theorem pay2_apply (o : Vec Ideal S1024x1024 .bf16) (p : Vec Ideal S1024x1024 .f32) (r d : Fin 1024) :
    k1_pay2 o p (ix2 r d) = ∑ j : Fin 1024, o (ix2 r j) * p (ix2 j d) := by
  pointwise [k1_pay2]

/-! ## The exchange's sum -/

/-- The devices whose blocks a device's last partial sum holds, in the order they come. -/
def met (g : Fin 3) : ℕ → Fin 8 → List (Fin 8)
  | 0, c => [c]
  | j + 1, c => met g j c ++ met g j (peer g j c)

theorem met_all : ∀ (g : Fin 3) (c : Fin 8), List.Perm (met g 3 c) (List.finRange 8) := by decide +kernel

theorem psum_apply (A : Dev nD → Acc Ideal) (g : Fin 3) (i : S1024x1024.Idx) : ∀ (j : ℕ) (c : Dev nD),
    (psum A g j c i : EReal) = ((met g j c).map fun c => (A c i : EReal)).sum
  | 0, c => by
    show (A c i : EReal) = (A c i : EReal) + 0
    rw [add_zero]
  | j + 1, c => by
    show (psum A g j c i : EReal) + (psum A g j (peer g j c) i : EReal) = ((met g j c ++ met g j (peer g j c)).map fun c => (A c i : EReal)).sum
    rw [psum_apply A g i j c, psum_apply A g i j (peer g j c), List.map_append, List.sum_append]

theorem total_apply (A : Dev nD → Acc Ideal) (i : S1024x1024.Idx) : (total A i : EReal) = ∑ c : Fin 8, (A c i : EReal) := by
  unfold total
  rw [psum_apply, Fin.sum_univ_def]
  exact ((met_all _ _).map _).sum_eq

end Cert.KernelIdeal.Hand

end
-- ==== Proof.Values.lean ====
/-
  What each array holds in the end, entry by entry, from what the device's arguments hold.
-/
module

public import proofs.«01_k».proof.Proof.KerValue
public import proofs.«01_k».proof.Proof.Regs
public import Idealize.ShloMosaic.Lib.Pipeline.ValueKit.Geometry

@[expose] public section

set_option maxRecDepth 16384

noncomputable section

namespace Cert.KernelIdeal.Hand

open Cert.KernelIdeal Cert.KernelIdeal.Gen Cert.Cube
open Idealize.ShloMosaic Idealize.ShloMosaic.TcCoe
open Idealize.ShloMosaic.Pipeline (Dat)
open scoped BigOperators

variable (m : (ℓ : Loc nD τ sig) → Buf (Elt Ideal) ℓ) (c : Dev nD)

/-! ## The attention region's arrays -/

/-- The grid's point for a batch. -/
def pt (b : Fin 4) : Fin cfg0.N := ⟨b.val, by rw [show cfg0.N = 4 from N_0]; exact b.isLt⟩

theorem index0 : ∀ t : Fin cfg0.N, win0_0.index t = ![t.val, 0, 0] := (by decide +kernel : ∀ t : Fin grid0.N, win0_0.index t = ![t.val, 0, 0])
theorem index1 : ∀ t : Fin cfg0.N, win0_1.index t = ![0, 0] := (by decide +kernel : ∀ t : Fin grid0.N, win0_1.index t = ![0, 0])
theorem index2 : ∀ t : Fin cfg0.N, win0_2.index t = ![t.val, 0, 0] := (by decide +kernel : ∀ t : Fin grid0.N, win0_2.index t = ![t.val, 0, 0])
theorem index3 : ∀ t : Fin cfg0.N, win0_3.index t = ![t.val, 0, 0] := (by decide +kernel : ∀ t : Fin grid0.N, win0_3.index t = ![t.val, 0, 0])
theorem index4 : ∀ t : Fin cfg0.N, win0_4.index t = ![t.val, 0, 0] := (by decide +kernel : ∀ t : Fin grid0.N, win0_4.index t = ![t.val, 0, 0])

theorem inX_apply (b : Fin 4) (i : Fin 256) (l : Fin 1024) :
    inX m c (pt b) (ix3 0 i l) = (V1 m c (main_v1 : DevRef τ sig) : FVec Ideal S4x256x1024 .bf16) (ix3 b i l) := by
  refine congrArg (V1 m c (main_v1 : DevRef τ sig) : FVec Ideal S4x256x1024 .bf16) (funext fun a => Fin.ext ?_)
  refine (win0_0.rect_emb_val (pt b) (ix3 0 i l) a).trans ?_
  rw [index0]
  match a with
  | ⟨0, _⟩ => show b.val * 1 + 0 = b.val; omega
  | ⟨1, _⟩ => show 0 * 256 + i.val = i.val; omega
  | ⟨2, _⟩ => show 0 * 1024 + l.val = l.val; omega

theorem inW_apply (b : Fin 4) (l j : Fin 1024) :
    inW m c (pt b) (ix2 l j) = (V1 m c (main_v4 : DevRef τ sig) : FVec Ideal S1024x1024 .bf16) (ix2 l j) := by
  refine congrArg (V1 m c (main_v4 : DevRef τ sig) : FVec Ideal S1024x1024 .bf16) (funext fun a => Fin.ext ?_)
  refine (win0_1.rect_emb_val (pt b) (ix2 l j) a).trans ?_
  rw [index1]
  match a with
  | ⟨0, _⟩ => show 0 * 1024 + l.val = l.val; omega
  | ⟨1, _⟩ => show 0 * 1024 + j.val = j.val; omega

theorem inK_apply (b : Fin 4) (s j : Fin 1024) :
    inK m c (pt b) (ix3 0 s j) = (V1 m c (main_v6 : DevRef τ sig) : FVec Ideal S4x1024x1024 .bf16) (ix3 b s j) := by
  refine congrArg (V1 m c (main_v6 : DevRef τ sig) : FVec Ideal S4x1024x1024 .bf16) (funext fun a => Fin.ext ?_)
  refine (win0_2.rect_emb_val (pt b) (ix3 0 s j) a).trans ?_
  rw [index2]
  match a with
  | ⟨0, _⟩ => show b.val * 1 + 0 = b.val; omega
  | ⟨1, _⟩ => show 0 * 1024 + s.val = s.val; omega
  | ⟨2, _⟩ => show 0 * 1024 + j.val = j.val; omega

theorem inV_apply (b : Fin 4) (s j : Fin 1024) :
    inV m c (pt b) (ix3 0 s j) = (V1 m c (main_v8 : DevRef τ sig) : FVec Ideal S4x1024x1024 .bf16) (ix3 b s j) := by
  refine congrArg (V1 m c (main_v8 : DevRef τ sig) : FVec Ideal S4x1024x1024 .bf16) (funext fun a => Fin.ext ?_)
  refine (win0_3.rect_emb_val (pt b) (ix3 0 s j) a).trans ?_
  rw [index3]
  match a with
  | ⟨0, _⟩ => show b.val * 1 + 0 = b.val; omega
  | ⟨1, _⟩ => show 0 * 1024 + s.val = s.val; omega
  | ⟨2, _⟩ => show 0 * 1024 + j.val = j.val; omega

/-! ## What the host leaves for it -/

abbrev argX : FVec Ideal S4x256x1024 .f32 := m ((c.tc : Thread nD τ).loc main_arg0)
abbrev argW : FVec Ideal S1024x1024 .f32 := m ((c.tc : Thread nD τ).loc main_arg1)
abbrev argK : FVec Ideal S4x1024x8x128 .f32 := m ((c.tc : Thread nD τ).loc main_arg2)
abbrev argV : FVec Ideal S4x1024x8x128 .f32 := m ((c.tc : Thread nD τ).loc main_arg3)
abbrev argO : FVec Ideal S1024x1024 .f32 := m ((c.tc : Thread nD τ).loc main_arg4)

/-- The scale. -/
abbrev κ : EReal := Ideal.ofBits .f32 0x3DB504F3#32

theorem v1_eq : (V1 m c (main_v1 : DevRef τ sig) : FVec Ideal S4x256x1024 .bf16) = truncf .bf16 (argX m c) bitsLt_bf16_f32 := by after_results
theorem v4_eq : (V1 m c (main_v4 : DevRef τ sig) : FVec Ideal S1024x1024 .bf16)
    = truncf .bf16 (mulf (argW m c) (broadcastInDim S1024x1024 ![] bcast_S_S1024x1024 (constant S_ .f32 0x3DB504F3#32))) bitsLt_bf16_f32 := by after_results
theorem v6_eq : (V1 m c (main_v6 : DevRef τ sig) : FVec Ideal S4x1024x1024 .bf16)
    = truncf .bf16 (shapeCast S4x1024x1024 (argK m c) shapeCasts_S4x1024x8x128_S4x1024x1024) bitsLt_bf16_f32 := by after_results; rfl
theorem v8_eq : (V1 m c (main_v8 : DevRef τ sig) : FVec Ideal S4x1024x1024 .bf16)
    = truncf .bf16 (shapeCast S4x1024x1024 (argV m c) shapeCasts_S4x1024x8x128_S4x1024x1024) bitsLt_bf16_f32 := by after_results; rfl

theorem x_apply (b : Fin 4) (i : Fin 256) (l : Fin 1024) : inX m c (pt b) (ix3 0 i l) = argX m c (ix3 b i l) := by
  rw [inX_apply, v1_eq]
  pointwise

theorem w_apply (b : Fin 4) (l j : Fin 1024) : inW m c (pt b) (ix2 l j) = argW m c (ix2 l j) * κ := by
  rw [inW_apply, v4_eq]
  pointwise

theorem merged (y : FVec Ideal S4x1024x8x128 .f32) (b : Fin 4) (s : Fin 1024) (h : Fin 8) (e : Fin 128) :
    shapeCast S4x1024x1024 y shapeCasts_S4x1024x8x128_S4x1024x1024 (ix3 b s (col h e)) = y (ix4 b s h e) :=
  shapeCast_apply _ _ _ _ (by
    rw [Shape.rowMajor_val_three, Shape.rowMajor_val_four]
    show ((b.val * 1024 + s.val) * 8 + h.val) * 128 + e.val = (b.val * 1024 + s.val) * 1024 + (128 * h.val + e.val)
    omega)

theorem k_apply (b : Fin 4) (s : Fin 1024) (h : Fin 8) (e : Fin 128) : inK m c (pt b) (ix3 0 s (col h e)) = argK m c (ix4 b s h e) := by
  rw [inK_apply, v6_eq]
  exact merged _ b s h e

theorem v_apply (b : Fin 4) (s : Fin 1024) (h : Fin 8) (e : Fin 128) : inV m c (pt b) (ix3 0 s (col h e)) = argV m c (ix4 b s h e) := by
  rw [inV_apply, v8_eq]
  exact merged _ b s h e

/-! ## The attention -/

/-- The attention of every batch. -/
def batches : FVec Ideal S4x256x1024 .bf16 := fun i => out0 m c (pt (i 0)) (ix3 0 (i 1) (i 2))

theorem arr0 : (dat0 m c).arrAt 4 cfg0.N = batches m c := by
  refine (dat0 m c).arrAt_eq_of_covers 4 _ (by decide +kernel) fun t _ y => ?_
  have ht : pt ((win0_4.rect t).emb y 0) = t := Fin.ext ((win0_4.rect_emb_val t y 0).trans (by
    rw [index4]
    have h : (y 0).val < 1 := (y 0).isLt
    show t.val * 1 + (y 0).val = t.val
    omega))
  have hy : ix3 0 ((win0_4.rect t).emb y 1) ((win0_4.rect t).emb y 2) = y := funext fun a => Fin.ext (by
    match a with
    | ⟨0, _⟩ => have h : (y 0).val < 1 := (y 0).isLt; show 0 = (y 0).val; omega
    | ⟨1, _⟩ => refine (win0_4.rect_emb_val t y 1).trans ?_; rw [index4]; show 0 * 256 + (y 1).val = (y 1).val; omega
    | ⟨2, _⟩ => refine (win0_4.rect_emb_val t y 2).trans ?_; rw [index4]; show 0 * 1024 + (y 2).val = (y 2).val; omega)
  show out0 m c t y = out0 m c (pt ((win0_4.rect t).emb y 0)) (ix3 0 ((win0_4.rect t).emb y 1) ((win0_4.rect t).emb y 2))
  rw [ht]
  exact congrArg (out0 m c t) hy.symm

/-- A row's scores on a device, from its arguments. -/
abbrev score (b : Fin 4) (h : Fin 8) (i : Fin 256) (s : Fin 1024) : EReal :=
  ∑ e : Fin 128, (∑ l : Fin 1024, argX m c (ix3 b i l) * (argW m c (ix2 l (col h e)) * κ)) * argK m c (ix4 b s h e)

theorem batches_apply (b : Fin 4) (i : Fin 256) (h : Fin 8) (e : Fin 128) :
    batches m c (ix3 b i (col h e))
      = (∑ s : Fin 1024, Ideal.exp (score m c b h i s) * argV m c (ix4 b s h e)) * Ideal.div 1 (∑ s : Fin 1024, Ideal.exp (score m c b h i s)) :=
  attn_of (x_apply m c b) (w_apply m c b) (k_apply m c b) (v_apply m c b) i h e

/-! ## The exchange region's arrays -/

theorem indexO : win1_0.index t1_0 = ![0, 0] := by decide +kernel
theorem indexP : win1_1.index t1_0 = ![0, 0] := by decide +kernel
theorem indexR : ∀ t : Fin cfg1.N, win1_2.index t = ![0, 0] := (by decide +kernel : ∀ t : Fin grid1.N, win1_2.index t = ![0, 0])

theorem v10_eq : (W3 m c (main_v10 : DevRef τ sig) : FVec Ideal S1024x1024 .bf16) = shapeCast S1024x1024 (batches m c) shapeCasts_S4x256x1024_S1024x1024 := by
  have h : (W3 m c (main_v10 : DevRef τ sig) : FVec Ideal S1024x1024 .bf16) = shapeCast S1024x1024 (W2 m c (main_v9 : DevRef τ sig) : FVec Ideal S4x256x1024 .bf16) shapeCasts_S4x256x1024_S1024x1024 := by
    unfold W3
    after_results
    rfl
  rw [h, W2_out, arr0]

theorem arg4_eq : (W3 m c (main_arg4 : DevRef τ sig) : FVec Ideal S1024x1024 .f32) = argO m c := by
  rw [← V3_eq]
  exact (V3_of m (outs m) c main_arg4 (by decide)).trans ((V2_of m (outs m) c main_arg4 (by decide)).trans (V1_of m c main_arg4 (by decide)))

theorem o_apply (b : Fin 4) (i : Fin 256) (j : Fin 1024) : inO (W3 m) c (ix2 ⟨256 * b.val + i.val, by omega⟩ j) = batches m c (ix3 b i j) := by
  have h : inO (W3 m) c (ix2 ⟨256 * b.val + i.val, by omega⟩ j) = (W3 m c (main_v10 : DevRef τ sig) : FVec Ideal S1024x1024 .bf16) (ix2 ⟨256 * b.val + i.val, by omega⟩ j) := by
    refine congrArg (W3 m c (main_v10 : DevRef τ sig) : FVec Ideal S1024x1024 .bf16) (funext fun a => Fin.ext ?_)
    refine (win1_0.rect_emb_val t1_0 (ix2 _ j) a).trans ?_
    rw [indexO]
    match a with
    | ⟨0, _⟩ => show 0 * 1024 + (256 * b.val + i.val) = 256 * b.val + i.val; omega
    | ⟨1, _⟩ => show 0 * 1024 + j.val = j.val; omega
  rw [h, v10_eq]
  exact shapeCast_apply _ _ _ _ (by
    rw [Shape.rowMajor_val_two, Shape.rowMajor_val_three]
    show (b.val * 256 + i.val) * 1024 + j.val = (256 * b.val + i.val) * 1024 + j.val
    omega)

theorem p_apply (j d : Fin 1024) : inP (W3 m) c (ix2 j d) = argO m c (ix2 j d) := by
  rw [← arg4_eq]
  refine congrArg (W3 m c (main_arg4 : DevRef τ sig) : FVec Ideal S1024x1024 .f32) (funext fun a => Fin.ext ?_)
  refine (win1_1.rect_emb_val t1_0 (ix2 j d) a).trans ?_
  rw [indexP]
  match a with
  | ⟨0, _⟩ => show 0 * 1024 + j.val = j.val; omega
  | ⟨1, _⟩ => show 0 * 1024 + d.val = d.val; omega

theorem arr1 : (dat1 (W3 m) c).arrAt 2 cfg1.N = out1 (W3 m) := by
  refine (dat1 (W3 m) c).arrAt_eq_of_covers 2 _ (by decide +kernel) fun t _ y => ?_
  refine congrArg (out1 (W3 m)) (funext fun a => Fin.ext ?_)
  refine Eq.symm ((win1_2.rect_emb_val t y a).trans ?_)
  rw [indexR]
  match a with
  | ⟨0, _⟩ => show 0 * 1024 + (y 0).val = (y 0).val; omega
  | ⟨1, _⟩ => show 0 * 1024 + (y 1).val = (y 1).val; omega

/-- What the result holds. -/
theorem result_apply (b : Fin 4) (i : Fin 256) (d : Fin 1024) :
    (V5 m (outs m) c (main_v12 : DevRef τ sig) : FVec Ideal S4x256x1024 .f32) (ix3 b i d)
      = ∑ c' : Fin 8, ∑ j : Fin 1024, batches m c' (ix3 b i j) * argO m c' (ix2 j d) := by
  have h : (V5 m (outs m) c (main_v12 : DevRef τ sig) : FVec Ideal S4x256x1024 .f32)
      = shapeCast S4x256x1024 (V4 m (outs m) c (main_v11 : DevRef τ sig) : FVec Ideal S1024x1024 .f32) shapeCasts_S1024x1024_S4x256x1024 := by
    show StableHlo.after hostOps2 (V4 m (outs m) c) (main_v12 : DevRef τ sig) = _
    generalize V4 m (outs m) c = V
    after_results
    rfl
  rw [h, V4_eq, W4_out, arr1, shapeCast_apply _ _ _ (ix2 ⟨256 * b.val + i.val, by omega⟩ d) (by
    rw [Shape.rowMajor_val_two, Shape.rowMajor_val_three]
    show (256 * b.val + i.val) * 1024 + d.val = (b.val * 256 + i.val) * 1024 + d.val
    omega)]
  show (total (begun (W3 m)) (ix2 ⟨256 * b.val + i.val, _⟩ d) : EReal) = _
  rw [total_apply]
  refine Finset.sum_congr rfl fun c' _ => ?_
  show (k1_pay2 (inO (W3 m) c') (inP (W3 m) c') (ix2 ⟨256 * b.val + i.val, _⟩ d) : EReal) = _
  rw [pay2_apply]
  refine Finset.sum_congr rfl fun j _ => ?_
  rw [o_apply, p_apply]

end Cert.KernelIdeal.Hand

end
-- ==== Proof.Equal.lean ====
/-
  The kernel's array is the reference's: eight devices with eight heads each are the sixty-four heads.
-/
module

public import proofs.«01_k».proof.Proof.Finite
public import proofs.«01_k».proof.Proof.Frames
public import proofs.«01_k».proof.Proof.RefValue
public import proofs.«01_k».proof.Proof.Values
public import Idealize.ShloMosaic.Lib.Layout

@[expose] public section

set_option maxRecDepth 16384

noncomputable section

namespace Cert.Proof

open Idealize.ShloMosaic Idealize.ShloMosaic.TcCoe Idealize.SL.Sem
open Cert.KernelIdeal (nD τ sig S4x256x1024 S1024x1024 S4x1024x8x128)
open Cert.KernelIdeal.Hand (argX argW argK argV argO)
open Cert.ReferenceIdeal (S1024x8192 S8192x1024 S4x1024x64x128)
open scoped BigOperators

/-! ## Where a device's block lies in the whole array -/

/-- The whole array's head that is head `h` of device `c`. -/
abbrev head (c h : Fin 8) : Fin 64 := ⟨8 * c.val + h.val, by omega⟩

/-- The whole array's feature that is feature `j` of device `c`. -/
abbrev feature (c : Fin 8) (j : Fin 1024) : Fin 8192 := ⟨1024 * c.val + j.val, by omega⟩

theorem feature_col (c h : Fin 8) (e : Fin 128) : feature c (KernelIdeal.Hand.col h e) = ReferenceIdeal.Hand.col (head c h) e :=
  Fin.ext (by show 1024 * c.val + (128 * h.val + e.val) = 128 * (8 * c.val + h.val) + e.val; omega)

theorem block_cols (w : FVec Ideal S1024x8192 .f32) (c : Fin 8) (l j : Fin 1024) :
    Layout.block S1024x1024 S1024x8192 1 8 c w (by decide) (ix2 l j) = w (ix2 l (feature c j)) :=
  congrArg w (funext fun a => match a with
    | ⟨0, _⟩ => rfl
    | ⟨1, _⟩ => Fin.ext (by show c.val * 1024 + j.val = 1024 * c.val + j.val; omega))

theorem block_rows (w : FVec Ideal S8192x1024 .f32) (c : Fin 8) (j d : Fin 1024) :
    Layout.block S1024x1024 S8192x1024 0 8 c w (by decide) (ix2 j d) = w (ix2 (feature c j) d) :=
  congrArg w (funext fun a => match a with
    | ⟨0, _⟩ => Fin.ext (by show c.val * 1024 + j.val = 1024 * c.val + j.val; omega)
    | ⟨1, _⟩ => rfl)

theorem block_heads (k : FVec Ideal S4x1024x64x128 .f32) (c : Fin 8) (b : Fin 4) (s : Fin 1024) (h : Fin 8) (e : Fin 128) :
    Layout.block S4x1024x8x128 S4x1024x64x128 2 8 c k (by decide) (ix4 b s h e) = k (ix4 b s (head c h) e) :=
  congrArg k (funext fun a => match a with
    | ⟨0, _⟩ => rfl
    | ⟨1, _⟩ => rfl
    | ⟨2, _⟩ => Fin.ext (by show c.val * 8 + h.val = 8 * c.val + h.val; omega)
    | ⟨3, _⟩ => rfl)

/-! ## From the blocks to the whole arrays -/

/-- Each device holds `x` and its own blocks of the four other arrays. -/
structure Split (m : (ℓ : Loc nD τ sig) → Buf (Elt Ideal) ℓ) (x : FVec Ideal S4x256x1024 .f32) (wq : FVec Ideal S1024x8192 .f32)
    (k v : FVec Ideal S4x1024x64x128 .f32) (wo : FVec Ideal S8192x1024 .f32) : Prop where
  x_at : ∀ c, argX m c = x
  w_at : ∀ c l j, argW m c (ix2 l j) = wq (ix2 l (feature c j))
  k_at : ∀ c b s h e, argK m c (ix4 b s h e) = k (ix4 b s (head c h) e)
  v_at : ∀ c b s h e, argV m c (ix4 b s h e) = v (ix4 b s (head c h) e)
  o_at : ∀ c j d, argO m c (ix2 j d) = wo (ix2 (feature c j) d)

section Whole

variable {m : (ℓ : Loc nD τ sig) → Buf (Elt Ideal) ℓ} {x : FVec Ideal S4x256x1024 .f32} {wq : FVec Ideal S1024x8192 .f32}
  {k v : FVec Ideal S4x1024x64x128 .f32} {wo : FVec Ideal S8192x1024 .f32} (h : Split m x wq k v wo)

include h

theorem Split.wq_real (hw : ∀ c i, ∃ r : ℝ, argW m c i = ((r : ℝ) : EReal)) (i : S1024x8192.Idx) : ∃ r : ℝ, wq i = ((r : ℝ) : EReal) := by
  have hJ : (i 1).val < 8192 := (i 1).isLt
  obtain ⟨r, hr⟩ := hw ⟨(i 1).val / 1024, by show (i 1).val / 1024 < 8; omega⟩ (ix2 (i 0) ⟨(i 1).val % 1024, by omega⟩)
  refine ⟨r, Eq.trans (congrArg wq (funext fun a => ?_)) ((h.w_at _ _ _).symm.trans hr)⟩
  match a with
  | ⟨0, _⟩ => rfl
  | ⟨1, _⟩ => exact Fin.ext (by show (i 1).val = 1024 * ((i 1).val / 1024) + (i 1).val % 1024; omega)

theorem Split.k_real (hk : ∀ c i, ∃ r : ℝ, argK m c i = ((r : ℝ) : EReal)) (i : S4x1024x64x128.Idx) : ∃ r : ℝ, k i = ((r : ℝ) : EReal) := by
  have hH : (i 2).val < 64 := (i 2).isLt
  obtain ⟨r, hr⟩ := hk ⟨(i 2).val / 8, by show (i 2).val / 8 < 8; omega⟩ (ix4 (i 0) (i 1) ⟨(i 2).val % 8, by omega⟩ (i 3))
  refine ⟨r, Eq.trans (congrArg k (funext fun a => ?_)) ((h.k_at _ _ _ _ _).symm.trans hr)⟩
  match a with
  | ⟨0, _⟩ => rfl
  | ⟨1, _⟩ => rfl
  | ⟨2, _⟩ => exact Fin.ext (by show (i 2).val = 8 * ((i 2).val / 8) + (i 2).val % 8; omega)
  | ⟨3, _⟩ => rfl

variable (hx : ∀ i, ∃ r : ℝ, x i = ((r : ℝ) : EReal)) (hw : ∀ i, ∃ r : ℝ, wq i = ((r : ℝ) : EReal)) (hk : ∀ i, ∃ r : ℝ, k i = ((r : ℝ) : EReal))

include hx hw hk

/-- The kernel scales the query weights, the reference the scores: over reals it is the same. -/
theorem Split.score_eq (c : Dev nD) (b : Fin 4) (g : Fin 8) (i : Fin 256) (s : Fin 1024) :
    KernelIdeal.Hand.score m c b g i s = ReferenceIdeal.Hand.score x wq k b (head c g) i s := by
  choose X hX using hx
  choose W hW using hw
  choose K hK using hk
  obtain ⟨κ, hκ⟩ := ReferenceIdeal.Hand.κ_real
  unfold KernelIdeal.Hand.score ReferenceIdeal.Hand.score
  simp only [h.x_at, h.w_at, h.k_at, feature_col]
  rw [show KernelIdeal.Hand.κ = ((κ : ℝ) : EReal) from hκ, hκ]
  simp only [hX, hW, hK]
  exact Softmax.scores_scaled (fun l => X (ix3 b i l)) (fun l e => W (ix2 l (ReferenceIdeal.Hand.col (head c g) e))) (fun e => K (ix4 b s (head c g) e)) κ

theorem Split.batches_eq (c : Dev nD) (b : Fin 4) (i : Fin 256) (g : Fin 8) (e : Fin 128) :
    KernelIdeal.Hand.batches m c (ix3 b i (KernelIdeal.Hand.col g e))
      = ReferenceIdeal.Hand.heads (ReferenceIdeal.Hand.scores (ReferenceIdeal.Hand.queries x wq) k) v (ix4 b i (head c g) e) := by
  rw [KernelIdeal.Hand.batches_apply, ReferenceIdeal.Hand.heads_eq v hx hw hk]
  simp only [h.score_eq hx hw hk, h.v_at]

theorem Split.sum_eq (b : Fin 4) (i : Fin 256) (d : Fin 1024) :
    (∑ c : Fin 8, ∑ j : Fin 1024, (KernelIdeal.Hand.batches m c (ix3 b i j) : EReal) * argO m c (ix2 j d) : EReal)
      = ∑ H : Fin 64, ∑ e : Fin 128, (ReferenceIdeal.Hand.heads (ReferenceIdeal.Hand.scores (ReferenceIdeal.Hand.queries x wq) k) v (ix4 b i H e) : EReal)
          * wo (ix2 (ReferenceIdeal.Hand.col H e) d) := by
  rw [Softmax.sum_blocks 8 8 64 rfl]
  refine Finset.sum_congr rfl fun c _ => ?_
  rw [Softmax.sum_blocks 8 128 1024 rfl]
  refine Finset.sum_congr rfl fun g _ => Finset.sum_congr rfl fun e _ => ?_
  exact congrArg₂ (fun p q : EReal => p * q) (h.batches_eq hx hw hk c b i g e)
    ((h.o_at c (KernelIdeal.Hand.col g e) d).trans (congrArg (fun q => wo (ix2 q d)) (feature_col c g e)))

theorem Split.result_eq (c : Dev nD) :
    (KernelIdeal.Gen.V5 m (KernelIdeal.Hand.outs m) c (KernelIdeal.main_v12 : DevRef τ sig) : FVec Ideal S4x256x1024 .f32)
      = ReferenceIdeal.Hand.result x wq k v wo :=
  funext fun (y : S4x256x1024.Idx) => by
    have hy : ix3 (y 0) (y 1) (y 2) = y := (ValueIdx.eq_ix3 y).symm
    rw [← hy]
    exact (KernelIdeal.Hand.result_apply m c (y 0) (y 1) (y 2)).trans
      ((h.sum_eq hx hw hk (y 0) (y 1) (y 2)).trans (ReferenceIdeal.Hand.result_apply x wq k v wo (y 0) (y 1) (y 2)).symm)

end Whole

/-! ## The claim -/

theorem equal : Cert.algebraic_KernelIdeal_ReferenceIdeal_pre_finite_inputs_KernelIdeal (hKernelIdeal := Cert.KernelIdeal.Gen.facts)
    (hReferenceIdeal := Cert.ReferenceIdeal.Gen.facts) (hPre_finite_inputs_KernelIdeal := Finite.facts_kernel) := by
  intro m g m' g' hpre hm
  have hs : Split m _ _ _ _ _ :=
    ⟨fun c => (hm c).1, fun c l j => (congrFun (hm c).2.1 (ix2 l j)).trans (block_cols _ c l j),
     fun c b s h e => (congrFun (hm c).2.2.1 (ix4 b s h e)).trans (block_heads _ c b s h e),
     fun c b s h e => (congrFun (hm c).2.2.2.1 (ix4 b s h e)).trans (block_heads _ c b s h e),
     fun c j d => (congrFun (hm c).2.2.2.2 (ix2 j d)).trans (block_rows _ c j d)⟩
  have hr := fun c => Finite.inputs_real hpre c
  have hx := fun i => let ⟨r, e⟩ := (hr 0).1 i; (⟨r, (congrFun (hs.x_at 0) i).symm.trans e⟩ : ∃ r : ℝ, _ = ((r : ℝ) : EReal))
  have hw := hs.wq_real fun c => (hr c).2.1
  have hk := hs.k_real fun c => (hr c).2.2
  refine ⟨_, (θ_run _ _ _).mono (fun r h c => ⟨(h.1 c).1.trans (hs.result_eq hx hw hk c), (h.1 c).2⟩) (ideal_run m g),
    (θ_run _ _ _).mono (fun r h => h.1 0) (Cert.ReferenceIdeal.Hand.run_main m' g')⟩

end Cert.Proof

end
-- ==== Proof.lean ====
/-
  The proof of the certificate's claims.
-/
module

public import proofs.«01_k».proof.Defs
public import proofs.«01_k».proof.Proof.Equal

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Finite.facts_kernel, Cert.Finite.facts_reference,
  device_frame, ideal_frame, fun m g _ => ideal_frame m g trivial, reference_frame, fun m g _ => reference_frame m g trivial,
  trivial, equal⟩

end Cert.Proof

end
